-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_degrees [hPre_degrees : Cert.Pre_degrees.Facts] (m : (ℓ : Loc Cert.KernelIdeal.nD Cert.KernelIdeal.τ Cert.KernelIdeal.sig) → Buf (Elt Ideal) ℓ) : Prop :=
  ∀ c : Dev Cert.KernelIdeal.nD,
    (Cert.Pre_degrees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_degrees [hPre_degrees : Cert.Pre_degrees.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_degrees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Image (m : (ℓ : Loc Cert.Image.nD Cert.Image.τ Cert.Image.sig) → Buf (Elt Bits) ℓ) : Prop :=
  True

def Pre_ImageIdeal (m : (ℓ : Loc Cert.ImageIdeal.nD Cert.ImageIdeal.τ Cert.ImageIdeal.sig) → Buf (Elt Ideal) ℓ) : Prop :=
  True

def Pre_ImageReferenceIdeal (m : (ℓ : Loc Cert.ImageReferenceIdeal.nD Cert.ImageReferenceIdeal.τ Cert.ImageReferenceIdeal.sig) → Buf (Elt Ideal) ℓ) : Prop :=
  True

def Pre_Text (m : (ℓ : Loc Cert.Text.nD Cert.Text.τ Cert.Text.sig) → Buf (Elt Bits) ℓ) : Prop :=
  True

def Pre_TextIdeal (m : (ℓ : Loc Cert.TextIdeal.nD Cert.TextIdeal.τ Cert.TextIdeal.sig) → Buf (Elt Ideal) ℓ) : Prop :=
  True

def Pre_TextReferenceIdeal (m : (ℓ : Loc Cert.TextReferenceIdeal.nD Cert.TextReferenceIdeal.τ Cert.TextReferenceIdeal.sig) → Buf (Elt Ideal) ℓ) : Prop :=
  True

def Pre_Lists (m : (ℓ : Loc Cert.Lists.nD Cert.Lists.τ Cert.Lists.sig) → Buf (Elt Bits) ℓ) : Prop :=
  True

def Pre_ListsIdeal (m : (ℓ : Loc Cert.ListsIdeal.nD Cert.ListsIdeal.τ Cert.ListsIdeal.sig) → Buf (Elt Ideal) ℓ) : Prop :=
  True

def Pre_ListsIdeal_similarities [hPre_similarities : Cert.Pre_similarities.Facts] (m : (ℓ : Loc Cert.ListsIdeal.nD Cert.ListsIdeal.τ Cert.ListsIdeal.sig) → Buf (Elt Ideal) ℓ) : Prop :=
  ∀ c : Dev Cert.ListsIdeal.nD,
    (Cert.Pre_similarities.fn (F := Ideal) (m ((c.tc : Thread Cert.ListsIdeal.nD Cert.ListsIdeal.τ).loc Cert.ListsIdeal.main_arg0))) = (fun _ => 1#1)

def Pre_ListsReferenceIdeal (m : (ℓ : Loc Cert.ListsReferenceIdeal.nD Cert.ListsReferenceIdeal.τ Cert.ListsReferenceIdeal.sig) → Buf (Elt Ideal) ℓ) : Prop :=
  True

def Pre_ListsReferenceIdeal_similarities [hPre_similarities : Cert.Pre_similarities.Facts] (m : (ℓ : Loc Cert.ListsReferenceIdeal.nD Cert.ListsReferenceIdeal.τ Cert.ListsReferenceIdeal.sig) → Buf (Elt Ideal) ℓ) : Prop :=
  ∀ c : Dev Cert.ListsReferenceIdeal.nD,
    (Cert.Pre_similarities.fn (F := Ideal) (m ((c.tc : Thread Cert.ListsReferenceIdeal.nD Cert.ListsReferenceIdeal.τ).loc Cert.ListsReferenceIdeal.main_arg0))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_degrees [hKernelIdeal : Cert.KernelIdeal.Facts] [hPre_degrees : Cert.Pre_degrees.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_degrees m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_degrees [hReferenceIdeal : Cert.ReferenceIdeal.Facts] [hPre_degrees : Cert.Pre_degrees.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_degrees m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Image [hImage : Cert.Image.Facts] : Prop :=
  ∀ (m : (ℓ : Loc Cert.Image.nD Cert.Image.τ Cert.Image.sig) → Buf (Elt Bits) ℓ) (g : Dev Cert.Image.nD → PrngReg), Pre_Image m →
    θ_run (Cert.Image.defs (F := Bits)) (onTc (τ := Cert.Image.τ) (Cert.Image.main (F := Bits))) ⟨m, fun _ => 0, g⟩ (fun r => (∀ c : Dev Cert.Image.nD,
      r.2.mem ((c.tc : Thread Cert.Image.nD Cert.Image.τ).loc Cert.Image.main_arg0) = m ((c.tc : Thread Cert.Image.nD Cert.Image.τ).loc Cert.Image.main_arg0)
      ∧ r.2.mem ((c.tc : Thread Cert.Image.nD Cert.Image.τ).loc Cert.Image.main_arg1) = m ((c.tc : Thread Cert.Image.nD Cert.Image.τ).loc Cert.Image.main_arg1)
      ∧ r.2.mem ((c.tc : Thread Cert.Image.nD Cert.Image.τ).loc Cert.Image.main_arg2) = m ((c.tc : Thread Cert.Image.nD Cert.Image.τ).loc Cert.Image.main_arg2))
      ∧ r.2.sem = fun _ => 0)

def quiescent_ImageIdeal [hImageIdeal : Cert.ImageIdeal.Facts] : Prop :=
  ∀ (m : (ℓ : Loc Cert.ImageIdeal.nD Cert.ImageIdeal.τ Cert.ImageIdeal.sig) → Buf (Elt Ideal) ℓ) (g : Dev Cert.ImageIdeal.nD → PrngReg), Pre_ImageIdeal m →
    θ_run (Cert.ImageIdeal.defs (F := Ideal)) (onTc (τ := Cert.ImageIdeal.τ) (Cert.ImageIdeal.main (F := Ideal))) ⟨m, fun _ => 0, g⟩ (fun r => (∀ c : Dev Cert.ImageIdeal.nD,
      r.2.mem ((c.tc : Thread Cert.ImageIdeal.nD Cert.ImageIdeal.τ).loc Cert.ImageIdeal.main_arg0) = m ((c.tc : Thread Cert.ImageIdeal.nD Cert.ImageIdeal.τ).loc Cert.ImageIdeal.main_arg0)
      ∧ r.2.mem ((c.tc : Thread Cert.ImageIdeal.nD Cert.ImageIdeal.τ).loc Cert.ImageIdeal.main_arg1) = m ((c.tc : Thread Cert.ImageIdeal.nD Cert.ImageIdeal.τ).loc Cert.ImageIdeal.main_arg1)
      ∧ r.2.mem ((c.tc : Thread Cert.ImageIdeal.nD Cert.ImageIdeal.τ).loc Cert.ImageIdeal.main_arg2) = m ((c.tc : Thread Cert.ImageIdeal.nD Cert.ImageIdeal.τ).loc Cert.ImageIdeal.main_arg2))
      ∧ r.2.sem = fun _ => 0)

def quiescent_ImageReferenceIdeal [hImageReferenceIdeal : Cert.ImageReferenceIdeal.Facts] : Prop :=
  ∀ (m : (ℓ : Loc Cert.ImageReferenceIdeal.nD Cert.ImageReferenceIdeal.τ Cert.ImageReferenceIdeal.sig) → Buf (Elt Ideal) ℓ) (g : Dev Cert.ImageReferenceIdeal.nD → PrngReg), Pre_ImageReferenceIdeal m →
    θ_run (Cert.ImageReferenceIdeal.defs (F := Ideal)) (onTc (τ := Cert.ImageReferenceIdeal.τ) (Cert.ImageReferenceIdeal.main (F := Ideal))) ⟨m, fun _ => 0, g⟩ (fun r => (∀ c : Dev Cert.ImageReferenceIdeal.nD,
      r.2.mem ((c.tc : Thread Cert.ImageReferenceIdeal.nD Cert.ImageReferenceIdeal.τ).loc Cert.ImageReferenceIdeal.main_arg0) = m ((c.tc : Thread Cert.ImageReferenceIdeal.nD Cert.ImageReferenceIdeal.τ).loc Cert.ImageReferenceIdeal.main_arg0)
      ∧ r.2.mem ((c.tc : Thread Cert.ImageReferenceIdeal.nD Cert.ImageReferenceIdeal.τ).loc Cert.ImageReferenceIdeal.main_arg1) = m ((c.tc : Thread Cert.ImageReferenceIdeal.nD Cert.ImageReferenceIdeal.τ).loc Cert.ImageReferenceIdeal.main_arg1)
      ∧ r.2.mem ((c.tc : Thread Cert.ImageReferenceIdeal.nD Cert.ImageReferenceIdeal.τ).loc Cert.ImageReferenceIdeal.main_arg2) = m ((c.tc : Thread Cert.ImageReferenceIdeal.nD Cert.ImageReferenceIdeal.τ).loc Cert.ImageReferenceIdeal.main_arg2))
      ∧ r.2.sem = fun _ => 0)

def quiescent_Text [hText : Cert.Text.Facts] : Prop :=
  ∀ (m : (ℓ : Loc Cert.Text.nD Cert.Text.τ Cert.Text.sig) → Buf (Elt Bits) ℓ) (g : Dev Cert.Text.nD → PrngReg), Pre_Text m →
    θ_run (Cert.Text.defs (F := Bits)) (onTc (τ := Cert.Text.τ) (Cert.Text.main (F := Bits))) ⟨m, fun _ => 0, g⟩ (fun r => (∀ c : Dev Cert.Text.nD,
      r.2.mem ((c.tc : Thread Cert.Text.nD Cert.Text.τ).loc Cert.Text.main_arg0) = m ((c.tc : Thread Cert.Text.nD Cert.Text.τ).loc Cert.Text.main_arg0)
      ∧ r.2.mem ((c.tc : Thread Cert.Text.nD Cert.Text.τ).loc Cert.Text.main_arg1) = m ((c.tc : Thread Cert.Text.nD Cert.Text.τ).loc Cert.Text.main_arg1)
      ∧ r.2.mem ((c.tc : Thread Cert.Text.nD Cert.Text.τ).loc Cert.Text.main_arg2) = m ((c.tc : Thread Cert.Text.nD Cert.Text.τ).loc Cert.Text.main_arg2))
      ∧ r.2.sem = fun _ => 0)

def quiescent_TextIdeal [hTextIdeal : Cert.TextIdeal.Facts] : Prop :=
  ∀ (m : (ℓ : Loc Cert.TextIdeal.nD Cert.TextIdeal.τ Cert.TextIdeal.sig) → Buf (Elt Ideal) ℓ) (g : Dev Cert.TextIdeal.nD → PrngReg), Pre_TextIdeal m →
    θ_run (Cert.TextIdeal.defs (F := Ideal)) (onTc (τ := Cert.TextIdeal.τ) (Cert.TextIdeal.main (F := Ideal))) ⟨m, fun _ => 0, g⟩ (fun r => (∀ c : Dev Cert.TextIdeal.nD,
      r.2.mem ((c.tc : Thread Cert.TextIdeal.nD Cert.TextIdeal.τ).loc Cert.TextIdeal.main_arg0) = m ((c.tc : Thread Cert.TextIdeal.nD Cert.TextIdeal.τ).loc Cert.TextIdeal.main_arg0)
      ∧ r.2.mem ((c.tc : Thread Cert.TextIdeal.nD Cert.TextIdeal.τ).loc Cert.TextIdeal.main_arg1) = m ((c.tc : Thread Cert.TextIdeal.nD Cert.TextIdeal.τ).loc Cert.TextIdeal.main_arg1)
      ∧ r.2.mem ((c.tc : Thread Cert.TextIdeal.nD Cert.TextIdeal.τ).loc Cert.TextIdeal.main_arg2) = m ((c.tc : Thread Cert.TextIdeal.nD Cert.TextIdeal.τ).loc Cert.TextIdeal.main_arg2))
      ∧ r.2.sem = fun _ => 0)

def quiescent_TextReferenceIdeal [hTextReferenceIdeal : Cert.TextReferenceIdeal.Facts] : Prop :=
  ∀ (m : (ℓ : Loc Cert.TextReferenceIdeal.nD Cert.TextReferenceIdeal.τ Cert.TextReferenceIdeal.sig) → Buf (Elt Ideal) ℓ) (g : Dev Cert.TextReferenceIdeal.nD → PrngReg), Pre_TextReferenceIdeal m →
    θ_run (Cert.TextReferenceIdeal.defs (F := Ideal)) (onTc (τ := Cert.TextReferenceIdeal.τ) (Cert.TextReferenceIdeal.main (F := Ideal))) ⟨m, fun _ => 0, g⟩ (fun r => (∀ c : Dev Cert.TextReferenceIdeal.nD,
      r.2.mem ((c.tc : Thread Cert.TextReferenceIdeal.nD Cert.TextReferenceIdeal.τ).loc Cert.TextReferenceIdeal.main_arg0) = m ((c.tc : Thread Cert.TextReferenceIdeal.nD Cert.TextReferenceIdeal.τ).loc Cert.TextReferenceIdeal.main_arg0)
      ∧ r.2.mem ((c.tc : Thread Cert.TextReferenceIdeal.nD Cert.TextReferenceIdeal.τ).loc Cert.TextReferenceIdeal.main_arg1) = m ((c.tc : Thread Cert.TextReferenceIdeal.nD Cert.TextReferenceIdeal.τ).loc Cert.TextReferenceIdeal.main_arg1)
      ∧ r.2.mem ((c.tc : Thread Cert.TextReferenceIdeal.nD Cert.TextReferenceIdeal.τ).loc Cert.TextReferenceIdeal.main_arg2) = m ((c.tc : Thread Cert.TextReferenceIdeal.nD Cert.TextReferenceIdeal.τ).loc Cert.TextReferenceIdeal.main_arg2))
      ∧ r.2.sem = fun _ => 0)

def quiescent_Lists [hLists : Cert.Lists.Facts] : Prop :=
  ∀ (m : (ℓ : Loc Cert.Lists.nD Cert.Lists.τ Cert.Lists.sig) → Buf (Elt Bits) ℓ) (g : Dev Cert.Lists.nD → PrngReg), Pre_Lists m →
    θ_run (Cert.Lists.defs (F := Bits)) (onTc (τ := Cert.Lists.τ) (Cert.Lists.main (F := Bits))) ⟨m, fun _ => 0, g⟩ (fun r => (∀ c : Dev Cert.Lists.nD,
      r.2.mem ((c.tc : Thread Cert.Lists.nD Cert.Lists.τ).loc Cert.Lists.main_arg0) = m ((c.tc : Thread Cert.Lists.nD Cert.Lists.τ).loc Cert.Lists.main_arg0))
      ∧ r.2.sem = fun _ => 0)

def quiescent_ListsIdeal [hListsIdeal : Cert.ListsIdeal.Facts] : Prop :=
  ∀ (m : (ℓ : Loc Cert.ListsIdeal.nD Cert.ListsIdeal.τ Cert.ListsIdeal.sig) → Buf (Elt Ideal) ℓ) (g : Dev Cert.ListsIdeal.nD → PrngReg), Pre_ListsIdeal m →
    θ_run (Cert.ListsIdeal.defs (F := Ideal)) (onTc (τ := Cert.ListsIdeal.τ) (Cert.ListsIdeal.main (F := Ideal))) ⟨m, fun _ => 0, g⟩ (fun r => (∀ c : Dev Cert.ListsIdeal.nD,
      r.2.mem ((c.tc : Thread Cert.ListsIdeal.nD Cert.ListsIdeal.τ).loc Cert.ListsIdeal.main_arg0) = m ((c.tc : Thread Cert.ListsIdeal.nD Cert.ListsIdeal.τ).loc Cert.ListsIdeal.main_arg0))
      ∧ r.2.sem = fun _ => 0)

def quiescent_ListsIdeal_pre_similarities [hListsIdeal : Cert.ListsIdeal.Facts] [hPre_similarities : Cert.Pre_similarities.Facts] : Prop :=
  ∀ (m : (ℓ : Loc Cert.ListsIdeal.nD Cert.ListsIdeal.τ Cert.ListsIdeal.sig) → Buf (Elt Ideal) ℓ) (g : Dev Cert.ListsIdeal.nD → PrngReg), Pre_ListsIdeal_similarities m →
    θ_run (Cert.ListsIdeal.defs (F := Ideal)) (onTc (τ := Cert.ListsIdeal.τ) (Cert.ListsIdeal.main (F := Ideal))) ⟨m, fun _ => 0, g⟩ (fun r => (∀ c : Dev Cert.ListsIdeal.nD,
      r.2.mem ((c.tc : Thread Cert.ListsIdeal.nD Cert.ListsIdeal.τ).loc Cert.ListsIdeal.main_arg0) = m ((c.tc : Thread Cert.ListsIdeal.nD Cert.ListsIdeal.τ).loc Cert.ListsIdeal.main_arg0))
      ∧ r.2.sem = fun _ => 0)

def quiescent_ListsReferenceIdeal [hListsReferenceIdeal : Cert.ListsReferenceIdeal.Facts] : Prop :=
  ∀ (m : (ℓ : Loc Cert.ListsReferenceIdeal.nD Cert.ListsReferenceIdeal.τ Cert.ListsReferenceIdeal.sig) → Buf (Elt Ideal) ℓ) (g : Dev Cert.ListsReferenceIdeal.nD → PrngReg), Pre_ListsReferenceIdeal m →
    θ_run (Cert.ListsReferenceIdeal.defs (F := Ideal)) (onTc (τ := Cert.ListsReferenceIdeal.τ) (Cert.ListsReferenceIdeal.main (F := Ideal))) ⟨m, fun _ => 0, g⟩ (fun r => (∀ c : Dev Cert.ListsReferenceIdeal.nD,
      r.2.mem ((c.tc : Thread Cert.ListsReferenceIdeal.nD Cert.ListsReferenceIdeal.τ).loc Cert.ListsReferenceIdeal.main_arg0) = m ((c.tc : Thread Cert.ListsReferenceIdeal.nD Cert.ListsReferenceIdeal.τ).loc Cert.ListsReferenceIdeal.main_arg0))
      ∧ r.2.sem = fun _ => 0)

def quiescent_ListsReferenceIdeal_pre_similarities [hListsReferenceIdeal : Cert.ListsReferenceIdeal.Facts] [hPre_similarities : Cert.Pre_similarities.Facts] : Prop :=
  ∀ (m : (ℓ : Loc Cert.ListsReferenceIdeal.nD Cert.ListsReferenceIdeal.τ Cert.ListsReferenceIdeal.sig) → Buf (Elt Ideal) ℓ) (g : Dev Cert.ListsReferenceIdeal.nD → PrngReg), Pre_ListsReferenceIdeal_similarities m →
    θ_run (Cert.ListsReferenceIdeal.defs (F := Ideal)) (onTc (τ := Cert.ListsReferenceIdeal.τ) (Cert.ListsReferenceIdeal.main (F := Ideal))) ⟨m, fun _ => 0, g⟩ (fun r => (∀ c : Dev Cert.ListsReferenceIdeal.nD,
      r.2.mem ((c.tc : Thread Cert.ListsReferenceIdeal.nD Cert.ListsReferenceIdeal.τ).loc Cert.ListsReferenceIdeal.main_arg0) = m ((c.tc : Thread Cert.ListsReferenceIdeal.nD Cert.ListsReferenceIdeal.τ).loc Cert.ListsReferenceIdeal.main_arg0))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal_pre_degrees [hKernelIdeal : Cert.KernelIdeal.Facts] [hReferenceIdeal : Cert.ReferenceIdeal.Facts] [hPre_degrees : Cert.Pre_degrees.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_degrees m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Image_ImageIdeal : Prop :=
  True

def algebraic_ImageIdeal_ImageReferenceIdeal [hImageIdeal : Cert.ImageIdeal.Facts] [hImageReferenceIdeal : Cert.ImageReferenceIdeal.Facts] : Prop :=
  ∀ (m : (ℓ : Loc Cert.ImageIdeal.nD Cert.ImageIdeal.τ Cert.ImageIdeal.sig) → Buf (Elt Ideal) ℓ) (g : Dev Cert.ImageIdeal.nD → PrngReg)
    (m' : (ℓ : Loc Cert.ImageReferenceIdeal.nD Cert.ImageReferenceIdeal.τ Cert.ImageReferenceIdeal.sig) → Buf (Elt Ideal) ℓ) (g' : Dev Cert.ImageReferenceIdeal.nD → PrngReg), Pre_ImageIdeal m →
    (∀ c : Dev Cert.ImageIdeal.nD,
      m' ((c.tc : Thread Cert.ImageReferenceIdeal.nD Cert.ImageReferenceIdeal.τ).loc Cert.ImageReferenceIdeal.main_arg0) = m ((c.tc : Thread Cert.ImageIdeal.nD Cert.ImageIdeal.τ).loc Cert.ImageIdeal.main_arg0)
      ∧ m' ((c.tc : Thread Cert.ImageReferenceIdeal.nD Cert.ImageReferenceIdeal.τ).loc Cert.ImageReferenceIdeal.main_arg1) = m ((c.tc : Thread Cert.ImageIdeal.nD Cert.ImageIdeal.τ).loc Cert.ImageIdeal.main_arg1)
      ∧ m' ((c.tc : Thread Cert.ImageReferenceIdeal.nD Cert.ImageReferenceIdeal.τ).loc Cert.ImageReferenceIdeal.main_arg2) = m ((c.tc : Thread Cert.ImageIdeal.nD Cert.ImageIdeal.τ).loc Cert.ImageIdeal.main_arg2)) →
    ∃ (v0 : (c : Dev Cert.ImageIdeal.nD) → Buf (Elt Ideal) ((c.tc : Thread Cert.ImageIdeal.nD Cert.ImageIdeal.τ).loc Cert.ImageIdeal.main_v1)),
      θ_run (Cert.ImageIdeal.defs (F := Ideal)) (onTc (τ := Cert.ImageIdeal.τ) (Cert.ImageIdeal.main (F := Ideal))) ⟨m, fun _ => 0, g⟩ (fun r => ∀ c : Dev Cert.ImageIdeal.nD,
          r.2.mem ((c.tc : Thread Cert.ImageIdeal.nD Cert.ImageIdeal.τ).loc Cert.ImageIdeal.main_v1) = v0 c
          ∧ r.2.mem ((c.tc : Thread Cert.ImageIdeal.nD Cert.ImageIdeal.τ).loc Cert.ImageIdeal.main_arg0) = m ((c.tc : Thread Cert.ImageIdeal.nD Cert.ImageIdeal.τ).loc Cert.ImageIdeal.main_arg0)
          ∧ r.2.mem ((c.tc : Thread Cert.ImageIdeal.nD Cert.ImageIdeal.τ).loc Cert.ImageIdeal.main_arg1) = m ((c.tc : Thread Cert.ImageIdeal.nD Cert.ImageIdeal.τ).loc Cert.ImageIdeal.main_arg1)
          ∧ r.2.mem ((c.tc : Thread Cert.ImageIdeal.nD Cert.ImageIdeal.τ).loc Cert.ImageIdeal.main_arg2) = m ((c.tc : Thread Cert.ImageIdeal.nD Cert.ImageIdeal.τ).loc Cert.ImageIdeal.main_arg2))
      ∧ θ_run (Cert.ImageReferenceIdeal.defs (F := Ideal)) (onTc (τ := Cert.ImageReferenceIdeal.τ) (Cert.ImageReferenceIdeal.main (F := Ideal))) ⟨m', fun _ => 0, g'⟩ (fun r => ∀ c : Dev Cert.ImageReferenceIdeal.nD,
          r.2.mem ((c.tc : Thread Cert.ImageReferenceIdeal.nD Cert.ImageReferenceIdeal.τ).loc Cert.ImageReferenceIdeal.main_v6) = v0 c
          ∧ r.2.mem ((c.tc : Thread Cert.ImageReferenceIdeal.nD Cert.ImageReferenceIdeal.τ).loc Cert.ImageReferenceIdeal.main_arg0) = m' ((c.tc : Thread Cert.ImageReferenceIdeal.nD Cert.ImageReferenceIdeal.τ).loc Cert.ImageReferenceIdeal.main_arg0)
          ∧ r.2.mem ((c.tc : Thread Cert.ImageReferenceIdeal.nD Cert.ImageReferenceIdeal.τ).loc Cert.ImageReferenceIdeal.main_arg1) = m' ((c.tc : Thread Cert.ImageReferenceIdeal.nD Cert.ImageReferenceIdeal.τ).loc Cert.ImageReferenceIdeal.main_arg1)
          ∧ r.2.mem ((c.tc : Thread Cert.ImageReferenceIdeal.nD Cert.ImageReferenceIdeal.τ).loc Cert.ImageReferenceIdeal.main_arg2) = m' ((c.tc : Thread Cert.ImageReferenceIdeal.nD Cert.ImageReferenceIdeal.τ).loc Cert.ImageReferenceIdeal.main_arg2))

def preserves_Text_TextIdeal : Prop :=
  True

def algebraic_TextIdeal_TextReferenceIdeal [hTextIdeal : Cert.TextIdeal.Facts] [hTextReferenceIdeal : Cert.TextReferenceIdeal.Facts] : Prop :=
  ∀ (m : (ℓ : Loc Cert.TextIdeal.nD Cert.TextIdeal.τ Cert.TextIdeal.sig) → Buf (Elt Ideal) ℓ) (g : Dev Cert.TextIdeal.nD → PrngReg)
    (m' : (ℓ : Loc Cert.TextReferenceIdeal.nD Cert.TextReferenceIdeal.τ Cert.TextReferenceIdeal.sig) → Buf (Elt Ideal) ℓ) (g' : Dev Cert.TextReferenceIdeal.nD → PrngReg), Pre_TextIdeal m →
    (∀ c : Dev Cert.TextIdeal.nD,
      m' ((c.tc : Thread Cert.TextReferenceIdeal.nD Cert.TextReferenceIdeal.τ).loc Cert.TextReferenceIdeal.main_arg0) = m ((c.tc : Thread Cert.TextIdeal.nD Cert.TextIdeal.τ).loc Cert.TextIdeal.main_arg0)
      ∧ m' ((c.tc : Thread Cert.TextReferenceIdeal.nD Cert.TextReferenceIdeal.τ).loc Cert.TextReferenceIdeal.main_arg1) = m ((c.tc : Thread Cert.TextIdeal.nD Cert.TextIdeal.τ).loc Cert.TextIdeal.main_arg1)
      ∧ m' ((c.tc : Thread Cert.TextReferenceIdeal.nD Cert.TextReferenceIdeal.τ).loc Cert.TextReferenceIdeal.main_arg2) = m ((c.tc : Thread Cert.TextIdeal.nD Cert.TextIdeal.τ).loc Cert.TextIdeal.main_arg2)) →
    ∃ (v0 : (c : Dev Cert.TextIdeal.nD) → Buf (Elt Ideal) ((c.tc : Thread Cert.TextIdeal.nD Cert.TextIdeal.τ).loc Cert.TextIdeal.main_v1)),
      θ_run (Cert.TextIdeal.defs (F := Ideal)) (onTc (τ := Cert.TextIdeal.τ) (Cert.TextIdeal.main (F := Ideal))) ⟨m, fun _ => 0, g⟩ (fun r => ∀ c : Dev Cert.TextIdeal.nD,
          r.2.mem ((c.tc : Thread Cert.TextIdeal.nD Cert.TextIdeal.τ).loc Cert.TextIdeal.main_v1) = v0 c
          ∧ r.2.mem ((c.tc : Thread Cert.TextIdeal.nD Cert.TextIdeal.τ).loc Cert.TextIdeal.main_arg0) = m ((c.tc : Thread Cert.TextIdeal.nD Cert.TextIdeal.τ).loc Cert.TextIdeal.main_arg0)
          ∧ r.2.mem ((c.tc : Thread Cert.TextIdeal.nD Cert.TextIdeal.τ).loc Cert.TextIdeal.main_arg1) = m ((c.tc : Thread Cert.TextIdeal.nD Cert.TextIdeal.τ).loc Cert.TextIdeal.main_arg1)
          ∧ r.2.mem ((c.tc : Thread Cert.TextIdeal.nD Cert.TextIdeal.τ).loc Cert.TextIdeal.main_arg2) = m ((c.tc : Thread Cert.TextIdeal.nD Cert.TextIdeal.τ).loc Cert.TextIdeal.main_arg2))
      ∧ θ_run (Cert.TextReferenceIdeal.defs (F := Ideal)) (onTc (τ := Cert.TextReferenceIdeal.τ) (Cert.TextReferenceIdeal.main (F := Ideal))) ⟨m', fun _ => 0, g'⟩ (fun r => ∀ c : Dev Cert.TextReferenceIdeal.nD,
          r.2.mem ((c.tc : Thread Cert.TextReferenceIdeal.nD Cert.TextReferenceIdeal.τ).loc Cert.TextReferenceIdeal.main_v6) = v0 c
          ∧ r.2.mem ((c.tc : Thread Cert.TextReferenceIdeal.nD Cert.TextReferenceIdeal.τ).loc Cert.TextReferenceIdeal.main_arg0) = m' ((c.tc : Thread Cert.TextReferenceIdeal.nD Cert.TextReferenceIdeal.τ).loc Cert.TextReferenceIdeal.main_arg0)
          ∧ r.2.mem ((c.tc : Thread Cert.TextReferenceIdeal.nD Cert.TextReferenceIdeal.τ).loc Cert.TextReferenceIdeal.main_arg1) = m' ((c.tc : Thread Cert.TextReferenceIdeal.nD Cert.TextReferenceIdeal.τ).loc Cert.TextReferenceIdeal.main_arg1)
          ∧ r.2.mem ((c.tc : Thread Cert.TextReferenceIdeal.nD Cert.TextReferenceIdeal.τ).loc Cert.TextReferenceIdeal.main_arg2) = m' ((c.tc : Thread Cert.TextReferenceIdeal.nD Cert.TextReferenceIdeal.τ).loc Cert.TextReferenceIdeal.main_arg2))

def preserves_Lists_ListsIdeal : Prop :=
  True

def algebraic_ListsIdeal_ListsReferenceIdeal_pre_similarities [hListsIdeal : Cert.ListsIdeal.Facts] [hListsReferenceIdeal : Cert.ListsReferenceIdeal.Facts] [hPre_similarities : Cert.Pre_similarities.Facts] : Prop :=
  ∀ (m : (ℓ : Loc Cert.ListsIdeal.nD Cert.ListsIdeal.τ Cert.ListsIdeal.sig) → Buf (Elt Ideal) ℓ) (g : Dev Cert.ListsIdeal.nD → PrngReg)
    (m' : (ℓ : Loc Cert.ListsReferenceIdeal.nD Cert.ListsReferenceIdeal.τ Cert.ListsReferenceIdeal.sig) → Buf (Elt Ideal) ℓ) (g' : Dev Cert.ListsReferenceIdeal.nD → PrngReg), Pre_ListsIdeal_similarities m →
    (∀ c : Dev Cert.ListsIdeal.nD,
      m' ((c.tc : Thread Cert.ListsReferenceIdeal.nD Cert.ListsReferenceIdeal.τ).loc Cert.ListsReferenceIdeal.main_arg0) = m ((c.tc : Thread Cert.ListsIdeal.nD Cert.ListsIdeal.τ).loc Cert.ListsIdeal.main_arg0)) →
    ∃ (v0 : (c : Dev Cert.ListsIdeal.nD) → Buf (Elt Ideal) ((c.tc : Thread Cert.ListsIdeal.nD Cert.ListsIdeal.τ).loc Cert.ListsIdeal.main_v0_0)) (v1 : (c : Dev Cert.ListsIdeal.nD) → Buf (Elt Ideal) ((c.tc : Thread Cert.ListsIdeal.nD Cert.ListsIdeal.τ).loc Cert.ListsIdeal.main_v0_1)),
      θ_run (Cert.ListsIdeal.defs (F := Ideal)) (onTc (τ := Cert.ListsIdeal.τ) (Cert.ListsIdeal.main (F := Ideal))) ⟨m, fun _ => 0, g⟩ (fun r => ∀ c : Dev Cert.ListsIdeal.nD,
          r.2.mem ((c.tc : Thread Cert.ListsIdeal.nD Cert.ListsIdeal.τ).loc Cert.ListsIdeal.main_v0_0) = v0 c
          ∧ r.2.mem ((c.tc : Thread Cert.ListsIdeal.nD Cert.ListsIdeal.τ).loc Cert.ListsIdeal.main_v0_1) = v1 c
          ∧ r.2.mem ((c.tc : Thread Cert.ListsIdeal.nD Cert.ListsIdeal.τ).loc Cert.ListsIdeal.main_arg0) = m ((c.tc : Thread Cert.ListsIdeal.nD Cert.ListsIdeal.τ).loc Cert.ListsIdeal.main_arg0))
      ∧ θ_run (Cert.ListsReferenceIdeal.defs (F := Ideal)) (onTc (τ := Cert.ListsReferenceIdeal.τ) (Cert.ListsReferenceIdeal.main (F := Ideal))) ⟨m', fun _ => 0, g'⟩ (fun r => ∀ c : Dev Cert.ListsReferenceIdeal.nD,
          r.2.mem ((c.tc : Thread Cert.ListsReferenceIdeal.nD Cert.ListsReferenceIdeal.τ).loc Cert.ListsReferenceIdeal.main_v2) = v0 c
          ∧ r.2.mem ((c.tc : Thread Cert.ListsReferenceIdeal.nD Cert.ListsReferenceIdeal.τ).loc Cert.ListsReferenceIdeal.main_v3) = v1 c
          ∧ r.2.mem ((c.tc : Thread Cert.ListsReferenceIdeal.nD Cert.ListsReferenceIdeal.τ).loc Cert.ListsReferenceIdeal.main_arg0) = m' ((c.tc : Thread Cert.ListsReferenceIdeal.nD Cert.ListsReferenceIdeal.τ).loc Cert.ListsReferenceIdeal.main_arg0))

def Claim : Prop :=
  ∃ (hKernel : Cert.Kernel.Facts) (hKernelIdeal : Cert.KernelIdeal.Facts) (hReferenceIdeal : Cert.ReferenceIdeal.Facts) (hImage : Cert.Image.Facts) (hImageIdeal : Cert.ImageIdeal.Facts) (hImageReferenceIdeal : Cert.ImageReferenceIdeal.Facts) (hText : Cert.Text.Facts) (hTextIdeal : Cert.TextIdeal.Facts) (hTextReferenceIdeal : Cert.TextReferenceIdeal.Facts) (hLists : Cert.Lists.Facts) (hListsIdeal : Cert.ListsIdeal.Facts) (hListsReferenceIdeal : Cert.ListsReferenceIdeal.Facts) (hPre_in_rows : Cert.Pre_in_rows.Facts) (hPre_degrees : Cert.Pre_degrees.Facts) (hPre_similarities : Cert.Pre_similarities.Facts),
    quiescent_Kernel (hKernel := hKernel) (hPre_in_rows := hPre_in_rows)
    ∧ quiescent_KernelIdeal (hKernelIdeal := hKernelIdeal) (hPre_in_rows := hPre_in_rows)
    ∧ quiescent_KernelIdeal_pre_degrees (hKernelIdeal := hKernelIdeal) (hPre_degrees := hPre_degrees)
    ∧ quiescent_ReferenceIdeal (hReferenceIdeal := hReferenceIdeal)
    ∧ quiescent_ReferenceIdeal_pre_degrees (hReferenceIdeal := hReferenceIdeal) (hPre_degrees := hPre_degrees)
    ∧ quiescent_Image (hImage := hImage)
    ∧ quiescent_ImageIdeal (hImageIdeal := hImageIdeal)
    ∧ quiescent_ImageReferenceIdeal (hImageReferenceIdeal := hImageReferenceIdeal)
    ∧ quiescent_Text (hText := hText)
    ∧ quiescent_TextIdeal (hTextIdeal := hTextIdeal)
    ∧ quiescent_TextReferenceIdeal (hTextReferenceIdeal := hTextReferenceIdeal)
    ∧ quiescent_Lists (hLists := hLists)
    ∧ quiescent_ListsIdeal (hListsIdeal := hListsIdeal)
    ∧ quiescent_ListsIdeal_pre_similarities (hListsIdeal := hListsIdeal) (hPre_similarities := hPre_similarities)
    ∧ quiescent_ListsReferenceIdeal (hListsReferenceIdeal := hListsReferenceIdeal)
    ∧ quiescent_ListsReferenceIdeal_pre_similarities (hListsReferenceIdeal := hListsReferenceIdeal) (hPre_similarities := hPre_similarities)
    ∧ preserves_Kernel_KernelIdeal
    ∧ algebraic_KernelIdeal_ReferenceIdeal_pre_degrees (hKernelIdeal := hKernelIdeal) (hReferenceIdeal := hReferenceIdeal) (hPre_degrees := hPre_degrees)
    ∧ preserves_Image_ImageIdeal
    ∧ algebraic_ImageIdeal_ImageReferenceIdeal (hImageIdeal := hImageIdeal) (hImageReferenceIdeal := hImageReferenceIdeal)
    ∧ preserves_Text_TextIdeal
    ∧ algebraic_TextIdeal_TextReferenceIdeal (hTextIdeal := hTextIdeal) (hTextReferenceIdeal := hTextReferenceIdeal)
    ∧ preserves_Lists_ListsIdeal
    ∧ algebraic_ListsIdeal_ListsReferenceIdeal_pre_similarities (hListsIdeal := hListsIdeal) (hListsReferenceIdeal := hListsReferenceIdeal) (hPre_similarities := hPre_similarities)
-- ==== Pre_degrees.lean ====
abbrev S4096x16 : Shape := ⟨2, ![4096, 16]⟩
abbrev S2 : Shape := ⟨1, ![2]⟩
abbrev S4096x64 : Shape := ⟨2, ![4096, 64]⟩
abbrev S4096x4096 : Shape := ⟨2, ![4096, 4096]⟩
abbrev S16384x64 : Shape := ⟨2, ![16384, 64]⟩
abbrev S2x20480x64 : Shape := ⟨3, ![2, 20480, 64]⟩
abbrev S_ : Shape := ⟨0, ![]⟩
abbrev S1 : Shape := ⟨1, ![1]⟩
abbrev S4096 : Shape := ⟨1, ![4096]⟩

class Facts : Prop where
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  reducesTo_S4096x16_S4096_d1 : S4096x16.ReducesTo [1] S4096
  bcast_S_S4096 : S_.BroadcastsInDim S4096 (![] : Fin 0 → Fin S4096.rank)
  slices_S2_S1_1 : S2.Slices ![1] S1
  bcast_S_S4096x16 : S_.BroadcastsInDim S4096x16 (![] : Fin 0 → Fin S4096x16.rank)
  reducesTo_S4096x16_S_d0_1 : S4096x16.ReducesTo [0, 1] S_
  bcast_S_S2 : S_.BroadcastsInDim S2 (![] : Fin 0 → Fin S2.rank)
  bcast_S_S4096x64 : S_.BroadcastsInDim S4096x64 (![] : Fin 0 → Fin S4096x64.rank)
  reducesTo_S4096x64_S_d0_1 : S4096x64.ReducesTo [0, 1] S_
  reducesTo_S4096_S_d0 : S4096.ReducesTo [0] S_

variable [Facts]

def fn_part2 {F : FTy → Type} [FloatOps F] (main_arg5 : FVec F S4096x64 .f32) (main_v20 : FVec F S4096 .f32) (main_v33 : IVec S_ 1) (main_v34 : FVec F S2 .f32) (main_v35 : FVec F S2 .f32) : IVec S_ 1 :=
  let main_v36 : IVec S2 1 := cmpf .olt main_v34 main_v35
  let main_c_10 : IVec S_ 1 := constantI S_ 1 1#1
  let main_v37 : IVec S_ 1 := (fun x v => Host.reduce IntOp.andi x v reducesTo_S2_S_d0 h_S_) main_v36 main_c_10
  let main_v38 : FVec F S4096x64 .f32 := Host.absf main_arg5
  let main_cst_11 : FVec F S_ .f32 := constant S_ .f32 0x7F800000#32
  let main_v39 : FVec F S4096x64 .f32 := broadcastInDim S4096x64 ![] bcast_S_S4096x64 main_cst_11
  let main_v40 : IVec S4096x64 1 := cmpf .olt main_v38 main_v39
  let main_c_12 : IVec S_ 1 := constantI S_ 1 1#1
  let main_v41 : IVec S_ 1 := (fun x v => Host.reduce IntOp.andi x v reducesTo_S4096x64_S_d0_1 h_S_) main_v40 main_c_12
  let main_v42 : IVec S_ 1 := andi main_v37 main_v41
  let main_v43 : IVec S_ 1 := andi main_v33 main_v42
  let main_cst_13 : FVec F S_ .f32 := constant S_ .f32 0x00000000#32
  let main_v44 : FVec F S4096 .f32 := broadcastInDim S4096 ![] bcast_S_S4096 main_cst_13
  let main_v45 : IVec S4096 1 := cmpf .oge main_v20 main_v44
  let main_c_14 : IVec S_ 1 := constantI S_ 1 1#1
  let main_v46 : IVec S_ 1 := (fun x v => Host.reduce IntOp.andi x v reducesTo_S4096_S_d0 h_S_) main_v45 main_c_14
  let main_v47 : IVec S_ 1 := andi main_v43 main_v46
  main_v47

def fn_part1 {F : FTy → Type} [FloatOps F] (main_arg1 : IVec S4096x16 32) (main_arg3 : IVec S4096x16 32) (main_arg4 : FVec F S2 .f32) (main_arg5 : FVec F S4096x64 .f32) (main_v14 : FVec F S4096 .f32) (main_v17 : FVec F S4096 .f32) (main_v18 : FVec F S4096 .f32) : IVec S_ 1 :=
  let main_v19 : FVec F S4096 .f32 := mulf main_v18 main_v17
  let main_v20 : FVec F S4096 .f32 := addf main_v14 main_v19
  let main_c : IVec S_ 32 := constantI S_ 32 0#32
  let main_v21 : IVec S4096x16 32 := broadcastInDim S4096x16 ![] bcast_S_S4096x16 main_c
  let main_v22 : IVec S4096x16 1 := cmpi .sge main_arg1 main_v21
  let main_c_4 : IVec S_ 32 := constantI S_ 32 4096#32
  let main_v23 : IVec S4096x16 32 := broadcastInDim S4096x16 ![] bcast_S_S4096x16 main_c_4
  let main_v24 : IVec S4096x16 1 := cmpi .slt main_arg1 main_v23
  let main_v25 : IVec S4096x16 1 := andi main_v22 main_v24
  let main_c_5 : IVec S_ 1 := constantI S_ 1 1#1
  let main_v26 : IVec S_ 1 := (fun x v => Host.reduce IntOp.andi x v reducesTo_S4096x16_S_d0_1 h_S_) main_v25 main_c_5
  let main_c_6 : IVec S_ 32 := constantI S_ 32 0#32
  let main_v27 : IVec S4096x16 32 := broadcastInDim S4096x16 ![] bcast_S_S4096x16 main_c_6
  let main_v28 : IVec S4096x16 1 := cmpi .sge main_arg3 main_v27
  let main_c_7 : IVec S_ 32 := constantI S_ 32 4096#32
  let main_v29 : IVec S4096x16 32 := broadcastInDim S4096x16 ![] bcast_S_S4096x16 main_c_7
  let main_v30 : IVec S4096x16 1 := cmpi .slt main_arg3 main_v29
  let main_v31 : IVec S4096x16 1 := andi main_v28 main_v30
  let main_c_8 : IVec S_ 1 := constantI S_ 1 1#1
  let main_v32 : IVec S_ 1 := (fun x v => Host.reduce IntOp.andi x v reducesTo_S4096x16_S_d0_1 h_S_) main_v31 main_c_8
  let main_v33 : IVec S_ 1 := andi main_v26 main_v32
  let main_v34 : FVec F S2 .f32 := Host.absf main_arg4
  let main_cst_9 : FVec F S_ .f32 := constant S_ .f32 0x7F800000#32
  let main_v35 : FVec F S2 .f32 := broadcastInDim S2 ![] bcast_S_S2 main_cst_9
  fn_part2 (F := F) main_arg5 main_v20 main_v33 main_v34 main_v35

def fn {F : FTy → Type} [FloatOps F] (main_arg0 : FVec F S4096x16 .f32) (main_arg1 : IVec S4096x16 32) (main_arg2 : FVec F S4096x16 .f32) (main_arg3 : IVec S4096x16 32) (main_arg4 : FVec F S2 .f32) (main_arg5 : FVec F S4096x64 .f32) (main_arg6 : FVec F S4096x4096 .f32) (main_arg7 : FVec F S4096x4096 .f32) (main_arg8 : FVec F S16384x64 .f32) (main_arg9 : FVec F S2x20480x64 .f32) (main_arg10 : FVec F S2x20480x64 .f32) : IVec S_ 1 :=
  let main_cst : FVec F S_ .f32 := constant S_ .f32 0xFF800000#32
  let main_v0 : FVec F S_ .f32 := (fun x v => Host.reduce FloatOps.maximumf x v reducesTo_S2_S_d0 h_S_) main_arg4 main_cst
  let main_cst_0 : FVec F S_ .f32 := constant S_ .f32 0xFF800000#32
  let main_v1 : FVec F S_ .f32 := maximumf main_cst_0 main_v0
  let main_v2 : FVec F S1 .f32 := broadcastInDim S1 ![] bcast_S_S1 main_v1
  let main_v3 : FVec F S2 .f32 := broadcastInDim S2 ![0] bcast_S1_S2_0 main_v2
  let main_v4 : FVec F S2 .f32 := subf main_arg4 main_v3
  let main_v5 : FVec F S2 .f32 := Host.exp main_v4
  let main_cst_1 : FVec F S_ .f32 := constant S_ .f32 0x00000000#32
  let main_v6 : FVec F S_ .f32 := (fun x v => Host.reduceAdd x v reducesTo_S2_S_d0 h_S_) main_v5 main_cst_1
  let main_v7 : FVec F S1 .f32 := broadcastInDim S1 ![] bcast_S_S1 main_v6
  let main_v8 : FVec F S2 .f32 := broadcastInDim S2 ![0] bcast_S1_S2_0 main_v7
  let main_v9 : FVec F S2 .f32 := Host.divf main_v5 main_v8
  let main_v10 : FVec F S1 .f32 := (extractStridedSlice S1 ![0] · slices_S2_S1_0) main_v9
  let main_v11 : FVec F S_ .f32 := shapeCast S_ main_v10 shapeCasts_S1_S_
  let main_cst_2 : FVec F S_ .f32 := constant S_ .f32 0x00000000#32
  let main_v12 : FVec F S4096 .f32 := (fun x v => Host.reduceAdd x v reducesTo_S4096x16_S4096_d1 h_S_) main_arg0 main_cst_2
  let main_v13 : FVec F S4096 .f32 := broadcastInDim S4096 ![] bcast_S_S4096 main_v11
  let main_v14 : FVec F S4096 .f32 := mulf main_v13 main_v12
  let main_v15 : FVec F S1 .f32 := (extractStridedSlice S1 ![1] · slices_S2_S1_1) main_v9
  let main_v16 : FVec F S_ .f32 := shapeCast S_ main_v15 shapeCasts_S1_S_
  let main_cst_3 : FVec F S_ .f32 := constant S_ .f32 0x00000000#32
  let main_v17 : FVec F S4096 .f32 := (fun x v => Host.reduceAdd x v reducesTo_S4096x16_S4096_d1 h_S_) main_arg2 main_cst_3
  let main_v18 : FVec F S4096 .f32 := broadcastInDim S4096 ![] bcast_S_S4096 main_v16
  fn_part1 (F := F) main_arg1 main_arg3 main_arg4 main_arg5 main_v14 main_v17 main_v18
-- ==== Pre_in_rows.lean ====
abbrev S4096x16 : Shape := ⟨2, ![4096, 16]⟩
abbrev S2 : Shape := ⟨1, ![2]⟩
abbrev S4096x64 : Shape := ⟨2, ![4096, 64]⟩
abbrev S4096x4096 : Shape := ⟨2, ![4096, 4096]⟩
abbrev S16384x64 : Shape := ⟨2, ![16384, 64]⟩
abbrev S2x20480x64 : Shape := ⟨3, ![2, 20480, 64]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel

variable [Facts]

def fn {F : FTy → Type} [FloatOps F] (main_arg0 : FVec F S4096x16 .f32) (main_arg1 : IVec S4096x16 32) (main_arg2 : FVec F S4096x16 .f32) (main_arg3 : IVec S4096x16 32) (main_arg4 : FVec F S2 .f32) (main_arg5 : FVec F S4096x64 .f32) (main_arg6 : FVec F S4096x4096 .f32) (main_arg7 : FVec F S4096x4096 .f32) (main_arg8 : FVec F S16384x64 .f32) (main_arg9 : FVec F S2x20480x64 .f32) (main_arg10 : FVec F S2x20480x64 .f32) : IVec S_ 1 :=
  let main_c : IVec S_ 32 := constantI S_ 32 0#32
  let main_v0 : IVec S4096x16 32 := broadcastInDim S4096x16 ![] bcast_S_S4096x16 main_c
  let main_v1 : IVec S4096x16 1 := cmpi .sge main_arg1 main_v0
  let main_c_0 : IVec S_ 32 := constantI S_ 32 4096#32
  let main_v2 : IVec S4096x16 32 := broadcastInDim S4096x16 ![] bcast_S_S4096x16 main_c_0
  let main_v3 : IVec S4096x16 1 := cmpi .slt main_arg1 main_v2
  let main_v4 : IVec S4096x16 1 := andi main_v1 main_v3
  let main_c_1 : IVec S_ 1 := constantI S_ 1 1#1
  let main_v5 : IVec S_ 1 := (fun x v => Host.reduce IntOp.andi x v reducesTo_S4096x16_S_d0_1 h_S_) main_v4 main_c_1
  let main_c_2 : IVec S_ 32 := constantI S_ 32 0#32
  let main_v6 : IVec S4096x16 32 := broadcastInDim S4096x16 ![] bcast_S_S4096x16 main_c_2
  let main_v7 : IVec S4096x16 1 := cmpi .sge main_arg3 main_v6
  let main_c_3 : IVec S_ 32 := constantI S_ 32 4096#32
  let main_v8 : IVec S4096x16 32 := broadcastInDim S4096x16 ![] bcast_S_S4096x16 main_c_3
  let main_v9 : IVec S4096x16 1 := cmpi .slt main_arg3 main_v8
  let main_v10 : IVec S4096x16 1 := andi main_v7 main_v9
  let main_c_4 : IVec S_ 1 := constantI S_ 1 1#1
  let main_v11 : IVec S_ 1 := (fun x v => Host.reduce IntOp.andi x v reducesTo_S4096x16_S_d0_1 h_S_) main_v10 main_c_4
  let main_v12 : IVec S_ 1 := andi main_v5 main_v11
  main_v12
-- ==== Pre_similarities.lean ====
abbrev S4096x64 : Shape := ⟨2, ![4096, 64]⟩
abbrev S64x4096 : Shape := ⟨2, ![64, 4096]⟩
abbrev S4096x4096 : Shape := ⟨2, ![4096, 4096]⟩
abbrev S_ : Shape := ⟨0, ![]⟩

class Facts : Prop where
  transposes_S4096x64_S64x4096_1_0 : S4096x64.Transposes [1, 0] S64x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn {F : FTy → Type} [FloatOps F] (main_arg0 : FVec F S4096x64 .f32) : IVec S_ 1 :=
  let main_v0 : FVec F S64x4096 .f32 := (transpose S64x4096 [1, 0] · transposes_S4096x64_S64x4096_1_0) main_arg0
  let main_v1 : FVec F S4096x4096 .f32 := (fun l r => Host.dotGeneral dot_S4096x64_S64x4096_S4096x4096_1_0_0_1_n_n none l r) main_arg0 main_v0
  let main_cst : FVec F S_ .f32 := constant S_ .f32 0xC0000000#32
  let main_v2 : FVec F S4096x4096 .f32 := broadcastInDim S4096x4096 ![] bcast_S_S4096x4096 main_cst
  let main_v3 : IVec S4096x4096 1 := cmpf .oge main_v1 main_v2
  let main_c : IVec S_ 1 := constantI S_ 1 1#1
  let main_v4 : IVec S_ 1 := (fun x v => Host.reduce IntOp.andi x v reducesTo_S4096x4096_S_d0_1 h_S_) main_v3 main_c
  main_v4
-- ==== Kernel.lean ====
abbrev S4096x16 : Shape := ⟨2, ![4096, 16]⟩
abbrev S2 : Shape := ⟨1, ![2]⟩
abbrev S4096x64 : Shape := ⟨2, ![4096, 64]⟩
abbrev S4096x4096 : Shape := ⟨2, ![4096, 4096]⟩
abbrev S16384x64 : Shape := ⟨2, ![16384, 64]⟩
abbrev S2x20480x64 : Shape := ⟨3, ![2, 20480, 64]⟩
abbrev S_ : Shape := ⟨0, ![]⟩
abbrev S1 : Shape := ⟨1, ![1]⟩
abbrev S4096 : Shape := ⟨1, ![4096]⟩
abbrev S4096x1 : Shape := ⟨2, ![4096, 1]⟩
abbrev S4096x32 : Shape := ⟨2, ![4096, 32]⟩
abbrev S32x4096 : Shape := ⟨2, ![32, 4096]⟩
abbrev S32x32x128 : Shape := ⟨3, ![32, 32, 128]⟩
abbrev S4096x128 : Shape := ⟨2, ![4096, 128]⟩
abbrev S32x4096x128 : Shape := ⟨3, ![32, 4096, 128]⟩
abbrev S32x128 : Shape := ⟨2, ![32, 128]⟩
abbrev S128x128 : Shape := ⟨2, ![128, 128]⟩
abbrev S1x32x128 : Shape := ⟨3, ![1, 32, 128]⟩
abbrev S1x128x128 : Shape := ⟨3, ![1, 128, 128]⟩
abbrev S1x128 : Shape := ⟨2, ![1, 128]⟩
abbrev S128 : Shape := ⟨1, ![128]⟩
abbrev S32x4096x64 : Shape := ⟨3, ![32, 4096, 64]⟩
abbrev S20480x64 : Shape := ⟨2, ![20480, 64]⟩
abbrev S1x20480x64 : Shape := ⟨3, ![1, 20480, 64]⟩
abbrev S1280x64 : Shape := ⟨2, ![1280, 64]⟩
abbrev S256x4096 : Shape := ⟨2, ![256, 4096]⟩
abbrev S32x256x64 : Shape := ⟨3, ![32, 256, 64]⟩
abbrev S32x256 : Shape := ⟨2, ![32, 256]⟩
abbrev S256x64 : Shape := ⟨2, ![256, 64]⟩
abbrev S32x256x1 : Shape := ⟨3, ![32, 256, 1]⟩
abbrev S256 : Shape := ⟨1, ![256]⟩
abbrev S256x1 : Shape := ⟨2, ![256, 1]⟩

abbrev nBuf : Table → Nat
  | .hbm => 46
  | .local .tc .vmem => 35
  | .local .tc .smem => 2
  | .local .scVector .vmem => 3
  | _ => 0

abbrev bufTy : (tb : Table) → Fin (nBuf tb) → BufTy
  | .hbm, ⟨0, _⟩ => ⟨S4096x16, .f32⟩
  | .hbm, ⟨1, _⟩ => ⟨S4096x16, .i32⟩
  | .hbm, ⟨2, _⟩ => ⟨S4096x16, .f32⟩
  | .hbm, ⟨3, _⟩ => ⟨S4096x16, .i32⟩
  | .hbm, ⟨4, _⟩ => ⟨S2, .f32⟩
  | .hbm, ⟨5, _⟩ => ⟨S4096x64, .f32⟩
  | .hbm, ⟨6, _⟩ => ⟨S4096x4096, .f32⟩
  | .hbm, ⟨7, _⟩ => ⟨S4096x4096, .f32⟩
  | .hbm, ⟨8, _⟩ => ⟨S16384x64, .f32⟩
  | .hbm, ⟨9, _⟩ => ⟨S2x20480x64, .f32⟩
  | .hbm, ⟨10, _⟩ => ⟨S2x20480x64, .f32⟩
  | .hbm, ⟨11, _⟩ => ⟨S_, .f32⟩
  | .hbm, ⟨12, _⟩ => ⟨S_, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S2, .f32⟩
  | .hbm, ⟨19, _⟩ => ⟨S2, .f32⟩
  | .hbm, ⟨20, _⟩ => ⟨S4096x64, .f32⟩
  | .hbm, ⟨21, _⟩ => ⟨S4096x16, .f32⟩
  | .hbm, ⟨22, _⟩ => ⟨S4096x16, .f32⟩
  | .hbm, ⟨23, _⟩ => ⟨S4096x32, .i32⟩
  | .hbm, ⟨24, _⟩ => ⟨S4096x32, .f32⟩
  | .hbm, ⟨25, _⟩ => ⟨S32x4096, .i32⟩
  | .hbm, ⟨26, _⟩ => ⟨S32x32x128, .i32⟩
  | .hbm, ⟨27, _⟩ => ⟨S32x4096, .f32⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S32x4096x128, .f32⟩
  | .hbm, ⟨32, _⟩ => ⟨S32x4096x64, .f32⟩
  | .hbm, ⟨33, _⟩ => ⟨S20480x64, .f32⟩
  | .hbm, ⟨34, _⟩ => ⟨S1x20480x64, .f32⟩
  | .hbm, ⟨35, _⟩ => ⟨S20480x64, .f32⟩
  | .hbm, ⟨36, _⟩ => ⟨S1x20480x64, .f32⟩
  | .hbm, ⟨37, _⟩ => ⟨S20480x64, .f32⟩
  | .hbm, ⟨38, _⟩ => ⟨S20480x64, .f32⟩
  | .hbm, ⟨39, _⟩ => ⟨S1x20480x64, .f32⟩
  | .hbm, ⟨40, _⟩ => ⟨S20480x64, .f32⟩
  | .hbm, ⟨41, _⟩ => ⟨S1x20480x64, .f32⟩
  | .hbm, ⟨42, _⟩ => ⟨S20480x64, .f32⟩
  | .hbm, ⟨43, _⟩ => ⟨S20480x64, .f32⟩
  | .hbm, ⟨44, _⟩ => ⟨S4096x64, .f32⟩
  | .hbm, ⟨45, _⟩ => ⟨S16384x64, .f32⟩
  | .local .tc .vmem, ⟨0, _⟩ => ⟨S4096x16, .f32⟩
  | .local .tc .vmem, ⟨1, _⟩ => ⟨S4096x16, .f32⟩
  | .local .tc .vmem, ⟨2, _⟩ => ⟨S4096x64, .f32⟩
  | .local .tc .vmem, ⟨3, _⟩ => ⟨S4096x64, .f32⟩
  | .local .tc .vmem, ⟨4, _⟩ => ⟨S4096x16, .f32⟩
  | .local .tc .vmem, ⟨5, _⟩ => ⟨S4096x16, .f32⟩
  | .local .tc .vmem, ⟨6, _⟩ => ⟨S1280x64, .f32⟩
  | .local .tc .vmem, ⟨7, _⟩ => ⟨S1280x64, .f32⟩
  | .local .tc .vmem, ⟨8, _⟩ => ⟨S1280x64, .f32⟩
  | .local .tc .vmem, ⟨9, _⟩ => ⟨S1280x64, .f32⟩
  | .local .tc .vmem, ⟨10, _⟩ => ⟨S1280x64, .f32⟩
  | .local .tc .vmem, ⟨11, _⟩ => ⟨S1280x64, .f32⟩
  | .local .tc .vmem, ⟨12, _⟩ => ⟨S1280x64, .f32⟩
  | .local .tc .vmem, ⟨13, _⟩ => ⟨S1280x64, .f32⟩
  | .local .tc .vmem, ⟨14, _⟩ => ⟨S1280x64, .f32⟩
  | .local .tc .vmem, ⟨15, _⟩ => ⟨S1280x64, .f32⟩
  | .local .tc .vmem, ⟨16, _⟩ => ⟨S1280x64, .f32⟩
  | .local .tc .vmem, ⟨17, _⟩ => ⟨S1280x64, .f32⟩
  | .local .tc .vmem, ⟨18, _⟩ => ⟨S1280x64, .f32⟩
  | .local .tc .vmem, ⟨19, _⟩ => ⟨S1280x64, .f32⟩
  | .local .tc .vmem, ⟨20, _⟩ => ⟨S1280x64, .f32⟩
  | .local .tc .vmem, ⟨21, _⟩ => ⟨S1280x64, .f32⟩
  | .local .tc .vmem, ⟨22, _⟩ => ⟨S256x4096, .f32⟩
  | .local .tc .vmem, ⟨23, _⟩ => ⟨S256x4096, .f32⟩
  | .local .tc .vmem, ⟨24, _⟩ => ⟨S256x4096, .f32⟩
  | .local .tc .vmem, ⟨25, _⟩ => ⟨S256x4096, .f32⟩
  | .local .tc .vmem, ⟨26, _⟩ => ⟨S4096x64, .f32⟩
  | .local .tc .vmem, ⟨27, _⟩ => ⟨S32x256x64, .f32⟩
  | .local .tc .vmem, ⟨28, _⟩ => ⟨S32x256x64, .f32⟩
  | .local .tc .vmem, ⟨29, _⟩ => ⟨S32x256, .f32⟩
  | .local .tc .vmem, ⟨30, _⟩ => ⟨S32x256, .f32⟩
  | .local .tc .vmem, ⟨31, _⟩ => ⟨S256x64, .f32⟩
  | .local .tc .vmem, ⟨32, _⟩ => ⟨S256x64, .f32⟩
  | .local .tc .vmem, ⟨33, _⟩ => ⟨S256x64, .f32⟩
  | .local .tc .vmem, ⟨34, _⟩ => ⟨S256x64, .f32⟩
  | .local .tc .smem, ⟨0, _⟩ => ⟨S2, .f32⟩
  | .local .tc .smem, ⟨1, _⟩ => ⟨S2, .f32⟩
  | .local .scVector .vmem, ⟨0, _⟩ => ⟨S32x128, .i32⟩
  | .local .scVector .vmem, ⟨1, _⟩ => ⟨S128x128, .f32⟩
  | .local .scVector .vmem, ⟨2, _⟩ => ⟨S128x128, .f32⟩
  | _, _ => ⟨S4096x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v13_scv : Ref sig .scVector := ⟨.hbm, 30, rfl⟩
abbrev main_v11_scv : Ref sig .scVector := ⟨.hbm, 26, rfl⟩
abbrev main_v14_scv : Ref sig .scVector := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg4_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc4_stg7_0 : Ref sig .tc := ⟨.vmem, 33, rfl⟩
abbrev cc4_stg7_1 : Ref sig .tc := ⟨.vmem, 34, rfl⟩
abbrev cc0_stg3_0 : Ref sig .tc := ⟨.smem, 0, rfl⟩
abbrev cc4_stg6_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem5_1 : DmaSem sig := 37
abbrev cc4_sem6_0 : DmaSem sig := 38
abbrev cc4_sem7_0 : DmaSem sig := 39
abbrev cc4_sem7_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r0 : BitVec 32 := 0#32
  let c0_i32_9_r0 : BitVec 32 := 0#32
  ![v1.toNat, 0, 0]
@[reducible] def k1_t1_loop : Scf.Loop 32 :=
  let c0_i32_0 : BitVec 32 := 0#32
  let c16_i32 : BitVec 32 := 16#32
  let v2 : BitVec 32 := Scalar.addi c0_i32_0 c16_i32
  let c1_i32 : BitVec 32 := 1#32
  ⟨c0_i32_0, v2, c1_i32⟩
def k1_cond1 (k1_t1 : Fin k1_t1_loop.trips) : BitVec 1 :=
  let c0_i32_0 : BitVec 32 := 0#32
  let c1_i32 : BitVec 32 := 1#32
  let arg11 : BitVec 32 := Scf.iv c0_i32_0 c1_i32 k1_t1
  let c0_i32_10 : BitVec 32 := 0#32
  let v14 : BitVec 1 := Scalar.cmpi .sgt arg11 c0_i32_10
  let v15 : BitVec 32 := Scalar.extui v14
  let c0_i32_11 : BitVec 32 := 0#32
  let v16 : BitVec 1 := Scalar.cmpi .ne v15 c0_i32_11
  v16

def k1_off2 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k1_t1
  let c2_i32_8 : BitVec 32 := 2#32
  let v12 : BitVec 32 := Scalar.muli arg11 c2_i32_8
  let c0_i32_9 : BitVec 32 := 0#32
  let v13 : BitVec 32 := Scalar.addi v12 c0_i32_9
  let c2_i32_34 : BitVec 32 := 2#32
  let v44 : BitVec 32 := Scalar.subi v13 c2_i32_34
  let c128_i32_35 : BitVec 32 := 128#32
  let v45 : BitVec 32 := Scalar.muli v44 c128_i32_35
  let c0_i32_36 : BitVec 32 := 0#32
  ![v1.toNat, v45.toNat, 0]
def k1_off3 (k1_t1 : Fin k1_t1_loop.trips) (c0_i32_9 : BitVec 32) : Fin 2 → Nat :=
  let c0_i32_0 : BitVec 32 := 0#32
  let c1_i32 : BitVec 32 := 1#32
  let arg11 : BitVec 32 := Scf.iv c0_i32_0 c1_i32 k1_t1
  let c2_i32_8 : BitVec 32 := 2#32
  let v12 : BitVec 32 := Scalar.muli arg11 c2_i32_8
  let v13 : BitVec 32 := Scalar.addi v12 c0_i32_9
  let c0_i32_12 : BitVec 32 := 0#32
  ![v13.toNat, 0]
def k1_off4 (i : grid1.Coords) (k1_t1 : Fin k1_t1_loop.trips) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k1_t1
  let c2_i32_8 : BitVec 32 := 2#32
  let v12 : BitVec 32 := Scalar.muli arg11 c2_i32_8
  let v13 : BitVec 32 := Scalar.addi v12 c0_i32_9
  let c128_i32 : BitVec 32 := 128#32
  let v23 : BitVec 32 := Scalar.muli v13 c128_i32
  let c0_i32_18 : BitVec 32 := 0#32
  ![v1.toNat, v23.toNat, 0]
def k1_cond2 (k1_t1 : Fin k1_t1_loop.trips) : BitVec 1 :=
  let c0_i32_0 : BitVec 32 := 0#32
  let c1_i32 : BitVec 32 := 1#32
  let arg11 : BitVec 32 := Scf.iv c0_i32_0 c1_i32 k1_t1
  let c0_i32_22 : BitVec 32 := 0#32
  let v30 : BitVec 1 := Scalar.cmpi .sgt arg11 c0_i32_22
  let v31 : BitVec 32 := Scalar.extui v30
  let c0_i32_23 : BitVec 32 := 0#32
  let v32 : BitVec 1 := Scalar.cmpi .ne v31 c0_i32_23
  v32

def k1_off5 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k1_t1
  let c2_i32_20 : BitVec 32 := 2#32
  let v28 : BitVec 32 := Scalar.muli arg11 c2_i32_20
  let c1_i32_21 : BitVec 32 := 1#32
  let v29 : BitVec 32 := Scalar.addi v28 c1_i32_21
  let c2_i32_34 : BitVec 32 := 2#32
  let v44 : BitVec 32 := Scalar.subi v29 c2_i32_34
  let c128_i32_35 : BitVec 32 := 128#32
  let v45 : BitVec 32 := Scalar.muli v44 c128_i32_35
  let c0_i32_36 : BitVec 32 := 0#32
  ![v1.toNat, v45.toNat, 0]
def k1_off6 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let c0_i32_2 : BitVec 32 := 0#32
  ![v1.toNat, 3840, 0]
def k1_off7 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3968_i32 : BitVec 32 := 3968#32
  let c0_i32_5 : BitVec 32 := 0#32
  ![v1.toNat, 3968, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1280x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1280x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1280x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1280x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1280x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1280x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1280x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S32x256x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S32x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .smem S2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S256x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "third" => some ((3⁻¹ : ℝ) : EReal)
  | _ => none
-- ==== ReferenceIdeal.lean ====
abbrev S4096x16 : Shape := ⟨2, ![4096, 16]⟩
abbrev S2 : Shape := ⟨1, ![2]⟩
abbrev S4096x64 : Shape := ⟨2, ![4096, 64]⟩
abbrev S4096x4096 : Shape := ⟨2, ![4096, 4096]⟩
abbrev S16384x64 : Shape := ⟨2, ![16384, 64]⟩
abbrev S2x20480x64 : Shape := ⟨3, ![2, 20480, 64]⟩
abbrev S_ : Shape := ⟨0, ![]⟩
abbrev S1 : Shape := ⟨1, ![1]⟩
abbrev S4096 : Shape := ⟨1, ![4096]⟩
abbrev S4096x1 : Shape := ⟨2, ![4096, 1]⟩
abbrev S4096x16x1 : Shape := ⟨3, ![4096, 16, 1]⟩
abbrev S4096x16x2 : Shape := ⟨3, ![4096, 16, 2]⟩
abbrev S1x4096 : Shape := ⟨2, ![1, 4096]⟩
abbrev S20480x64 : Shape := ⟨2, ![20480, 64]⟩
abbrev S1x20480x64 : Shape := ⟨3, ![1, 20480, 64]⟩
abbrev S20480x1x64 : Shape := ⟨3, ![20480, 1, 64]⟩
abbrev S20480x3x64 : Shape := ⟨3, ![20480, 3, 64]⟩

abbrev nBuf : Space → Nat
  | .hbm => 143
  | .vmem => 0
  | .smem => 0
  | _ => 0

abbrev hbmTy0_0 (i : Nat) : BufTy := match i % 128 with
  | 0 => ⟨S4096x16, .f32⟩
  | 1 => ⟨S4096x16, .i32⟩
  | 2 => ⟨S4096x16, .f32⟩
  | 3 => ⟨S4096x16, .i32⟩
  | 4 => ⟨S2, .f32⟩
  | 5 => ⟨S4096x64, .f32⟩
  | 6 => ⟨S4096x4096, .f32⟩
  | 7 => ⟨S4096x4096, .f32⟩
  | 8 => ⟨S16384x64, .f32⟩
  | 9 => ⟨S2x20480x64, .f32⟩
  | 10 => ⟨S2x20480x64, .f32⟩
  | 11 => ⟨S_, .f32⟩
  | 12 => ⟨S_, .f32⟩
  | 13 => ⟨S_, .f32⟩
  | 14 => ⟨S_, .f32⟩
  | 15 => ⟨S1, .f32⟩
  | 16 => ⟨S2, .f32⟩
  | 17 => ⟨S2, .f32⟩
  | 18 => ⟨S2, .f32⟩
  | 19 => ⟨S_, .f32⟩
  | 20 => ⟨S_, .f32⟩
  | 21 => ⟨S1, .f32⟩
  | 22 => ⟨S2, .f32⟩
  | 23 => ⟨S2, .f32⟩
  | 24 => ⟨S4096, .i32⟩
  | 25 => ⟨S4096x1, .i32⟩
  | 26 => ⟨S_, .f32⟩
  | 27 => ⟨S4096x4096, .f32⟩
  | 28 => ⟨S_, .i32⟩
  | 29 => ⟨S4096x1, .i32⟩
  | 30 => ⟨S4096x1, .i1⟩
  | 31 => ⟨S_, .i32⟩
  | 32 => ⟨S4096x1, .i32⟩
  | 33 => ⟨S4096x1, .i32⟩
  | 34 => ⟨S4096x1, .i32⟩
  | 35 => ⟨S_, .i32⟩
  | 36 => ⟨S4096x16, .i32⟩
  | 37 => ⟨S4096x16, .i1⟩
  | 38 => ⟨S_, .i32⟩
  | 39 => ⟨S4096x16, .i32⟩
  | 40 => ⟨S4096x16, .i32⟩
  | 41 => ⟨S4096x16, .i32⟩
  | 42 => ⟨S4096x16, .i32⟩
  | 43 => ⟨S4096x16x1, .i32⟩
  | 44 => ⟨S4096x16x1, .i32⟩
  | 45 => ⟨S4096x16x2, .i32⟩
  | 46 => ⟨S4096x4096, .f32⟩
  | 47 => ⟨S_, .f32⟩
  | 48 => ⟨S4096x4096, .f32⟩
  | 49 => ⟨S_, .i32⟩
  | 50 => ⟨S4096x1, .i32⟩
  | 51 => ⟨S4096x1, .i1⟩
  | 52 => ⟨S_, .i32⟩
  | 53 => ⟨S4096x1, .i32⟩
  | 54 => ⟨S4096x1, .i32⟩
  | 55 => ⟨S4096x1, .i32⟩
  | 56 => ⟨S_, .i32⟩
  | 57 => ⟨S4096x16, .i32⟩
  | 58 => ⟨S4096x16, .i1⟩
  | 59 => ⟨S_, .i32⟩
  | 60 => ⟨S4096x16, .i32⟩
  | 61 => ⟨S4096x16, .i32⟩
  | 62 => ⟨S4096x16, .i32⟩
  | 63 => ⟨S4096x16, .i32⟩
  | 64 => ⟨S4096x16x1, .i32⟩
  | 65 => ⟨S4096x16x1, .i32⟩
  | 66 => ⟨S4096x16x2, .i32⟩
  | 67 => ⟨S4096x4096, .f32⟩
  | 68 => ⟨S1, .f32⟩
  | 69 => ⟨S_, .f32⟩
  | 70 => ⟨S4096x4096, .f32⟩
  | 71 => ⟨S4096x4096, .f32⟩
  | 72 => ⟨S1, .f32⟩
  | 73 => ⟨S_, .f32⟩
  | 74 => ⟨S4096x4096, .f32⟩
  | 75 => ⟨S4096x4096, .f32⟩
  | 76 => ⟨S4096x4096, .f32⟩
  | 77 => ⟨S1, .f32⟩
  | 78 => ⟨S_, .f32⟩
  | 79 => ⟨S4096x4096, .f32⟩
  | 80 => ⟨S4096x4096, .f32⟩
  | 81 => ⟨S1, .f32⟩
  | 82 => ⟨S_, .f32⟩
  | 83 => ⟨S4096x4096, .f32⟩
  | 84 => ⟨S4096x4096, .f32⟩
  | 85 => ⟨S4096x4096, .f32⟩
  | 86 => ⟨S_, .f32⟩
  | 87 => ⟨S4096, .f32⟩
  | 88 => ⟨S_, .f32⟩
  | 89 => ⟨S4096, .f32⟩
  | 90 => ⟨S4096, .i1⟩
  | 91 => ⟨S4096, .f32⟩
  | 92 => ⟨S_, .f32⟩
  | 93 => ⟨S_, .f32⟩
  | 94 => ⟨S4096, .f32⟩
  | 95 => ⟨S4096, .f32⟩
  | 96 => ⟨S4096x1, .f32⟩
  | 97 => ⟨S4096x4096, .f32⟩
  | 98 => ⟨S4096x4096, .f32⟩
  | 99 => ⟨S1x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .f32⟩
  | 109 => ⟨S4096x64, .f32⟩
  | 110 => ⟨S20480x64, .f32⟩
  | 111 => ⟨S1x20480x64, .f32⟩
  | 112 => ⟨S20480x64, .f32⟩
  | 113 => ⟨S1x20480x64, .f32⟩
  | 114 => ⟨S20480x64, .f32⟩
  | 115 => ⟨S20480x64, .f32⟩
  | 116 => ⟨S1x20480x64, .f32⟩
  | 117 => ⟨S20480x64, .f32⟩
  | 118 => ⟨S1x20480x64, .f32⟩
  | 119 => ⟨S20480x64, .f32⟩
  | 120 => ⟨S20480x64, .f32⟩
  | 121 => ⟨S20480x1x64, .f32⟩
  | 122 => ⟨S20480x1x64, .f32⟩
  | 123 => ⟨S20480x1x64, .f32⟩
  | 124 => ⟨S20480x3x64, .f32⟩
  | 125 => ⟨S_, .f32⟩
  | 126 => ⟨S20480x64, .f32⟩
  | 127 => ⟨S_, .f32⟩
  | _ => ⟨S4096x16, .f32⟩

abbrev hbmTy0_1 (i : Nat) : BufTy := match i % 128 with
  | 0 => ⟨S20480x64, .f32⟩
  | 1 => ⟨S20480x64, .f32⟩
  | 2 => ⟨S16384x64, .f32⟩
  | 3 => ⟨S4096x64, .f32⟩
  | 4 => ⟨S4096x64, .f32⟩
  | 5 => ⟨S_, .f32⟩
  | 6 => ⟨S4096, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x64, .f32⟩
  | 13 => ⟨S4096x64, .f32⟩
  | 14 => ⟨S4096x64, .f32⟩
  | _ => ⟨S4096x16, .f32⟩

abbrev hbmTy (i : Nat) : BufTy := match i / 128 with
  | 0 => hbmTy0_0 i
  | 1 => hbmTy0_1 i
  | _ => ⟨S4096x16, .f32⟩

abbrev bufTy : (tb : Table) → Fin (tcTables nBuf tb) → BufTy
  | .hbm, ⟨i, _⟩ => hbmTy i
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_call0_v0 : Ref sig .tc := ⟨.hbm, 93, rfl⟩
abbrev main_call0_v1 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call1_v0 : Ref sig .tc := ⟨.hbm, 132, rfl⟩
abbrev main_call1_cst : Ref sig .tc := ⟨.hbm, 133, rfl⟩
abbrev main_call1_v1 : Ref sig .tc := ⟨.hbm, 134, rfl⟩
abbrev main_call1_v2 : Ref sig .tc := ⟨.hbm, 135, rfl⟩
abbrev main_v99 : Ref sig .tc := ⟨.hbm, 136, rfl⟩
abbrev main_cst_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Image.lean ====
abbrev S4096x4096 : Shape := ⟨2, ![4096, 4096]⟩
abbrev S4096x64 : Shape := ⟨2, ![4096, 64]⟩
abbrev S64 : Shape := ⟨1, ![64]⟩
abbrev S1x64 : Shape := ⟨2, ![1, 64]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S4096x64, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ImageIdeal.lean ====
abbrev S4096x4096 : Shape := ⟨2, ![4096, 4096]⟩
abbrev S4096x64 : Shape := ⟨2, ![4096, 64]⟩
abbrev S64 : Shape := ⟨1, ![64]⟩
abbrev S1x64 : Shape := ⟨2, ![1, 64]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S4096x64, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ImageReferenceIdeal.lean ====
abbrev S4096x4096 : Shape := ⟨2, ![4096, 4096]⟩
abbrev S4096x64 : Shape := ⟨2, ![4096, 64]⟩
abbrev S64 : Shape := ⟨1, ![64]⟩
abbrev S1x64 : Shape := ⟨2, ![1, 64]⟩
abbrev S_ : Shape := ⟨0, ![]⟩
abbrev S4096 : Shape := ⟨1, ![4096]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S4096x64, .f32⟩
  | .hbm, ⟨13, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Text.lean ====
abbrev S4096x384 : Shape := ⟨2, ![4096, 384]⟩
abbrev S384x64 : Shape := ⟨2, ![384, 64]⟩
abbrev S64 : Shape := ⟨1, ![64]⟩
abbrev S1x64 : Shape := ⟨2, ![1, 64]⟩
abbrev S4096x64 : Shape := ⟨2, ![4096, 64]⟩
abbrev S256x384 : Shape := ⟨2, ![256, 384]⟩
abbrev S256x64 : Shape := ⟨2, ![256, 64]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S384x64, .f32⟩
  | .hbm, ⟨2, _⟩ => ⟨S64, .f32⟩
  | .hbm, ⟨3, _⟩ => ⟨S1x64, .f32⟩
  | .hbm, ⟨4, _⟩ => ⟨S4096x64, .f32⟩
  | .local _ .vmem, ⟨0, _⟩ => ⟨S256x384, .f32⟩
  | .local _ .vmem, ⟨1, _⟩ => ⟨S256x384, .f32⟩
  | .local _ .vmem, ⟨2, _⟩ => ⟨S384x64, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TextReferenceIdeal.lean ====
abbrev S4096x384 : Shape := ⟨2, ![4096, 384]⟩
abbrev S384x64 : Shape := ⟨2, ![384, 64]⟩
abbrev S64 : Shape := ⟨1, ![64]⟩
abbrev S4096x64 : Shape := ⟨2, ![4096, 64]⟩
abbrev S1x64 : Shape := ⟨2, ![1, 64]⟩
abbrev S_ : Shape := ⟨0, ![]⟩
abbrev S4096 : Shape := ⟨1, ![4096]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x64, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S4096x64, .f32⟩
  | .hbm, ⟨13, _⟩ => ⟨S4096x64, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Lists.lean ====
abbrev S4096x64 : Shape := ⟨2, ![4096, 64]⟩
abbrev S4096x16 : Shape := ⟨2, ![4096, 16]⟩
abbrev S256x64 : Shape := ⟨2, ![256, 64]⟩
abbrev S256x16 : Shape := ⟨2, ![256, 16]⟩
abbrev S256x4096 : Shape := ⟨2, ![256, 4096]⟩
abbrev S256x1 : Shape := ⟨2, ![256, 1]⟩
abbrev S256 : Shape := ⟨1, ![256]⟩

abbrev nBuf : Space → Nat
  | .hbm => 3
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x16, .f32⟩
  | .hbm, ⟨2, _⟩ => ⟨S4096x16, .i32⟩
  | .local _ .vmem, ⟨0, _⟩ => ⟨S256x64, .f32⟩
  | .local _ .vmem, ⟨1, _⟩ => ⟨S256x64, .f32⟩
  | .local _ .vmem, ⟨2, _⟩ => ⟨S4096x64, .f32⟩
  | .local _ .vmem, ⟨3, _⟩ => ⟨S256x16, .f32⟩
  | .local _ .vmem, ⟨4, _⟩ => ⟨S256x16, .f32⟩
  | .local _ .vmem, ⟨5, _⟩ => ⟨S256x16, .i32⟩
  | .local _ .vmem, ⟨6, _⟩ => ⟨S256x16, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ListsReferenceIdeal.lean ====
abbrev S4096x64 : Shape := ⟨2, ![4096, 64]⟩
abbrev S64x4096 : Shape := ⟨2, ![64, 4096]⟩
abbrev S4096x4096 : Shape := ⟨2, ![4096, 4096]⟩
abbrev S4096x10 : Shape := ⟨2, ![4096, 10]⟩
abbrev S_ : Shape := ⟨0, ![]⟩
abbrev S4096x16 : Shape := ⟨2, ![4096, 16]⟩

abbrev nBuf : Space → Nat
  | .hbm => 11
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S4096x4096, .f32⟩
  | .hbm, ⟨3, _⟩ => ⟨S4096x10, .f32⟩
  | .hbm, ⟨4, _⟩ => ⟨S4096x10, .i32⟩
  | .hbm, ⟨5, _⟩ => ⟨S_, .i32⟩
  | .hbm, ⟨6, _⟩ => ⟨S_, .f32⟩
  | .hbm, ⟨7, _⟩ => ⟨S4096x16, .f32⟩
  | .hbm, ⟨8, _⟩ => ⟨S_, .i32⟩
  | .hbm, ⟨9, _⟩ => ⟨S_, .i32⟩
  | .hbm, ⟨10, _⟩ => ⟨S4096x16, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proof.IdealTile.lean ====
/-
  The gather's task, for the program `KernelIdeal`: what one vector subcore does, run once at a symbolic
  pair of SparseCore and subcore, with the values it leaves.

  Task `w = 2 * subcore + core` copies row `w` of the index array into its own list, and then for each
  of 32 chunks gathers 128 rows of the table by 128 entries of the list into one of two row buffers and
  copies that buffer out to the chunk's place in block `w` of the result.  The copies out of the two row
  buffers are left in flight across one trip of the loop, each buffer waited for before it is filled
  again; the loop's invariant holds the two copies of the trip before as in flight, everything before
  them as written with its final values, and everything after them as untouched.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds and the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays and the buffers -/

abbrev tLoc (d : Dev nD) : Loc nD τ sig := (SparseCore.T d).loc main_v13
abbrev iLoc (d : Dev nD) : Loc nD τ sig := (SparseCore.T d).loc main_v11
abbrev oLoc (d : Dev nD) : Loc nD τ sig := (SparseCore.T d).loc main_v14

local notation "tV" => (Memref.whole Cert.KernelIdeal.main_v13_scv : Memref Cert.KernelIdeal.sig Kind.scVector Space.hbm Cert.KernelIdeal.S4096x128 EltTy.f32)
local notation "iV" => (Memref.whole Cert.KernelIdeal.main_v11_scv : Memref Cert.KernelIdeal.sig Kind.scVector Space.hbm Cert.KernelIdeal.S32x32x128 EltTy.i32)
local notation "oV" => (Memref.whole Cert.KernelIdeal.main_v14_scv : Memref Cert.KernelIdeal.sig Kind.scVector Space.hbm Cert.KernelIdeal.S32x4096x128 EltTy.f32)
local notation "sV" => (Memref.whole Cert.KernelIdeal.cc1_scratch0 : Memref Cert.KernelIdeal.sig Kind.scVector Space.vmem Cert.KernelIdeal.S32x128 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

/-- The part of the index array that task `w` reads: row `w`. -/
def iSet (w : ℕ) : Finset S32x32x128.Idx := Finset.univ.filter fun x => (x 0).val = w
/-- Rows `lo` to `hi` of block `w` of the result. -/
def oSet (w lo hi : ℕ) : Finset S32x4096x128.Idx := Finset.univ.filter fun x => (x 0).val = w ∧ lo ≤ (x 1).val ∧ (x 1).val < hi

theorem mem_iSet {w : ℕ} {x : S32x32x128.Idx} : x ∈ iSet w ↔ (x 0).val = w := by simp [iSet]
theorem mem_oSet {w lo hi : ℕ} {x : S32x4096x128.Idx} : x ∈ oSet w lo hi ↔ (x 0).val = w ∧ lo ≤ (x 1).val ∧ (x 1).val < hi := by simp [oSet]

/-- Consecutive runs of rows make one run, -/
theorem oSet_union (w : ℕ) {lo mid hi : ℕ} (h : lo ≤ mid) (h' : mid ≤ hi) : oSet w lo hi = oSet w lo mid ∪ oSet w mid hi := by
  ext x; simp only [Finset.mem_union, mem_oSet]; omega
/-- and have no element in common. -/
theorem oSet_disjoint (w lo mid hi : ℕ) : Disjoint (oSet w lo mid) (oSet w mid hi) :=
  Finset.disjoint_left.mpr fun x h h' => by rw [mem_oSet] at h h'; omega
/-- A run of no rows has no elements. -/
theorem oSet_empty (w lo : ℕ) : oSet w lo lo = ∅ := by
  ext x; simp only [mem_oSet, Finset.notMem_empty, iff_false]; omega

/-- One run of rows of the result is two, split at `mid`. -/
theorem oPts_split (d : Dev nD) (w : ℕ) {lo mid hi : ℕ} (h : lo ≤ mid) (h' : mid ≤ hi) (f : Buf (Elt F) (oLoc d)) :
    (oLoc d ↦[oSet w lo hi]{fullShare} f : sProp 𝕄) ⊣⊢ iprop((oLoc d ↦[oSet w lo mid]{fullShare} f) ∗ oLoc d ↦[oSet w mid hi]{fullShare} f) := by
  rw [oSet_union w h h']; exact pointsTo_union (oSet_disjoint w lo mid hi)

/-- Every index in range: what the gather needs of the index array. -/
def InRows (ic : (d : Dev nD) → Buf (Elt F) (iLoc d)) : Prop := ∀ (d : Dev nD) (x : S32x32x128.Idx), (ic d x).toNat < 4096

/-- The row of the table a word names. -/
def rowAt (v : BitVec 32) : Fin 4096 := ⟨v.toNat % 4096, Nat.mod_lt _ (by decide)⟩

/-- What the call leaves in the result: element `(w, n, j)` is element `j` of the table's row named by entry
    `(w, n / 128, n % 128)` of the index array. -/
def outVal (tb : (d : Dev nD) → Buf (Elt F) (tLoc d)) (ic : (d : Dev nD) → Buf (Elt F) (iLoc d)) (d : Dev nD) : Buf (Elt F) (oLoc d) :=
  fun (x : S32x4096x128.Idx) => tb d (ix2 (rowAt (ic d (ix3 (x 0) (⟨(x 1).val / 128, Nat.div_lt_of_lt_mul (x 1).isLt⟩ : Fin 32) (⟨(x 1).val % 128, Nat.mod_lt _ (by decide)⟩ : Fin 128)))) (x 2))

/-! ## The views the task addresses, by their elements -/

section Tile

variable (d : Dev nD) (L : grid1.Coords)

abbrev cV (L : grid1.Coords) : Fin τ.nSC := (L 0).castLE hcore1
abbrev jV (L : grid1.Coords) : Fin τ.nSub := (L 1).castLE hsub1
/-- The task's number. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega
abbrev widF (L : grid1.Coords) : Fin 32 := ⟨wid L, wid_lt L⟩

abbrev iRowK (L : grid1.Coords) : Memref sig .scVector .hbm S32x128 .i32 :=
  ((iV).slice (Rect.unit (s := S32x32x128) (k1_off1 L) S1x32x128.size (k1_off1_inb L)) (fun _ => rfl)).squeeze S32x128 squeezes_S1x32x128_S32x128
abbrev oAt (off : Fin 3 → ℕ) (h : ∀ a, off a + S1x128x128.size a ≤ S32x4096x128.size a) : Memref sig .scVector .hbm S128x128 .f32 :=
  ((oV).slice (Rect.unit (s := S32x4096x128) off S1x128x128.size h) (fun _ => rfl)).squeeze S128x128 squeezes_S1x128x128_S128x128
abbrev sAt (off : Fin 2 → ℕ) (h : ∀ a, off a + S1x128.size a ≤ S32x128.size a) : Memref sig .scVector .vmem S128 .i32 :=
  ((sV).slice (Rect.unit (s := S32x128) off S1x128.size h) (fun _ => rfl)).squeeze S128 squeezes_S1x128_S128
abbrev tAll : Memref sig .scVector .hbm S4096x128 .f32 := (tV).slice (Rect.unit (s := S4096x128) ![0, 0] S4096x128.size inb_S4096x128_S4096x128_0_0) (fun _ => rfl)

theorem iRowK_emb (x : S32x128.Idx) : (iRowK L).view.emb x = ix3 (widF L) (x 0) (x 1) := by
  have key : ∀ (off : Fin 3 → ℕ) (h : ∀ a, off a + S1x32x128.size a ≤ S32x32x128.size a), off = ![wid L, 0, 0] →
      (((iV).slice (Rect.unit (s := S32x32x128) off S1x32x128.size h) (fun _ => rfl)).squeeze S32x128 squeezes_S1x32x128_S32x128).view.emb x = ix3 (widF L) (x 0) (x 1) := by
    intro off h e; subst e
    have hs : ∀ h, Shape.reshapeEquiv (s := S1x32x128) (s' := S32x128) h x = Fin.cons ⟨0, Nat.one_pos⟩ x := fun h => Shape.reshapeEquiv_cons_one (d := ![32, 128]) h x
    show (Rect.unit (s := S32x32x128) ![wid L, 0, 0] S1x32x128.size h).emb (Shape.reshapeEquiv _ x) = _
    rw [hs]
    funext a; apply Fin.ext
    rw [Rect.emb_apply]
    match a with
    | 0 => simp [Rect.unit]; rfl
    | 1 => simp [Rect.unit]; rfl
    | 2 => simp [Rect.unit]; rfl
  exact key _ _ (k1_off1_eq L)

theorem oAt_emb (w : Fin 32) (lo : ℕ) (hlo : lo + 128 ≤ 4096) (off : Fin 3 → ℕ) (h) (e : off = ![w.val, lo, 0]) (x : S128x128.Idx) :
    (oAt off h).view.emb x = ix3 w (⟨lo + (x 0).val, Nat.lt_of_lt_of_le (Nat.add_lt_add_left (x 0).isLt lo) hlo⟩ : Fin 4096) (x 1) := by
  subst e
  have hs : ∀ h, Shape.reshapeEquiv (s := S1x128x128) (s' := S128x128) h x = Fin.cons ⟨0, Nat.one_pos⟩ x := fun h => Shape.reshapeEquiv_cons_one (d := ![128, 128]) h x
  show (Rect.unit (s := S32x4096x128) ![w.val, lo, 0] S1x128x128.size h).emb (Shape.reshapeEquiv _ x) = _
  rw [hs]
  funext a; apply Fin.ext
  rw [Rect.emb_apply]
  match a with
  | 0 => simp [Rect.unit]; rfl
  | 1 => simp [Rect.unit]; rfl
  | 2 => simp [Rect.unit]; rfl

theorem sAt_emb (r : Fin 32) (off : Fin 2 → ℕ) (h) (e : off = ![r.val, 0]) (x : S128.Idx) : (sAt off h).view.emb x = ix2 r (x 0) := by
  subst e
  have hs : ∀ h, Shape.reshapeEquiv (s := S1x128) (s' := S128) h x = Fin.cons ⟨0, Nat.one_pos⟩ x := fun h => Shape.reshapeEquiv_cons_one (d := ![128]) h x
  show (Rect.unit (s := S32x128) ![r.val, 0] S1x128.size h).emb (Shape.reshapeEquiv _ x) = _
  rw [hs]
  funext a; apply Fin.ext
  rw [Rect.emb_apply]
  match a with
  | 0 => simp [Rect.unit]; rfl
  | 1 => simp [Rect.unit]; rfl

theorem tAll_emb (x : S4096x128.Idx) : (tAll).view.emb x = x := by
  show (Rect.unit (s := S4096x128) ![0, 0] S4096x128.size inb_S4096x128_S4096x128_0_0).emb x = _
  funext a; apply Fin.ext
  rw [Rect.emb_apply]
  match a with
  | 0 => simp [Rect.unit]
  | 1 => simp [Rect.unit]

theorem set_iRowK : (iRowK L).view.set = iSet (wid L) := by
  ext y; rw [View.set, Finset.mem_map, mem_iSet]
  constructor
  · rintro ⟨x, -, rfl⟩; rw [iRowK_emb]
  · intro e
    refine ⟨ix2 (y 1) (y 2), Finset.mem_univ _, ?_⟩
    rw [iRowK_emb]
    refine (congrArg (fun w => ix3 w (y 1) (y 2)) (Fin.ext e.symm : widF L = y 0)).trans (eq_ix3 y).symm

theorem set_oAt (w : Fin 32) (lo : ℕ) (hlo : lo + 128 ≤ 4096) (off : Fin 3 → ℕ) (h) (e : off = ![w.val, lo, 0]) :
    (oAt off h).view.set = oSet w.val lo (lo + 128) := by
  ext y; rw [View.set, Finset.mem_map, mem_oSet]
  constructor
  · rintro ⟨x, -, rfl⟩; rw [oAt_emb w lo hlo off h e]
    exact ⟨rfl, Nat.le_add_right _ _, Nat.add_lt_add_left (x 0).isLt lo⟩
  · rintro ⟨e0, h1, h2⟩
    refine ⟨ix2 (⟨(y 1).val - lo, by omega⟩ : Fin 128) (y 2), Finset.mem_univ _, ?_⟩
    rw [oAt_emb w lo hlo off h e]
    funext a; apply Fin.ext
    match a with
    | 0 => exact e0.symm
    | 1 => show lo + ((y 1).val - lo) = (y 1).val; omega
    | 2 => rfl

theorem set_tAll : (tAll).view.set = Finset.univ := by
  ext y; rw [View.set, Finset.mem_map]
  exact ⟨fun _ => Finset.mem_univ _, fun _ => ⟨y, Finset.mem_univ _, tAll_emb y⟩⟩

/-! ## The values the task moves -/

variable (tb : (d : Dev nD) → Buf (Elt F) (tLoc d)) (ic : (d : Dev nD) → Buf (Elt F) (iLoc d)) (oc : (d : Dev nD) → Buf (Elt F) (oLoc d))

/-- The task's list: row `w` of the index array. -/
def listVal (d : Dev nD) (L : grid1.Coords) : Buf (Elt F) ((V d (cV L) (jV L)).loc cc1_scratch0) :=
  fun (x : S32x128.Idx) => ic d (ix3 (widF L) (x 0) (x 1))

/-- The rows gathered by entries `(r, 0)` to `(r, 127)` of the list. -/
def rowVal (d : Dev nD) (w r : Fin 32) : S128x128.Idx → Elt F .f32 :=
  fun x => tb d (ix2 (rowAt (ic d (ix3 w r (x 0)))) (x 1))

/-- What the copy of the index row leaves is the list. -/
theorem list_eq (fs : Buf (Elt F) ((V d (cV L) (jV L)).loc cc1_scratch0)) :
    View.write (Elt F) (sV).view fs ((iRowK L).view.read (Elt F) (ic d)) Finset.univ = listVal ic d L := by
  rw [View.write_whole_univ]
  funext x
  exact ((View.read_apply _ _).trans (cast_eq _ _)).trans (congrArg (ic d) (iRowK_emb L x))

/-- The list as one stream reads it: entries `(r, 0)` to `(r, 127)`. -/
theorem sAt_read (r : Fin 32) (off : Fin 2 → ℕ) (h) (e : off = ![r.val, 0]) (x : S128.Idx) :
    (sAt off h).view.read (Elt F) (listVal ic d L) x = ic d (ix3 (widF L) r (x 0)) :=
  ((View.read_apply _ _).trans (cast_eq _ _)).trans (by rw [sAt_emb r off h e]; rfl)

theorem tAll_read (f : Buf (Elt F) (tLoc d)) (x : S4096x128.Idx) : (tAll).view.read (Elt F) f x = f x :=
  ((View.read_apply _ _).trans (cast_eq _ _)).trans (congrArg f (tAll_emb x))

/-- Every entry of the list is in range. -/
theorem list_inb (hic : InRows ic) (r : Fin 32) (off : Fin 2 → ℕ) (h) (e : off = ![r.val, 0]) :
    ∀ x, ((sAt off h).view.read (Elt F) (listVal ic d L) x).toNat < S4096x128.size gathers_S4096x128_S128x128.axis :=
  fun x => by rw [sAt_read d L ic r off h e]; exact hic d _

/-- The stream's payload is the rows its part of the list names. -/
theorem payload_eq (hic : InRows ic) (r : Fin 32) (off : Fin 2 → ℕ) (h) (e : off = ![r.val, 0]) (hn) (hin) :
    SparseCore.gatherPayload (F := F) (e := .f32) gathers_S4096x128_S128x128 ((tAll).view.read (Elt F) (tb d))
      (SparseCore.rows ((sAt off h).view.read (Elt F) (listVal ic d L)) hn hin) = rowVal tb ic d (widF L) r := by
  funext x
  show (tAll).view.read (Elt F) (tb d) _ = _
  rw [tAll_read]
  refine congrArg (tb d) ?_
  funext a; apply Fin.ext
  match a with
  | 0 =>
    have hx : ∀ k : Fin 128, S128.rowMajor.symm (k.cast hn.symm) = ix1 k := fun k => by
      rw [Equiv.symm_apply_eq]; apply Fin.ext; rw [Shape.rowMajor_val_one]; rfl
    show ((sAt off h).view.read (Elt F) (listVal ic d L) (S128.rowMajor.symm ((x 0).cast hn.symm))).toNat = _
    rw [hx (x 0), sAt_read d L ic r off h e]
    exact (Nat.mod_eq_of_lt (hic d _)).symm
  | 1 => rfl

/-- A chunk of the result written with the rows of list row `r` holds there what the call is to leave. -/
theorem chunk_eq (r : Fin 32) (off : Fin 3 → ℕ) (h) (e : off = ![wid L, 128 * r.val, 0]) (f : Buf (Elt F) (oLoc d)) :
    ∀ y ∈ oSet (wid L) (128 * r.val) (128 * r.val + 128),
      (oAt off h).view.write (Elt F) f (rowVal tb ic d (widF L) r) Finset.univ y = outVal tb ic d y := by
  have hlo : 128 * r.val + 128 ≤ 4096 := by have := r.isLt; omega
  intro y hy
  rw [← set_oAt (widF L) (128 * r.val) hlo off h e, View.set, Finset.mem_map] at hy
  obtain ⟨x, -, rfl⟩ := hy
  rw [View.write_emb_of_mem _ _ (Finset.mem_univ x), oAt_emb (widF L) (128 * r.val) hlo off h e]
  have hx : (x 0).val < 128 := (x 0).isLt
  refine (cast_eq _ _).trans (congrArg (tb d) ?_)
  refine congrArg (fun v => ix2 (rowAt (ic d v)) (x 1)) ?_
  funext a; apply Fin.ext
  match a with
  | 0 => rfl
  | 1 => show r.val = (128 * r.val + (x 0).val) / 128; omega
  | 2 => show (x 0).val = (128 * r.val + (x 0).val) % 128; omega

/-! ## The loop's steps -/

/-- The credit of one copy of a row buffer. -/
abbrev N : ℕ := (aV).view.dmaCredit

abbrev thr (d : Dev nD) (L : grid1.Coords) : Thread nD τ := V d (cV L) (jV L)

/-- A row buffer, at some contents. -/
abbrev bufPts (d : Dev nD) (L : grid1.Coords) (buf : Memref sig .scVector .vmem S128x128 .f32) : sProp 𝕄 :=
  iprop(∃ f, buf.view.loc (thr d L) ↦[buf.view.set]{fullShare} f)

/-- A row buffer between two trips: before the first trip it is the task's and its semaphore at zero; before a later
    one its copy to rows `lo` to `hi` of the block is in flight, and is to leave those rows at their final values. -/
def stage (k : ℕ) (buf : Memref sig .scVector .vmem S128x128 .f32) (sm : DmaSem sig) (lo hi : ℕ) : sProp 𝕄 :=
  if k = 0 then iprop((oLoc d ↦[oSet (wid L) lo hi]{fullShare} outVal tb ic d) ∗ bufPts d L buf ∗ semVal (thr d L, .dma sm) 0)
  else Transfers.Flight countersEmb (thr d L) (.dma sm) (default : HIx 1) N
    iprop((oLoc d ↦[oSet (wid L) lo hi]{fullShare} outVal tb ic d) ∗ bufPts d L buf)

variable [FloatOps F] [Named F]

/-- The wait that opens a trip, made from the second trip on: after it the buffer is the task's again and what its
    copy was writing is written. -/
theorem wp_reclaim {k : ℕ} {c : BitVec 1} (hc : c = 1#1 ↔ 0 < k) {buf : Memref sig .scVector .vmem S128x128 .f32} {sm : DmaSem sig} {lo hi : ℕ}
    {wt : c = 1#1 → Memref sig .scVector .hbm S128x128 .f32} {hb : buf.view.WordExact} {hw : ∀ h, (wt h).view.WordExact}
    {O : CellTallies nD τ sig (HIx 1)} {W : Waits sig (HIx 1)}
    {α : Type} {p : Prog (TpuEff nD τ sig (Elt F) Λ₀ (.scVector (cV L) (jV L))) α} {Q : α → sProp 𝕄} :
    iprop(Transfers.MayWaits (thr d L) (default : HIx 1) O ∗ stage d L tb ic k buf sm lo hi ∗ owes (thr d L) O W)
      ⊢ iprop((iprop((oLoc d ↦[oSet (wid L) lo hi]{fullShare} outVal tb ic d) ∗ bufPts d L buf ∗ semVal (thr d L, .dma sm) 0
              ∗ ∃ W', ⌜∀ p ∈ W', p ∈ W ∨ p.2 = none⌝ ∗ owes (thr d L) O W') -∗ wp frame (wpE (defs₀ (F := F)) 𝒱₀ (thr d L) none) Set.univ p Q)
          -∗ wp frame (wpE (defs₀ (F := F)) 𝒱₀ (thr d L) none) Set.univ
              (if h : c = 1#1 then (do Prog.lift (.waitDma2 sm buf (wt h) hb (hw h)); p) else p) Q) := by
  by_cases h : c = 1#1
  · have hk : ¬ k = 0 := Nat.pos_iff_ne_zero.mp (hc.mp h)
    rw [dif_pos h, wp_bind]; unfold stage; rw [if_neg hk]
    iintro ⟨Hmw, Hf, HO⟩ HQ
    iapply (Transfers.wp_waitLocalO countersEmb 𝒱₀ (thr d L) none (default : HIx 1) (rfl : (wt h).view.dmaCredit = N)) $$ [Hmw Hf HO]
    · isplitl [Hf]; · iexact Hf
      isplitl [HO]; · iexact HO
      iapply (Transfers.MayWaits.elim (SemLoc.dma sm)) $$ Hmw
    iintro ⟨⟨Ho, Hb⟩, Hsem, HO⟩
    simp only [wp_ret]
    imodintro
    iapply HQ
    isplitl [Ho]; · iexact Ho
    isplitl [Hb]; · iexact Hb
    isplitl [Hsem]; · iexact Hsem
    iexists _; isplitr
    swap; · iexact HO
    ipureintro; intro p hp
    rcases Finset.mem_insert.mp hp with hp | hp
    · exact .inr (hp ▸ rfl)
    · exact .inl hp
  · have hk : k = 0 := Nat.eq_zero_of_not_pos fun h' => h (hc.mpr h')
    rw [dif_neg h]; unfold stage; rw [if_pos hk]
    iintro ⟨-, ⟨Ho, Hb, Hsem⟩, HO⟩ HQ
    iapply HQ
    isplitl [Ho]; · iexact Ho
    isplitl [Hb]; · iexact Hb
    isplitl [Hsem]; · iexact Hsem
    iexists _; isplitr
    swap; · iexact HO
    ipureintro; exact fun p hp => .inl hp

/-- A gather by one row of the list and its wait: the row buffer then holds the rows named there. -/
theorem wp_fill (hic : InRows ic) {buf : Memref sig .scVector .vmem S128x128 .f32} {hb : buf.view.WordExact} {hsrc : (tAll).view.WordExact} {he : EltTy.f32.bits = 32}
    {hsp : Space.hbm = .hbm ∨ Space.hbm = .shared} {hr : S4096x128.StreamRows 0} {hp : Kind.scVector = .scVector} {hn : S128.numel = S128x128.size gathers_S4096x128_S128x128.axis'}
    (hN : ∑ j, (buf.slice (S128x128.rowRect gathers_S4096x128_S128x128.axis' j) (S128x128.stride_rowRect gathers_S4096x128_S128x128.axis' j)).view.dmaCredit = N)
    (r : Fin 32) {off : Fin 2 → ℕ} {h : ∀ a, off a + S1x128.size a ≤ S32x128.size a} (e : off = ![r.val, 0]) {q : PosShare TreeShare}
    {O : CellTallies nD τ sig (HIx 1)} {W : Waits sig (HIx 1)} {Q : PUnit → sProp 𝕄} :
    iprop(Transfers.MayWaits (thr d L) (default : HIx 1) O ∗ (tLoc d ↦{q} tb d)
        ∗ ((sV).view.loc (thr d L) ↦{fullShare} listVal ic d L) ∗ semVal (thr d L, .dma cc1_scratch3.sem) 0
        ∗ bufPts d L buf ∗ owes (thr d L) O W)
      ⊢ iprop((iprop((tLoc d ↦{q} tb d) ∗ ((sV).view.loc (thr d L) ↦{fullShare} listVal ic d L) ∗ semVal (thr d L, .dma cc1_scratch3.sem) 0
              ∗ (∃ f, ⌜buf.view.read (Elt F) f = rowVal tb ic d (widF L) r⌝ ∗ buf.view.loc (thr d L) ↦[buf.view.set]{fullShare} f)
              ∗ ∃ W', ⌜∀ p ∈ W', p ∈ W ∨ p.2 = none⌝ ∗ owes (thr d L) O W') -∗ Q ⟨⟩)
          -∗ wp frame (wpE (defs₀ (F := F)) 𝒱₀ (thr d L) none) Set.univ
              (SparseCore.enqueueIndirectGather hp tAll buf gathers_S4096x128_S128x128 (sAt off h) hn cc1_scratch3.sem hsrc he hsp hr)
              fun _ => wp frame (wpE (defs₀ (F := F)) 𝒱₀ (thr d L) none) Set.univ
                (SparseCore.waitIndirectGather cc1_scratch3.sem tAll buf hsrc hb) Q) := by
  iintro ⟨#Hmw, Ht, Hs, Hsem, ⟨%fb, Hb⟩, HO⟩ HQ
  ihave Hts := (pointsTo_split_subset (q := q) (f := tb d) (S := Finset.univ) (Finset.subset_univ (tAll).view.set)).1 $$ Ht
  icases Hts with ⟨Hts, Htr⟩
  ihave Hss := (pointsTo_split_subset (q := fullShare) (f := listVal ic d L) (S := Finset.univ) (Finset.subset_univ (sAt off h).view.set)).1 $$ Hs
  icases Hss with ⟨Hss, Hsr⟩
  rw [← wp_bind]
  iapply (SparseCore.wp_indirectGatherLocal countersEmb 𝒱₀ (thr d L) none (hg := gathers_S4096x128_S128x128) (default : HIx 1)
      N hN (by decide) (list_inb d L ic hic r off h e)) $$ [Hts Hb Hss Hsem]
  · isplitl [Hts]; · iexact Hts
    isplitl [Hb]; · iexact Hb
    isplitl [Hss]; · iexact Hss
    iexact Hsem
  iintro Hfl
  iapply (Transfers.wp_waitLocalO countersEmb 𝒱₀ (thr d L) none (default : HIx 1) (rfl : buf.view.dmaCredit = N)) $$ [Hfl HO]
  · isplitl [Hfl]; · iexact Hfl
    isplitl [HO]; · iexact HO
    iapply (Transfers.MayWaits.elim (SemLoc.dma cc1_scratch3.sem)) $$ Hmw
  iintro ⟨⟨Hb, Hts, Hss⟩, Hsem, HO⟩
  simp only [wp_ret]
  imodintro
  iapply HQ
  isplitl [Hts Htr]
  · iapply (pointsTo_split_subset (q := q) (f := tb d) (S := Finset.univ) (Finset.subset_univ (tAll).view.set)).2
    isplitl [Hts] <;> iassumption
  isplitl [Hss Hsr]
  · iapply (pointsTo_split_subset (q := fullShare) (f := listVal ic d L) (S := Finset.univ) (Finset.subset_univ (sAt off h).view.set)).2
    isplitl [Hss] <;> iassumption
  isplitl [Hsem]; · iexact Hsem
  isplitl [Hb]
  · iexists _; isplitr
    swap; · iexact Hb
    ipureintro
    rw [View.read_write_univ]
    exact payload_eq d L tb ic hic r off h e _ _
  iexists _; isplitr
  swap; · iexact HO
  ipureintro; intro p hp
  rcases Finset.mem_insert.mp hp with hp | hp
  · exact .inr (hp ▸ rfl)
  · exact .inl hp

/-- The copy out of a filled row buffer, to the chunk of the block that list row `r` fills: it is in flight, and leaves
    the chunk at its final values. -/
theorem wp_out {buf : Memref sig .scVector .vmem S128x128 .f32} {sm : DmaSem sig} {hb : buf.view.WordExact} {k : ℕ} (hk : k ≠ 0)
    (r : Fin 32) {lo hi : ℕ} (hlo : lo = 128 * r.val) (hhi : hi = lo + 128) {off : Fin 3 → ℕ} {h : ∀ a, off a + S1x128x128.size a ≤ S32x4096x128.size a}
    (e : off = ![wid L, 128 * r.val, 0]) {hdst : (oAt off h).view.WordExact} {hsem : DmaTarget.Typed (nD := nD) (τ := τ) (p := (thr d L).2) Space.vmem (.dma sm) (.here (oAt off h))}
    {Q : PUnit → sProp 𝕄} :
    iprop((∃ f, ⌜buf.view.read (Elt F) f = rowVal tb ic d (widF L) r⌝ ∗ buf.view.loc (thr d L) ↦[buf.view.set]{fullShare} f)
        ∗ (oLoc d ↦[oSet (wid L) lo hi]{fullShare} oc d) ∗ semVal (thr d L, .dma sm) 0)
      ⊢ iprop((stage d L tb ic k buf sm lo hi -∗ Q ⟨⟩)
          -∗ wp frame (wpE (defs₀ (F := F)) 𝒱₀ (thr d L) none) Set.univ
              (Prog.lift (.enqueueDma buf (.here (oAt off h)) (.dma sm) hb hdst hsem)) Q) := by
  subst hlo; subst hhi
  have hs := set_oAt (widF L) (128 * r.val) (by have := r.isLt; omega) off h e
  iintro ⟨⟨%f, %hf, Hb⟩, Ho, Hsem⟩ HQ
  iapply (Transfers.wp_dmaLocal countersEmb 𝒱₀ (thr d L) none (default : HIx 1) N rfl (by decide) (hs.le : (oAt off h).view.set ⊆ oSet (wid L) (128 * r.val) (128 * r.val + 128))) $$ [Hb Ho Hsem]
  · isplitl [Hb]; · iexact Hb
    isplitl [Ho]; · iexact Ho
    iexact Hsem
  iintro Hfl
  simp only [wp_ret]
  imodintro
  iapply HQ
  unfold stage; rw [if_neg hk]
  iapply (Transfers.Flight_mono countersEmb (thr d L) ?_) $$ Hfl
  iintro ⟨Ho, Hb⟩
  isplitl [Ho]
  · iapply (Entails.of_eq (pointsTo_congr (q := fullShare) (chunk_eq d L tb ic r off h e (oc d))))
    rw [← hf]; iexact Ho
  · iexists _; iexact Hb

end Tile

end Cert.Proof.KernelIdeal

end
-- ==== Proof.IdealTask.lean ====
/-
  The whole task of one vector subcore: its index row fetched, the sixteen trips of its loop at the invariant, the two
  copies still in flight waited for.
-/
module

public import proofs.«01_k».proof.Proof.IdealTile

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v13_scv : Memref Cert.KernelIdeal.sig Kind.scVector Space.hbm Cert.KernelIdeal.S4096x128 EltTy.f32)
local notation "iV" => (Memref.whole Cert.KernelIdeal.main_v11_scv : Memref Cert.KernelIdeal.sig Kind.scVector Space.hbm Cert.KernelIdeal.S32x32x128 EltTy.i32)
local notation "oV" => (Memref.whole Cert.KernelIdeal.main_v14_scv : Memref Cert.KernelIdeal.sig Kind.scVector Space.hbm Cert.KernelIdeal.S32x4096x128 EltTy.f32)
local notation "sV" => (Memref.whole Cert.KernelIdeal.cc1_scratch0 : Memref Cert.KernelIdeal.sig Kind.scVector Space.vmem Cert.KernelIdeal.S32x128 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

section Task

variable (d : Dev nD) (L : grid1.Coords)
variable (tb : (d : Dev nD) → Buf (Elt F) (tLoc d)) (ic : (d : Dev nD) → Buf (Elt F) (iLoc d)) (oc : (d : Dev nD) → Buf (Elt F) (oLoc d))

/-! ## The subcore's own semaphores and buffers, one by one -/

abbrev cell (d : Dev nD) (c : Fin τ.nSC) (i : Fin τ.nSub) (s : DmaSem sig) : GSem nD τ sig := (V d c i, .dma s)

theorem cell_mem (s : DmaSem sig) (h : (SemLoc.dma s : SemLoc sig).isScoped .scVector = true) :
    cell d (cV L) (jV L) s ∈ ownCells (V d (cV L) (jV L)) := (mem_ownCells (g := cell d (cV L) (jV L) s)).mpr ⟨rfl, h⟩

theorem cell_ne {s s' : DmaSem sig} (h : (SemLoc.dma s : SemLoc sig) ≠ .dma s') : cell d (cV L) (jV L) s ≠ cell d (cV L) (jV L) s' :=
  fun e => h (congrArg Prod.snd e)

abbrev restCells (d : Dev nD) (L : grid1.Coords) : Finset (GSem nD τ sig) :=
  ((((ownCells (V d (cV L) (jV L))).erase (cell d (cV L) (jV L) cc1_scratch3.sem)).erase (cell d (cV L) (jV L) cc1_scratch4.sem)).erase
    (cell d (cV L) (jV L) cc1_scratch5.sem)).erase (cell d (cV L) (jV L) cc1_scoped0.sem)

theorem ownSems0_V :
    (ownSems0 (V d (cV L) (jV L)) : sProp 𝕄)
      = iprop(semVal (cell d (cV L) (jV L) cc1_scratch3.sem) 0 ∗ semVal (cell d (cV L) (jV L) cc1_scratch4.sem) 0
          ∗ semVal (cell d (cV L) (jV L) cc1_scratch5.sem) 0 ∗ semVal (cell d (cV L) (jV L) cc1_scoped0.sem) 0
          ∗ bigSep (restCells d L) fun g => semVal g 0) := by
  unfold SparseCore.Cfg.ownSems0
  rw [SparseCore.bigSep_erase' (cell_mem d L cc1_scratch3.sem (by decide)),
    SparseCore.bigSep_erase' (Finset.mem_erase.mpr ⟨cell_ne d L (by decide), cell_mem d L cc1_scratch4.sem (by decide)⟩),
    SparseCore.bigSep_erase' (Finset.mem_erase.mpr ⟨cell_ne d L (by decide), Finset.mem_erase.mpr ⟨cell_ne d L (by decide), cell_mem d L cc1_scratch5.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc1_scoped0.sem (by decide)⟩⟩⟩)]

abbrev devRef (L : grid1.Coords) (b : Ref sig .scVector) : DevRef τ sig := (Proc.scVector (cV L) (jV L)).devRef b

theorem devRef_ne {b b' : Ref sig .scVector} (h : b ≠ b') : devRef L b ≠ devRef L b' := fun e => h (Proc.devRef_injective _ e)

abbrev restRefs (L : grid1.Coords) : Finset (DevRef τ sig) :=
  (((ownRefs (τ := τ) (.scVector (cV L) (jV L))).erase (devRef L cc1_scratch0)).erase (devRef L cc1_scratch1)).erase (devRef L cc1_scratch2)

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := devRef L cc1_scratch0) rfl)).trans ?_
  rw [SparseCore.bigSep_erase' (Finset.mem_erase.mpr ⟨devRef_ne L (by decide),
      SparseCore.Cfg.mem_ownRefs_of_owner (p := Proc.scVector (cV L) (jV L)) (b := devRef L cc1_scratch1) rfl⟩),
    SparseCore.bigSep_erase' (Finset.mem_erase.mpr ⟨devRef_ne L (by decide), Finset.mem_erase.mpr ⟨devRef_ne L (by decide),
      SparseCore.Cfg.mem_ownRefs_of_owner (p := Proc.scVector (cV L) (jV L)) (b := devRef L cc1_scratch2) rfl⟩⟩)]

theorem pts_iRowK (f : Buf (Elt F) (iLoc d)) :
    ((iRowK L).view.loc (V d (cV L) (jV L)) ↦[(iRowK L).view.set]{fullShare} f : sProp 𝕄) = iLoc d ↦[iSet (wid L)]{fullShare} f := by
  rw [set_iRowK]

theorem pts_buf (b : Ref sig .scVector) (f : Buf (Elt F) ((V d (cV L) (jV L)).loc b)) :
    ((V d (cV L) (jV L)).loc b ↦{fullShare} f : sProp 𝕄) = (Memref.whole b).view.loc (thr d L) ↦[(Memref.whole b).view.set]{fullShare} f := by
  rw [show (Memref.whole b).view.set = Finset.univ from View.set_whole _]

/-- What task `w` is given of the three arrays and gives back: its row of the index array, a share of the table, its block of the
    result. -/
abbrev taskRes (d : Dev nD) (w : Fin 32) (tb : (d : Dev nD) → Buf (Elt F) (tLoc d)) (ic : (d : Dev nD) → Buf (Elt F) (iLoc d))
    (oc : (d : Dev nD) → Buf (Elt F) (oLoc d)) (q : PosShare TreeShare) : sProp 𝕄 :=
  iprop((iLoc d ↦[iSet w.val]{fullShare} ic d) ∗ (tLoc d ↦{q} tb d) ∗ (oLoc d ↦[oSet w.val 0 4096]{fullShare} oc d))

/-! ## The loop -/

theorem trips_eq : k1_t1_loop.trips = 16 := by decide
theorem cond1_iff : ∀ k : Fin k1_t1_loop.trips, k1_cond1 k = 1#1 ↔ 0 < k.val := by decide
theorem cond2_iff : ∀ k : Fin k1_t1_loop.trips, k1_cond2 k = 1#1 ↔ 0 < k.val := by decide

/-- Before trip `k`: the table's share, the list and the gather's semaphore are the task's; rows below `256 (k - 1)` of
    its block are at their final values, the 256 rows after them are the two row buffers' (`stage`), and the rows from
    `256 k` on are untouched. -/
def inv (q : PosShare TreeShare) (O : CellTallies nD τ sig (HIx 1)) (W : Waits sig (HIx 1)) (k : ℕ) (_ : BitVec 32) : sProp 𝕄 :=
  iprop(Transfers.MayWaits (thr d L) (default : HIx 1) O ∗ (tLoc d ↦{q} tb d)
    ∗ ((sV).view.loc (thr d L) ↦{fullShare} listVal ic d L) ∗ semVal (thr d L, .dma cc1_scratch3.sem) 0
    ∗ (oLoc d ↦[oSet (wid L) 0 (256 * k - 256)]{fullShare} outVal tb ic d)
    ∗ stage d L tb ic k aV cc1_scratch4.sem (256 * k - 256) (256 * k - 128)
    ∗ stage d L tb ic k bV cc1_scratch5.sem (256 * k - 128) (256 * k)
    ∗ (oLoc d ↦[oSet (wid L) (256 * k) 4096]{fullShare} oc d)
    ∗ ∃ W', ⌜∀ p ∈ W', p ∈ W ∨ p.2 = none⌝ ∗ owes (thr d L) O W')

variable [FloatOps F] [Named F]

theorem bufN_a : ∀ h : S4096x128.Gathers 0 S128x128, ∑ j, ((aV).slice (S128x128.rowRect h.axis' j) (S128x128.stride_rowRect h.axis' j)).view.dmaCredit = N := by decide
theorem bufN_b : ∀ h : S4096x128.Gathers 0 S128x128, ∑ j, ((bV).slice (S128x128.rowRect h.axis' j) (S128x128.stride_rowRect h.axis' j)).view.dmaCredit = N := by decide

/-- List row `2 k + r`, the one trip `k` gathers by in its half `r`. -/
abbrev listRow (k : Fin k1_t1_loop.trips) (r : Fin 2) : Fin 32 := ⟨2 * k.val + r.val, by have h : k.val < 16 := lt_of_lt_of_eq k.isLt trips_eq; have := r.isLt; omega⟩

theorem off4_eq (k : Fin k1_t1_loop.trips) (r : Fin 2) :
    k1_off4 L k (BitVec.ofNat 32 r.val) = ![wid L, 128 * (listRow k r).val, 0] := by
  rw [k1_off4_eq]; unfold wid
  rw [show 256 * k.val + 128 * r.val = 128 * (listRow k r).val by show _ = 128 * (2 * k.val + r.val); omega]

/-- One trip of the loop keeps the invariant. -/
theorem trip (hic : InRows ic) (q : PosShare TreeShare) (O : CellTallies nD τ sig (HIx 1)) (W : Waits sig (HIx 1)) (k : Fin k1_t1_loop.trips) (acc : BitVec 32) :
    inv d L tb ic oc q O W k.val acc
      ⊢ wp frame (wpE (defs₀ (F := F)) 𝒱₀ (thr d L) none) Set.univ
          (k1_t1_body L tV (Memref.isWhole_whole _) iV (Memref.isWhole_whole _) oV (Memref.isWhole_whole _)
            sV (Memref.isWhole_whole _) aV (Memref.isWhole_whole _) bV (Memref.isWhole_whole _) cc1_scratch3 cc1_scratch4 cc1_scratch5 cc1_scoped0 k acc)
          fun acc' => inv d L tb ic oc q O W (k.val + 1) acc' := by
  have hk : k.val < 16 := lt_of_lt_of_eq k.isLt trips_eq
  simp only [k1_t1_body, k1_part1_eq_skeleton, k1_part1_skel, wp_bind]
  unfold inv
  iintro ⟨#Hmw, Ht, Hs, HsemG, Hdone, Ha, Hb, Hrest, %W', %hW', HO⟩
  iapply (wp_reclaim d L tb ic (cond1_iff k)) $$ [Ha HO]
  · isplitr; · iexact Hmw
    isplitl [Ha]; · iexact Ha
    iexact HO
  iintro ⟨Hda, Ha, HsemA, %W1, %hW1, HO⟩
  simp only [wp_bind]
  iapply (wp_fill d L tb ic hic (bufN_a _) (listRow k 0) (k1_off3_eq k 0)) $$ [Ht Hs HsemG Ha HO]
  · isplitr; · iexact Hmw
    isplitl [Ht]; · iexact Ht
    isplitl [Hs]; · iexact Hs
    isplitl [HsemG]; · iexact HsemG
    isplitl [Ha]; · iexact Ha
    iexact HO
  iintro ⟨Ht, Hs, HsemG, Ha, %W2, %hW2, HO⟩
  ihave Hr2 := (oPts_split d (wid L) (mid := 256 * k.val + 128) (by omega) (by omega) (oc d)).1 $$ Hrest
  icases Hr2 with ⟨Hca, Hrest⟩
  iapply (wp_out d L tb ic oc (Nat.succ_ne_zero k.val) (listRow k 0) (lo := 256 * k.val) (hi := 256 * k.val + 128) (by show _ = 128 * (2 * k.val + 0); omega) rfl
    (off4_eq L k 0)) $$ [Ha Hca HsemA]
  · isplitl [Ha]; · iexact Ha
    isplitl [Hca]; · iexact Hca
    iexact HsemA
  iintro Ha
  iapply (wp_reclaim d L tb ic (cond2_iff k)) $$ [Hb HO]
  · isplitr; · iexact Hmw
    isplitl [Hb]; · iexact Hb
    iexact HO
  iintro ⟨Hdb, Hb, HsemB, %W3, %hW3, HO⟩
  simp only [wp_bind]
  iapply (wp_fill d L tb ic hic (bufN_b _) (listRow k 1) (k1_off3_eq k 1)) $$ [Ht Hs HsemG Hb HO]
  · isplitr; · iexact Hmw
    isplitl [Ht]; · iexact Ht
    isplitl [Hs]; · iexact Hs
    isplitl [HsemG]; · iexact HsemG
    isplitl [Hb]; · iexact Hb
    iexact HO
  iintro ⟨Ht, Hs, HsemG, Hb, %W4, %hW4, HO⟩
  simp only [wp_pure]
  imodintro
  ihave Hr2 := (oPts_split d (wid L) (mid := 256 * k.val + 256) (by omega) (by omega) (oc d)).1 $$ Hrest
  icases Hr2 with ⟨Hcb, Hrest⟩
  iapply (wp_out d L tb ic oc (Nat.succ_ne_zero k.val) (listRow k 1) (lo := 256 * k.val + 128) (hi := 256 * k.val + 256) (by show _ = 128 * (2 * k.val + 1); omega) rfl
    (off4_eq L k 1)) $$ [Hb Hcb HsemB]
  · isplitl [Hb]; · iexact Hb
    isplitl [Hcb]; · iexact Hcb
    iexact HsemB
  iintro Hb
  imodintro
  rw [show 256 * (k.val + 1) - 256 = 256 * k.val by omega, show 256 * (k.val + 1) - 128 = 256 * k.val + 128 by omega, show 256 * (k.val + 1) = 256 * k.val + 256 by omega]
  isplitr; · iexact Hmw
  isplitl [Ht]; · iexact Ht
  isplitl [Hs]; · iexact Hs
  isplitl [HsemG]; · iexact HsemG
  isplitl [Hdone Hda Hdb]
  · iapply (oPts_split d (wid L) (mid := 256 * k.val - 128) (by omega) (by omega) (outVal tb ic d)).2
    isplitr [Hdb]
    · iapply (oPts_split d (wid L) (mid := 256 * k.val - 256) (by omega) (by omega) (outVal tb ic d)).2
      isplitl [Hdone]; · iexact Hdone
      iexact Hda
    iexact Hdb
  isplitl [Ha]; · iexact Ha
  isplitl [Hb]; · iexact Hb
  isplitl [Hrest]; · iexact Hrest
  iexists W4; isplitr
  swap; · iexact HO
  ipureintro; intro p hp
  rcases hW4 p hp with hp | hp; swap; · exact .inr hp
  rcases hW3 p hp with hp | hp; swap; · exact .inr hp
  rcases hW2 p hp with hp | hp; swap; · exact .inr hp
  rcases hW1 p hp with hp | hp; swap; · exact .inr hp
  exact hW' p hp

set_option maxHeartbeats 4000000 in
/-- The task of vector subcore `L 1` of SparseCore `L 0`: from its row of the index array, its share of the table and its
    block of the result to the same with the block at its final values. -/
theorem tile_body (hF : (K (F := F)).Facts) (hic : InRows ic) (q : PosShare TreeShare) (O : CellTallies nD τ sig (HIx 1)) (W : Waits sig (HIx 1)) (hO : ∀ g, O g none = 0) :
    iprop(levAts (K (F := F)).L (K (F := F)).lev ∗ emp
        ∗ taskRes d (widF L) tb ic oc q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__permgather_body L tV (Memref.isWhole_whole _) iV (Memref.isWhole_whole _) oV (Memref.isWhole_whole _)
            sV (Memref.isWhole_whole _) aV (Memref.isWhole_whole _) bV (Memref.isWhole_whole _) cc1_scratch3 cc1_scratch4 cc1_scratch5 cc1_scoped0)
          fun _ => iprop(taskRes d (widF L) tb ic (outVal tb ic) q
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__permgather_body_eq_skeleton]; unfold cc1__permgather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fa, Ha⟩, ⟨%fb, Hb⟩, Hbufs⟩, ⟨HsemG, HsemA, HsemB, HsemI, Hsems⟩, HO⟩
  ihave #Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (show ((V d (cV L) (jV L)).loc cc1_scratch0 ↦{fullShare} fs : sProp 𝕄) = (sV).view.loc (thr d L) ↦{fullShare} fs from rfl)) $$ Hs
  sl_exec
  sl_for (inv d L tb ic oc q O W) $$ [Hs' Ht Ho Ha Hb HsemG HsemA HsemB HO]
  case region => intro k acc; exact trip d L tb ic oc hic q O W k acc
  · unfold inv stage
    rw [if_pos rfl, if_pos rfl]
    ihave Ho := (oPts_split d (wid L) (mid := 0) (le_refl 0) (Nat.zero_le _) (oc d)).1 $$ Ho
    icases Ho with ⟨Ho0, Ho⟩
    ihave Ho := (oPts_split d (wid L) (mid := 0) (le_refl 0) (Nat.zero_le _) (oc d)).1 $$ Ho
    icases Ho with ⟨Ho1, Ho⟩
    ihave Ho := (oPts_split d (wid L) (mid := 0) (le_refl 0) (Nat.zero_le _) (oc d)).1 $$ Ho
    icases Ho with ⟨Ho2, Ho⟩
    have he : (oLoc d ↦[oSet (wid L) 0 0]{fullShare} oc d : sProp 𝕄) = oLoc d ↦[oSet (wid L) 0 0]{fullShare} outVal tb ic d :=
      pointsTo_congr fun y hy => by rw [oSet_empty] at hy; exact absurd hy (Finset.notMem_empty y)
    ihave Ho0 := (Entails.of_eq he) $$ Ho0
    ihave Ho1 := (Entails.of_eq he) $$ Ho1
    ihave Ho2 := (Entails.of_eq he) $$ Ho2
    isplitr; · iexact Hmw
    isplitl [Ht]; · iexact Ht
    isplitl [Hs']; · iapply (Entails.of_eq (congrArg (fun f => ((sV).view.loc (thr d L) ↦{fullShare} f : sProp 𝕄)) (list_eq d L ic fs))); iexact Hs'
    isplitl [HsemG]; · iexact HsemG
    isplitl [Ho0]; · iexact Ho0
    isplitl [Ho1 Ha HsemA]
    · isplitl [Ho1]; · iexact Ho1
      isplitl [Ha]; · iexists fa; iapply (Entails.of_eq (pts_buf d L cc1_scratch1 fa)); iexact Ha
      iexact HsemA
    isplitl [Ho2 Hb HsemB]
    · isplitl [Ho2]; · iexact Ho2
      isplitl [Hb]; · iexists fb; iapply (Entails.of_eq (pts_buf d L cc1_scratch2 fb)); iexact Hb
      iexact HsemB
    isplitl [Ho]; · iexact Ho
    iexists _; isplitr
    swap; · iexact HO
    ipureintro; intro p hp
    rcases Finset.mem_insert.mp hp with hp | hp
    · exact .inr (hp ▸ rfl)
    · exact .inl hp
  iintro %_ HI
  rw [show Scf.trips k1_t1_loop.lb k1_t1_loop.ub k1_t1_loop.st = 16 from trips_eq]
  unfold inv stage
  rw [if_neg (by decide), if_neg (by decide)]
  icases HI with ⟨-, Ht, Hs, HsemG, Hdone, Ha, Hb, Hrest, %W', %hW', HO⟩
  sl_exec
  iapply (Transfers.wp_waitLocalO countersEmb 𝒱₀ (thr d L) none (default : HIx 1) (show (oAt (k1_off6 L) (k1_off6_inb L)).view.dmaCredit = N from rfl)) $$ [Ha HO]
  · isplitl [Ha]; · iexact Ha
    isplitl [HO]; · iexact HO
    iapply (Transfers.MayWaits.elim (SemLoc.dma cc1_scratch4.sem)) $$ Hmw
  iintro ⟨⟨Hda, %fa', Ha⟩, HsemA, HO⟩
  sl_exec
  iapply (Transfers.wp_waitLocalO countersEmb 𝒱₀ (thr d L) none (default : HIx 1) (show (oAt (k1_off7 L) (k1_off7_inb L)).view.dmaCredit = N from rfl)) $$ [Hb HO]
  · isplitl [Hb]; · iexact Hb
    isplitl [HO]; · iexact HO
    iapply (Transfers.MayWaits.elim (SemLoc.dma cc1_scratch5.sem)) $$ Hmw
  iintro ⟨⟨Hdb, %fb', Hb⟩, HsemB, HO⟩
  simp only [wp_pure]
  imodintro
  isplitl [Hi' Ht Hdone Hda Hdb Hrest]
  · isplitl [Hi']; · iapply (Entails.of_eq (pts_iRowK (F := F) d L _)); iexact Hi'
    isplitl [Ht]; · iexact Ht
    iapply (oPts_split d (wid L) (mid := 3968) (by decide) (by decide) (outVal tb ic d)).2
    isplitr [Hdb]
    · iapply (oPts_split d (wid L) (mid := 3840) (by decide) (by decide) (outVal tb ic d)).2
      isplitl [Hdone]; · iexact Hdone
      iexact Hda
    iexact Hdb
  isplitl [Hs Ha Hb Hbufs]
  · isplitl [Hs]; · iexists _; iexact Hs
    isplitl [Ha]; · iexists fa'; iapply (Entails.of_eq (pts_buf d L cc1_scratch1 fa').symm); iexact Ha
    isplitl [Hb]; · iexists fb'; iapply (Entails.of_eq (pts_buf d L cc1_scratch2 fb').symm); iexact Hb
    iexact Hbufs
  isplitl [HsemG HsemA HsemB HsemI Hsems]
  · isplitl [HsemG]; · iexact HsemG
    isplitl [HsemA]; · iexact HsemA
    isplitl [HsemB]; · iexact HsemB
    isplitl [HsemI]; · iexact HsemI
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Task

end Cert.Proof.KernelIdeal

end
-- ==== Proof.IdealLaunch.lean ====
/-
  The launch of the gather: what the call's handshakes carry, each task's obligation, the three arrays split over the
  thirty-two tasks and joined again, and the ghost state the launch starts from.
-/
module

public import proofs.«01_k».proof.Proof.IdealTask
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v13_scv : Memref Cert.KernelIdeal.sig Kind.scVector Space.hbm Cert.KernelIdeal.S4096x128 EltTy.f32)
local notation "iV" => (Memref.whole Cert.KernelIdeal.main_v11_scv : Memref Cert.KernelIdeal.sig Kind.scVector Space.hbm Cert.KernelIdeal.S32x32x128 EltTy.i32)
local notation "oV" => (Memref.whole Cert.KernelIdeal.main_v14_scv : Memref Cert.KernelIdeal.sig Kind.scVector Space.hbm Cert.KernelIdeal.S32x4096x128 EltTy.f32)
local notation "sV" => (Memref.whole Cert.KernelIdeal.cc1_scratch0 : Memref Cert.KernelIdeal.sig Kind.scVector Space.vmem Cert.KernelIdeal.S32x128 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

variable (tb : (d : Dev nD) → Buf (Elt F) (tLoc d)) (ic : (d : Dev nD) → Buf (Elt F) (iLoc d)) (oc : (d : Dev nD) → Buf (Elt F) (oLoc d))

/-! ## What the handshakes carry -/

/-- Task `w`'s share of the table. -/
abbrev tq (w : Fin 32) : PosShare TreeShare := Transfers.shareTok fullShare 32 w

/-- The number of the task on subcore `i` of SparseCore `c`. -/
def taskOf (c : Fin 2) (i : Fin 16) : Fin 32 := ⟨2 * i.val + c.val, by omega⟩

/-- SparseCore `c` takes its sixteen tasks' parts of the three arrays and brings them back, the result's at their final
    values; each task its own part. -/
def P : (K (F := F)).Pay (nD := nD) (Val := Elt F) (Name := ℕ) (U := UU) where
  st := fun q d c => match q with | 0 => bigSep Finset.univ fun i : Fin 16 => taskRes d (taskOf c i) tb ic oc (tq (taskOf c i))
  dn := fun q d c => match q with | 0 => bigSep Finset.univ fun i : Fin 16 => taskRes d (taskOf c i) tb ic (outVal tb ic) (tq (taskOf c i))
  go := fun q d c i => match q with | 0 => taskRes d (taskOf c i) tb ic oc (tq (taskOf c i))
  td := fun q d c i => match q with | 0 => taskRes d (taskOf c i) tb ic (outVal tb ic) (tq (taskOf c i))
  x := fun _ _ => iprop(emp)

instance P_storable : (P tb ic oc).IsStorable where
  st q d c := match q with
    | 0 => (inferInstance : BI.Storable (upEmb : UEmb _ 𝕄) (bigSep Finset.univ fun i : Fin 16 => taskRes d (taskOf c i) tb ic oc (tq (taskOf c i))))
  dn q d c := match q with
    | 0 => (inferInstance : BI.Storable (upEmb : UEmb _ 𝕄) (bigSep Finset.univ fun i : Fin 16 => taskRes d (taskOf c i) tb ic (outVal tb ic) (tq (taskOf c i))))
  go q d c i := match q with
    | 0 => (inferInstance : BI.Storable (upEmb : UEmb _ 𝕄) (taskRes d (taskOf c i) tb ic oc (tq (taskOf c i))))
  td q d c i := match q with
    | 0 => (inferInstance : BI.Storable (upEmb : UEmb _ 𝕄) (taskRes d (taskOf c i) tb ic (outVal tb ic) (tq (taskOf c i))))

/-! ## The arrays over the tasks -/

theorem iSet_disjoint : ∀ i ∈ (Finset.univ : Finset (Fin 32)), ∀ j ∈ (Finset.univ : Finset (Fin 32)), i ≠ j → Disjoint (iSet i.val) (iSet j.val) :=
  fun i _ j _ h => Finset.disjoint_left.mpr fun x h1 h2 => h (Fin.ext ((mem_iSet.mp h1).symm.trans (mem_iSet.mp h2)))
theorem oSet_tasks_disjoint : ∀ i ∈ (Finset.univ : Finset (Fin 32)), ∀ j ∈ (Finset.univ : Finset (Fin 32)), i ≠ j → Disjoint (oSet i.val 0 4096) (oSet j.val 0 4096) :=
  fun i _ j _ h => Finset.disjoint_left.mpr fun x h1 h2 => h (Fin.ext ((mem_oSet.mp h1).1.symm.trans (mem_oSet.mp h2).1))
theorem iSet_cover : (Finset.univ : Finset (Fin 32)).biUnion (fun w => iSet w.val) = Finset.univ := by
  ext x; simp only [Finset.mem_biUnion, Finset.mem_univ, true_and, iff_true]
  exact ⟨x 0, mem_iSet.mpr rfl⟩
theorem oSet_cover : (Finset.univ : Finset (Fin 32)).biUnion (fun w => oSet w.val 0 4096) = Finset.univ := by
  ext x; simp only [Finset.mem_biUnion, Finset.mem_univ, true_and, iff_true]
  exact ⟨x 0, mem_oSet.mpr ⟨rfl, Nat.zero_le _, (x 1).isLt⟩⟩

theorem iPts_tasks (d : Dev nD) (f : Buf (Elt F) (iLoc d)) :
    (iLoc d ↦{fullShare} f : sProp 𝕄) = bigSep Finset.univ fun w : Fin 32 => iLoc d ↦[iSet w.val]{fullShare} f := by
  rw [← pointsTo_biUnion Finset.univ (ℓ := iLoc d) (fun w : Fin 32 => iSet w.val) iSet_disjoint, iSet_cover]
theorem oPts_tasks (d : Dev nD) (f : Buf (Elt F) (oLoc d)) :
    (oLoc d ↦{fullShare} f : sProp 𝕄) = bigSep Finset.univ fun w : Fin 32 => oLoc d ↦[oSet w.val 0 4096]{fullShare} f := by
  rw [← pointsTo_biUnion Finset.univ (ℓ := oLoc d) (fun w : Fin 32 => oSet w.val 0 4096) oSet_tasks_disjoint, oSet_cover]

/-- A family over the tasks is one over the SparseCores and their subcores. -/
theorem bigSep_tasks (Φ : Fin 32 → sProp 𝕄) :
    (bigSep Finset.univ fun c : Fin 2 => bigSep Finset.univ fun i : Fin 16 => Φ (taskOf c i)) = bigSep Finset.univ Φ := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show 2 * i.val + c.val = c.val + 2 * i.val
  omega

theorem vecSplit : (K (F := F)).VecSplit' (P tb ic oc) 0 := by
  intro d c
  show (bigSep Finset.univ fun i : Fin 16 => taskRes d (taskOf c i) tb ic oc (tq (taskOf c i)) : sProp 𝕄)
    ⊢ |={Set.univ}=> iprop((bigSep Finset.univ fun i : Fin 16 => taskRes d (taskOf c i) tb ic oc (tq (taskOf c i)))
      ∗ ((bigSep Finset.univ fun i : Fin 16 => taskRes d (taskOf c i) tb ic (outVal tb ic) (tq (taskOf c i)))
        -∗ bigSep Finset.univ fun i : Fin 16 => taskRes d (taskOf c i) tb ic (outVal tb ic) (tq (taskOf c i))))
  iintro H; imodintro
  isplitl [H]; · iexact H
  iintro H; iexact H

/-- What the whole call takes, over the tasks: the index array and the result whole, the table's shares. -/
theorem tasks_eq (d : Dev nD) (f : (d : Dev nD) → Buf (Elt F) (oLoc d)) :
    (bigSep Finset.univ fun c : Fin 2 => bigSep Finset.univ fun i : Fin 16 => taskRes d (taskOf c i) tb ic f (tq (taskOf c i)))
      = (iprop((iLoc d ↦{fullShare} ic d) ∗ (bigSep Finset.univ fun w : Fin 32 => tLoc d ↦{tq w} tb d) ∗ oLoc d ↦{fullShare} f d) : sProp 𝕄) := by
  rw [bigSep_tasks (F := F) (fun w => taskRes d w tb ic f (tq w)), bigSep_sep', bigSep_sep', iPts_tasks, oPts_tasks]

theorem st_eq (d : Dev nD) : (bigSep Finset.univ fun c : Fin ((K (F := F)).nCore 0) => (P tb ic oc).st 0 d c)
    = (iprop((iLoc d ↦{fullShare} ic d) ∗ (bigSep Finset.univ fun w : Fin 32 => tLoc d ↦{tq w} tb d) ∗ oLoc d ↦{fullShare} oc d) : sProp 𝕄) :=
  tasks_eq tb ic d oc
theorem dn_eq (d : Dev nD) : (bigSep Finset.univ fun c : Fin ((K (F := F)).nCore 0) => (P tb ic oc).dn 0 d c)
    = (iprop((iLoc d ↦{fullShare} ic d) ∗ (bigSep Finset.univ fun w : Fin 32 => tLoc d ↦{tq w} tb d) ∗ oLoc d ↦{fullShare} outVal tb ic d) : sProp 𝕄) :=
  tasks_eq tb ic d (outVal tb ic)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

variable [FloatOps F] [Named F]

theorem defs₀_vector (c : Fin τ.nSC) (s : Fin τ.nSub) :
    defs₀ (F := F) (.scVector c s) 1 ()
      = SparseCore.onTile hcore1 hsub1 (fun c s => cc1__permgather_body (coordsV c s) tV (Memref.isWhole_whole _) iV (Memref.isWhole_whole _) oV (Memref.isWhole_whole _)
            sV (Memref.isWhole_whole _) aV (Memref.isWhole_whole _) bV (Memref.isWhole_whole _) cc1_scratch3 cc1_scratch4 cc1_scratch5 cc1_scoped0) ⟨⟩ c s := rfl

/-- The waits a task records are among those a launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation, the indices being in range. -/
theorem tileObl (hF : (K (F := F)).Facts) (hic : InRows ic) : (K (F := F)).TileObl (D (F := F)) 𝒱 (P tb ic oc) v₀ 0 := by
  intro d c i O W hO _ _
  simp only [show (P tb ic oc).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tb ic oc hF hic (tq (taskOf c i)) O W hO).trans (wp_mono frame _ _ fun _ => obl_post)

/-! ## The launch element of the ghost state -/

/-- No pipeline has a prefetched table. -/
abbrev adm : (p : Fin 4) → (pcfgs (F := F) p).Adm := fun p => (cfgs p).toPCfg_adm

def u₀ : UU := (initOf (K (F := F)).hsCells (K (F := F)).hsToks, (initOf (Pipeline.cells cfgs cellOf_inj) (Pipeline.launchToks cfgs cellOf_inj), 1))

/-- What the launch deals device `d` for the pipelined calls: their staging cells' ghost state and tokens. -/
def G (d : Dev nD) : sProp 𝕄 :=
  iprop((bigSep Finset.univ fun p : Fin 4 => Pipeline.cellsGhost cfgs (EP (F := F)) p d)
    ∗ bigSep Finset.univ fun p : Fin 4 => Pipeline.toksInit cfgs (EP (F := F)) p d)

theorem bigSep_emp' {I : Type} (s : Finset I) : (bigSep s fun _ => iprop(emp)) = (iprop(emp) : sProp 𝕄) := bigSep_emp_const s

theorem ownU_pair' (a : UH) (b : UP) (e : Counters) : (ownU ((a, (b, e)) : UU) : sProp 𝕄) ⊢ iprop(BI.own (EH a) ∗ BI.own (EP b)) :=
  (ownU_pair a (b, e)).trans (sep_mono .rfl ((own_pair_emb (embR : Emb (UP × Counters) 𝕄) b e).trans sep_elim_left))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tb ic oc).x q thr) := by
  unfold u₀
  iintro Hu
  ihave H := (ownU_pair' _ _ _) $$ Hu
  icases H with ⟨HH, HP⟩
  imod (Pipeline.fund_ghost cfgs (EP (F := F)) cellOf_inj) $$ HP with ⟨HG, HT⟩
  imodintro
  isplitl [HH]; · iexact HH
  isplitl [HG HT]
  · unfold G
    rw [bigSep_sep']
    isplitl [HG] <;> iassumption
  rw [show (bigSep Finset.univ fun thr : Thread nD τ => bigSep Finset.univ fun q : Fin 1 => (P tb ic oc).x q thr) = bigSep Finset.univ fun _ => iprop(emp) from
    bigSep_congr fun _ _ => bigSep_univ_of_subsingleton (0 : Fin 1), bigSep_emp']
  iempintro

end Cert.Proof.KernelIdeal

end
-- ==== Proof.IdealRegions.lean ====
/-
  The four calls of the program that run on the TensorCore, each at a parameter `V`, the buffers' contents when the call is
  entered: what the body leaves in each output's staging buffer at each point, the call's proof data, and the body's
  obligation.  While either runs the TensorCore may owe `O` to other threads, its recorded waits within `B`.
-/
module

public import proofs.«01_k».proof.Proof.IdealLaunch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- What a call's body holds beside its windows: the scoped buffers that stage no window, and the generator register. -/
def held₀ {gr W : Nat} (win : Fin W → Pipeline.WinSpec sig gr) (c : Dev nD) : sProp 𝕄 :=
  iprop(Pipeline.scopedRest win c ∗ ∃ r, prngReg c r)

variable (O : (c : Dev nD) → CellTallies nD τ sig (HIx 1)) (B : (c : Dev nD) → Set (SemLoc sig × HIx 1))
variable (V : (c : Dev nD) → (b : Ref sig .tc) → Buf (Elt F) ((c : Thread nD τ).loc b))

/-- Window `w`'s block at point `t` of the coefficients call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev VO0_4 : View sig .tc .vmem S4096x64 .f32 := (Memref.whole cc0_stg4_0 : Memref sig .tc .vmem S4096x64 .f32).view
abbrev VO0_5 : View sig .tc .vmem S4096x16 .f32 := (Memref.whole cc0_stg5_0 : Memref sig .tc .vmem S4096x16 .f32).view
abbrev VO0_6 : View sig .tc .vmem S4096x16 .f32 := (Memref.whole cc0_stg6_0 : Memref sig .tc .vmem S4096x16 .f32).view
abbrev ms0_0 (t : Fin cfg0.N) : Memref sig .tc .vmem S4096x16 .f32 := win0_0.stage (cfg0.slots t 0)
abbrev hs0_0 (t : Fin cfg0.N) : (ms0_0 t).IsWhole := hstage0_0 0
abbrev ms0_1 (t : Fin cfg0.N) : Memref sig .tc .vmem S4096x16 .f32 := win0_1.stage (cfg0.slots t 1)
abbrev hs0_1 (t : Fin cfg0.N) : (ms0_1 t).IsWhole := hstage0_1 0
abbrev ms0_2 (t : Fin cfg0.N) : Memref sig .tc .vmem S4096x64 .f32 := win0_2.stage (cfg0.slots t 2)
abbrev hs0_2 (t : Fin cfg0.N) : (ms0_2 t).IsWhole := hstage0_2 0
abbrev ms0_3 (t : Fin cfg0.N) : Memref sig .tc .smem S2 .f32 := win0_3.stage (cfg0.slots t 3)
abbrev hs0_3 (t : Fin cfg0.N) : (ms0_3 t).IsWhole := hstage0_3 0
abbrev ms0_4 (t : Fin cfg0.N) : Memref sig .tc .vmem S4096x64 .f32 := win0_4.stage (cfg0.slots t 4)
abbrev hs0_4 (t : Fin cfg0.N) : (ms0_4 t).IsWhole := hstage0_4 0
abbrev ms0_5 (t : Fin cfg0.N) : Memref sig .tc .vmem S4096x16 .f32 := win0_5.stage (cfg0.slots t 5)
abbrev hs0_5 (t : Fin cfg0.N) : (ms0_5 t).IsWhole := hstage0_5 0
abbrev ms0_6 (t : Fin cfg0.N) : Memref sig .tc .vmem S4096x16 .f32 := win0_6.stage (cfg0.slots t 6)
abbrev hs0_6 (t : Fin cfg0.N) : (ms0_6 t).IsWhole := hstage0_6 0

set_option maxHeartbeats 1000000 in
/-- What the body of the coefficients call stores into each output's staging buffer, with the proof that it runs so: the stores are what the symbolic run finds. -/
noncomputable def kernelRun0_A (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) :
    Σ' (L4 : List (View.Piece (Elt F) S4096x64 .f32)), Σ' (L5 : List (View.Piece (Elt F) S4096x16 .f32)), { L6 : List (View.Piece (Elt F) S4096x16 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)) -∗ K ⟨⟩))
          ⊢ wp frame (wpE (defs₀ (F := F)) 𝒱₀ c none) E (cc0__coeff_body arg0 harg0 arg1 harg1 arg2 harg2 arg3 harg3 arg4 harg4 arg5 harg5 arg6 harg6) K } := by
  refine ⟨?_, ?_, ?_, fun E K => ?run⟩
  case run =>
    simp only [cc0__coeff_body_eq_skeleton]; unfold cc0__coeff_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

theorem cover0_A_4 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) (y : S4096x64.Idx) :
    ∃ pc ∈ (kernelRun0_A c arg0 harg0 arg1 harg1 arg2 harg2 arg3 harg3 arg4 harg4 arg5 harg5 arg6 harg6 x0 x1 x2 x3).1, y ∈ pc.1.set :=
  View.cover_of_tiledL (kernelRun0_A c arg0 harg0 arg1 harg1 arg2 harg2 arg3 harg3 arg4 harg4 arg5 harg5 arg6 harg6 x0 x1 x2 x3).1 S4096x64.size (by sl_kernel_rfl) y

def out0_A_4 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) : Vec F S4096x64 .f32 :=
  VO0_4.read (Elt F) (VO0_4.writes (Elt F) VO0_4.junk (kernelRun0_A c arg0 harg0 arg1 harg1 arg2 harg2 arg3 harg3 arg4 harg4 arg5 harg5 arg6 harg6 x0 x1 x2 x3).1)

theorem cover0_A_5 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) (y : S4096x16.Idx) :
    ∃ pc ∈ (kernelRun0_A c arg0 harg0 arg1 harg1 arg2 harg2 arg3 harg3 arg4 harg4 arg5 harg5 arg6 harg6 x0 x1 x2 x3).2.1, y ∈ pc.1.set :=
  View.cover_of_tiledL (kernelRun0_A c arg0 harg0 arg1 harg1 arg2 harg2 arg3 harg3 arg4 harg4 arg5 harg5 arg6 harg6 x0 x1 x2 x3).2.1 S4096x16.size (by sl_kernel_rfl) y

def out0_A_5 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) : Vec F S4096x16 .f32 :=
  VO0_5.read (Elt F) (VO0_5.writes (Elt F) VO0_5.junk (kernelRun0_A c arg0 harg0 arg1 harg1 arg2 harg2 arg3 harg3 arg4 harg4 arg5 harg5 arg6 harg6 x0 x1 x2 x3).2.1)

theorem cover0_A_6 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) (y : S4096x16.Idx) :
    ∃ pc ∈ (kernelRun0_A c arg0 harg0 arg1 harg1 arg2 harg2 arg3 harg3 arg4 harg4 arg5 harg5 arg6 harg6 x0 x1 x2 x3).2.2.1, y ∈ pc.1.set :=
  View.cover_of_tiledL (kernelRun0_A c arg0 harg0 arg1 harg1 arg2 harg2 arg3 harg3 arg4 harg4 arg5 harg5 arg6 harg6 x0 x1 x2 x3).2.2.1 S4096x16.size (by sl_kernel_rfl) y

def out0_A_6 (c : Dev nD) (arg0 : Memref sig .tc .vmem S4096x16 .f32) (harg0 : arg0.IsWhole) (arg1 : Memref sig .tc .vmem S4096x16 .f32) (harg1 : arg1.IsWhole) (arg2 : Memref sig .tc .vmem S4096x64 .f32) (harg2 : arg2.IsWhole) (arg3 : Memref sig .tc .smem S2 .f32) (harg3 : arg3.IsWhole) (arg4 : Memref sig .tc .vmem S4096x64 .f32) (harg4 : arg4.IsWhole) (arg5 : Memref sig .tc .vmem S4096x16 .f32) (harg5 : arg5.IsWhole) (arg6 : Memref sig .tc .vmem S4096x16 .f32) (harg6 : arg6.IsWhole)
    (x0 : Vec F S4096x16 .f32) (x1 : Vec F S4096x16 .f32) (x2 : Vec F S4096x64 .f32) (x3 : Vec F S2 .f32) : Vec F S4096x16 .f32 :=
  VO0_6.read (Elt F) (VO0_6.writes (Elt F) VO0_6.junk (kernelRun0_A c arg0 harg0 arg1 harg1 arg2 harg2 arg3 harg3 arg4 harg4 arg5 harg5 arg6 harg6 x0 x1 x2 x3).2.2.1)

/-- What the outputs' staging buffers hold after the body at point `t`. -/
def outsAt0 (c : Dev nD) (t : Fin cfg0.N) : Vec F S4096x64 .f32 × Vec F S4096x16 .f32 × Vec F S4096x16 .f32 :=
  (out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t))

/-- The coefficients call's proof data: the arrays as the call finds them, each input's buffer at its block, the outputs' at `outsAt0`, owing `O` throughout. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2
  Φ _ := held₀ spec0 c
  q _ := fullShare
  owed _ := O c
  recorded _ := B c

theorem A_eq0 (c : Dev nD) (w : Fin cfg0.W) : (dat0 O B V c).A w = V c (Pipeline.arrRef spec0 w) := by
  dsimp only [dat0]

theorem after0_0 (c : Dev nD) (t : Fin cfg0.N) : (dat0 O B V c).after 0 t = iblk0 V c 0 t := by dsimp only [dat0]
theorem after0_1 (c : Dev nD) (t : Fin cfg0.N) : (dat0 O B V c).after 1 t = iblk0 V c 1 t := by dsimp only [dat0]
theorem after0_2 (c : Dev nD) (t : Fin cfg0.N) : (dat0 O B V c).after 2 t = iblk0 V c 2 t := by dsimp only [dat0]
theorem after0_3 (c : Dev nD) (t : Fin cfg0.N) : (dat0 O B V c).after 3 t = iblk0 V c 3 t := by dsimp only [dat0]
theorem after0_4 (c : Dev nD) (t : Fin cfg0.N) : (dat0 O B V c).after 4 t = (outsAt0 V c t).1 := by dsimp only [dat0]
theorem after0_5 (c : Dev nD) (t : Fin cfg0.N) : (dat0 O B V c).after 5 t = (outsAt0 V c t).2.1 := by dsimp only [dat0]
theorem after0_6 (c : Dev nD) (t : Fin cfg0.N) : (dat0 O B V c).after 6 t = (outsAt0 V c t).2.2 := by dsimp only [dat0]

theorem before0_0 (c : Dev nD) (t : Fin cfg0.N) (d) : (dat0 O B V c).before 0 t d = iblk0 V c 0 t :=
  before0_0_of V (dat0 O B V c) (A_eq0 O B V c 0) (after0_0 O B V c) t d
theorem before0_1 (c : Dev nD) (t : Fin cfg0.N) (d) : (dat0 O B V c).before 1 t d = iblk0 V c 1 t :=
  before0_1_of V (dat0 O B V c) (A_eq0 O B V c 1) (after0_1 O B V c) t d
theorem before0_2 (c : Dev nD) (t : Fin cfg0.N) (d) : (dat0 O B V c).before 2 t d = iblk0 V c 2 t :=
  before0_2_of V (dat0 O B V c) (A_eq0 O B V c 2) (after0_2 O B V c) t d
theorem before0_3 (c : Dev nD) (t : Fin cfg0.N) (d) : (dat0 O B V c).before 3 t d = iblk0 V c 3 t :=
  before0_3_of V (dat0 O B V c) (A_eq0 O B V c 3) (after0_3 O B V c) t d

def bodyPre0 (c : Dev nD) (t : Fin cfg0.N) : sProp 𝕄 :=
  iprop((dat0 O B V c).Φ t.castSucc ∗ (dat0 O B V c).owesAt none t.castSucc
    ∗ (∃ d, owns (c : Thread nD τ) (ms0_0 t) fullShare ((dat0 O B V c).before 0 t d))
    ∗ (∃ d, owns (c : Thread nD τ) (ms0_1 t) fullShare ((dat0 O B V c).before 1 t d))
    ∗ (∃ d, owns (c : Thread nD τ) (ms0_2 t) fullShare ((dat0 O B V c).before 2 t d))
    ∗ (∃ d, owns (c : Thread nD τ) (ms0_3 t) fullShare ((dat0 O B V c).before 3 t d))
    ∗ (∃ d, owns (c : Thread nD τ) (ms0_4 t) fullShare ((dat0 O B V c).before 4 t d))
    ∗ (∃ d, owns (c : Thread nD τ) (ms0_5 t) fullShare ((dat0 O B V c).before 5 t d))
    ∗ (∃ d, owns (c : Thread nD τ) (ms0_6 t) fullShare ((dat0 O B V c).before 6 t d)))

def bodyPost0 (c : Dev nD) (t : Fin cfg0.N) : sProp 𝕄 :=
  iprop((dat0 O B V c).Φ t.succ ∗ (dat0 O B V c).owesAt none t.succ
    ∗ owns (c : Thread nD τ) (ms0_0 t) fullShare ((dat0 O B V c).after 0 t)
    ∗ owns (c : Thread nD τ) (ms0_1 t) fullShare ((dat0 O B V c).after 1 t)
    ∗ owns (c : Thread nD τ) (ms0_2 t) fullShare ((dat0 O B V c).after 2 t)
    ∗ owns (c : Thread nD τ) (ms0_3 t) fullShare ((dat0 O B V c).after 3 t)
    ∗ owns (c : Thread nD τ) (ms0_4 t) fullShare ((dat0 O B V c).after 4 t)
    ∗ owns (c : Thread nD τ) (ms0_5 t) fullShare ((dat0 O B V c).after 5 t)
    ∗ owns (c : Thread nD τ) (ms0_6 t) fullShare ((dat0 O B V c).after 6 t))

theorem sound_body0 (c : Dev nD) (t : Fin cfg0.N) :
    bodyPre0 O B V c t ⊢ wp frame (wpE (defs₀ (F := F)) 𝒱₀ c none) Set.univ (bodyAt0 t) (fun _ => bodyPost0 O B V c t) := by
  unfold bodyPre0 bodyPost0 bodyAt0
  simp only [before0_0, before0_1, before0_2, before0_3]
  rw [show (dat0 O B V c).Φ t.succ = (dat0 O B V c).Φ t.castSucc from rfl,
    show (dat0 O B V c).owesAt none t.succ = (dat0 O B V c).owesAt none t.castSucc from rfl,
    after0_0, after0_1, after0_2, after0_3, after0_4, after0_5, after0_6]
  unfold outsAt0
  unfold out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ (iblk0 V c 0 t) (iblk0 V c 1 t) (iblk0 V c 2 t) (iblk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rfl

/-- The body meets its obligation at every point. -/
theorem body_obligation0 (c : Dev nD) : BodyObligation (dat0 (F := F) O B V c) (defs₀ (F := F)) 𝒱₀ none Set.univ := fun t => by
  rw [bigSep_W0, bigSep_W0, defs₀_row0]
  exact triple_restated (sound_body0 O B V c t) rfl .rfl fun _ => .rfl

/-- Window `w`'s block at point `t` of the sums call, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1280x64 := Rect.unit (s := S1280x64) ![0, 0] S1280x64.size inb_S1280x64_S1280x64_0_0

/-- What the body of the sums call leaves in its output's staging buffer. -/
def out2_2 (x0 : Vec F S1280x64 .f32) (x1 : Vec F S1280x64 .f32) : Vec F S1280x64 .f32 :=
  View.canon [⟨r2_0, k2_pay1 (View.ld x0 r2_0) (View.ld x1 r2_0)⟩]

theorem cover2_2 (p0 : Vec F S1280x64 .f32) (y : S1280x64.Idx) :
    ∃ pc ∈ ([⟨r2_0, p0⟩] : List (View.Piece (Elt F) S1280x64 .f32)), y ∈ pc.1.set :=
  View.cover_of_tiled [⟨r2_0, p0⟩] S1280x64.size (by rfl) y

set_option maxHeartbeats 1000000 in
/-- The body on its whole staging buffers. -/
theorem sound_kernel2 (c : Dev nD) (E : Set ℕ) (i : grid2.Coords) (arg1 : Memref sig .tc .vmem S1280x64 .f32) (harg1 : arg1.IsWhole) (arg2 : Memref sig .tc .vmem S1280x64 .f32) (harg2 : arg2.IsWhole) (arg3 : Memref sig .tc .vmem S1280x64 .f32) (harg3 : arg3.IsWhole)
    (x0 : Vec F S1280x64 .f32) (x1 : Vec F S1280x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) 𝒱₀ c none) E (cc2__add2_body i arg1 harg1 arg2 harg2 arg3 harg3) K := by
  simp only [cc2__add2_body_eq_skeleton]; unfold cc2__add2_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The sums call's proof data. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := held₀ spec2 c
  q _ := fullShare
  owed _ := O c
  recorded _ := B c

theorem A_eq2 (c : Dev nD) (w : Fin cfg2.W) : (dat2 O B V c).A w = V c (Pipeline.arrRef spec2 w) := by
  dsimp only [dat2]

theorem after2_0 (c : Dev nD) (t : Fin cfg2.N) : (dat2 O B V c).after 0 t = iblk2 V c 0 t := by dsimp only [dat2]
theorem after2_1 (c : Dev nD) (t : Fin cfg2.N) : (dat2 O B V c).after 1 t = iblk2 V c 1 t := by dsimp only [dat2]
theorem after2_2 (c : Dev nD) (t : Fin cfg2.N) : (dat2 O B V c).after 2 t = out2_2 (iblk2 V c 0 t) (iblk2 V c 1 t) := by dsimp only [dat2]

theorem before2_0 (c : Dev nD) (t : Fin cfg2.N) (d) : (dat2 O B V c).before 0 t d = iblk2 V c 0 t :=
  before2_0_of V (dat2 O B V c) (A_eq2 O B V c 0) (after2_0 O B V c) t d
theorem before2_1 (c : Dev nD) (t : Fin cfg2.N) (d) : (dat2 O B V c).before 1 t d = iblk2 V c 1 t :=
  before2_1_of V (dat2 O B V c) (A_eq2 O B V c 1) (after2_1 O B V c) t d

def bodyPre2 (c : Dev nD) (t : Fin cfg2.N) : sProp 𝕄 :=
  iprop((dat2 O B V c).Φ t.castSucc ∗ (dat2 O B V c).owesAt none t.castSucc
    ∗ (∃ d, owns (c : Thread nD τ) (st2_0 t) fullShare ((dat2 O B V c).before 0 t d))
    ∗ (∃ d, owns (c : Thread nD τ) (st2_1 t) fullShare ((dat2 O B V c).before 1 t d))
    ∗ (∃ d, owns (c : Thread nD τ) (st2_2 t) fullShare ((dat2 O B V c).before 2 t d)))

def bodyPost2 (c : Dev nD) (t : Fin cfg2.N) : sProp 𝕄 :=
  iprop((dat2 O B V c).Φ t.succ ∗ (dat2 O B V c).owesAt none t.succ
    ∗ owns (c : Thread nD τ) (st2_0 t) fullShare ((dat2 O B V c).after 0 t)
    ∗ owns (c : Thread nD τ) (st2_1 t) fullShare ((dat2 O B V c).after 1 t)
    ∗ owns (c : Thread nD τ) (st2_2 t) fullShare ((dat2 O B V c).after 2 t))

theorem sound_body2 (c : Dev nD) (t : Fin cfg2.N) :
    bodyPre2 O B V c t ⊢ wp frame (wpE (defs₀ (F := F)) 𝒱₀ c none) Set.univ (bodyAt2 t) (fun _ => bodyPost2 O B V c t) := by
  unfold bodyPre2 bodyPost2 bodyAt2
  simp only [before2_0, before2_1]
  rw [show (dat2 O B V c).Φ t.succ = (dat2 O B V c).Φ t.castSucc from rfl,
    show (dat2 O B V c).owesAt none t.succ = (dat2 O B V c).owesAt none t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rfl

/-- The body meets its obligation at every point. -/
theorem body_obligation2 (c : Dev nD) : BodyObligation (dat2 (F := F) O B V c) (defs₀ (F := F)) 𝒱₀ none Set.univ := fun t => by
  rw [bigSep_W2, bigSep_W2, defs₀_row2]
  exact triple_restated (sound_body2 O B V c t) rfl .rfl fun _ => .rfl

/-- Window `w`'s block at point `t` of the means call, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1280x64 := Rect.unit (s := S1280x64) ![0, 0] S1280x64.size inb_S1280x64_S1280x64_0_0

/-- What the body of the means call leaves in its output's staging buffer. -/
def out3_4 (x0 : Vec F S1280x64 .f32) (x1 : Vec F S1280x64 .f32) (x2 : Vec F S1280x64 .f32) (x3 : Vec F S1280x64 .f32) : Vec F S1280x64 .f32 :=
  View.canon [⟨r3_0, k3_pay1 (View.ld x0 r3_0) (View.ld x1 r3_0) (View.ld x2 r3_0) (View.ld x3 r3_0)⟩]

theorem cover3_4 (p0 : Vec F S1280x64 .f32) (y : S1280x64.Idx) :
    ∃ pc ∈ ([⟨r3_0, p0⟩] : List (View.Piece (Elt F) S1280x64 .f32)), y ∈ pc.1.set :=
  View.cover_of_tiled [⟨r3_0, p0⟩] S1280x64.size (by rfl) y

set_option maxHeartbeats 1000000 in
/-- The body on its whole staging buffers. -/
theorem sound_kernel3 (c : Dev nD) (E : Set ℕ) (i : grid3.Coords) (arg1 : Memref sig .tc .vmem S1280x64 .f32) (harg1 : arg1.IsWhole) (arg2 : Memref sig .tc .vmem S1280x64 .f32) (harg2 : arg2.IsWhole) (arg3 : Memref sig .tc .vmem S1280x64 .f32) (harg3 : arg3.IsWhole) (arg4 : Memref sig .tc .vmem S1280x64 .f32) (harg4 : arg4.IsWhole) (arg5 : Memref sig .tc .vmem S1280x64 .f32) (harg5 : arg5.IsWhole)
    (x0 : Vec F S1280x64 .f32) (x1 : Vec F S1280x64 .f32) (x2 : Vec F S1280x64 .f32) (x3 : Vec F S1280x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) 𝒱₀ c none) E (cc3__mean3_body i arg1 harg1 arg2 harg2 arg3 harg3 arg4 harg4 arg5 harg5) K := by
  simp only [cc3__mean3_body_eq_skeleton]; unfold cc3__mean3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The means call's proof data. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := held₀ spec3 c
  q _ := fullShare
  owed _ := O c
  recorded _ := B c

theorem A_eq3 (c : Dev nD) (w : Fin cfg3.W) : (dat3 O B V c).A w = V c (Pipeline.arrRef spec3 w) := by
  dsimp only [dat3]

theorem after3_0 (c : Dev nD) (t : Fin cfg3.N) : (dat3 O B V c).after 0 t = iblk3 V c 0 t := by dsimp only [dat3]
theorem after3_1 (c : Dev nD) (t : Fin cfg3.N) : (dat3 O B V c).after 1 t = iblk3 V c 1 t := by dsimp only [dat3]
theorem after3_2 (c : Dev nD) (t : Fin cfg3.N) : (dat3 O B V c).after 2 t = iblk3 V c 2 t := by dsimp only [dat3]
theorem after3_3 (c : Dev nD) (t : Fin cfg3.N) : (dat3 O B V c).after 3 t = iblk3 V c 3 t := by dsimp only [dat3]
theorem after3_4 (c : Dev nD) (t : Fin cfg3.N) : (dat3 O B V c).after 4 t = out3_4 (iblk3 V c 0 t) (iblk3 V c 1 t) (iblk3 V c 2 t) (iblk3 V c 3 t) := by dsimp only [dat3]

theorem before3_0 (c : Dev nD) (t : Fin cfg3.N) (d) : (dat3 O B V c).before 0 t d = iblk3 V c 0 t :=
  before3_0_of V (dat3 O B V c) (A_eq3 O B V c 0) (after3_0 O B V c) t d
theorem before3_1 (c : Dev nD) (t : Fin cfg3.N) (d) : (dat3 O B V c).before 1 t d = iblk3 V c 1 t :=
  before3_1_of V (dat3 O B V c) (A_eq3 O B V c 1) (after3_1 O B V c) t d
theorem before3_2 (c : Dev nD) (t : Fin cfg3.N) (d) : (dat3 O B V c).before 2 t d = iblk3 V c 2 t :=
  before3_2_of V (dat3 O B V c) (A_eq3 O B V c 2) (after3_2 O B V c) t d
theorem before3_3 (c : Dev nD) (t : Fin cfg3.N) (d) : (dat3 O B V c).before 3 t d = iblk3 V c 3 t :=
  before3_3_of V (dat3 O B V c) (A_eq3 O B V c 3) (after3_3 O B V c) t d

def bodyPre3 (c : Dev nD) (t : Fin cfg3.N) : sProp 𝕄 :=
  iprop((dat3 O B V c).Φ t.castSucc ∗ (dat3 O B V c).owesAt none t.castSucc
    ∗ (∃ d, owns (c : Thread nD τ) (st3_0 t) fullShare ((dat3 O B V c).before 0 t d))
    ∗ (∃ d, owns (c : Thread nD τ) (st3_1 t) fullShare ((dat3 O B V c).before 1 t d))
    ∗ (∃ d, owns (c : Thread nD τ) (st3_2 t) fullShare ((dat3 O B V c).before 2 t d))
    ∗ (∃ d, owns (c : Thread nD τ) (st3_3 t) fullShare ((dat3 O B V c).before 3 t d))
    ∗ (∃ d, owns (c : Thread nD τ) (st3_4 t) fullShare ((dat3 O B V c).before 4 t d)))

def bodyPost3 (c : Dev nD) (t : Fin cfg3.N) : sProp 𝕄 :=
  iprop((dat3 O B V c).Φ t.succ ∗ (dat3 O B V c).owesAt none t.succ
    ∗ owns (c : Thread nD τ) (st3_0 t) fullShare ((dat3 O B V c).after 0 t)
    ∗ owns (c : Thread nD τ) (st3_1 t) fullShare ((dat3 O B V c).after 1 t)
    ∗ owns (c : Thread nD τ) (st3_2 t) fullShare ((dat3 O B V c).after 2 t)
    ∗ owns (c : Thread nD τ) (st3_3 t) fullShare ((dat3 O B V c).after 3 t)
    ∗ owns (c : Thread nD τ) (st3_4 t) fullShare ((dat3 O B V c).after 4 t))

theorem sound_body3 (c : Dev nD) (t : Fin cfg3.N) :
    bodyPre3 O B V c t ⊢ wp frame (wpE (defs₀ (F := F)) 𝒱₀ c none) Set.univ (bodyAt3 t) (fun _ => bodyPost3 O B V c t) := by
  unfold bodyPre3 bodyPost3 bodyAt3
  simp only [before3_0, before3_1, before3_2, before3_3]
  rw [show (dat3 O B V c).Φ t.succ = (dat3 O B V c).Φ t.castSucc from rfl,
    show (dat3 O B V c).owesAt none t.succ = (dat3 O B V c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row3 (t : Fin cfg3.N) :
    defs₀ (F := F) .tc cfg3.body (cfg3.bodyArgs t (cfg3.slots t)) = bodyAt3 t := by
  unfold defs₀; rfl

/-- The body meets its obligation at every point. -/
theorem body_obligation3 (c : Dev nD) : BodyObligation (dat3 (F := F) O B V c) (defs₀ (F := F)) 𝒱₀ none Set.univ := fun t => by
  rw [bigSep_W3, bigSep_W3, defs₀_row3]
  exact triple_restated (sound_body3 O B V c t) rfl .rfl fun _ => .rfl

/-- Window `w`'s block at point `t` of the last call, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 1) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) (HIx 1) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) (HIx 1) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) (HIx 1) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) (HIx 1) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) (HIx 1) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) (HIx 1) ℕ UU ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

abbrev VO4_7 : View sig .tc .vmem S256x64 .f32 := (Memref.whole cc4_stg7_0 : Memref sig .tc .vmem S256x64 .f32).view
abbrev ms4_0 (t : Fin cfg4.N) : Memref sig .tc .vmem S256x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32x256x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S32x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .smem S2 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256x64 .f32 := win4_7.stage (cfg4.slots t 7)
abbrev hs4_7 (t : Fin cfg4.N) : (ms4_7 t).IsWhole := hstage4_7 ((cfg4.slots t 7).cast nbuf4_7)

set_option maxHeartbeats 1000000 in
/-- What the body of the last call stores into each output's staging buffer, with the proof that it runs so: the stores are what the symbolic run finds. -/
noncomputable def kernelRun4_A (c : Dev nD) (i : grid4.Coords) (arg1 : Memref sig .tc .vmem S256x4096 .f32) (harg1 : arg1.IsWhole) (arg2 : Memref sig .tc .vmem S256x4096 .f32) (harg2 : arg2.IsWhole) (arg3 : Memref sig .tc .vmem S4096x64 .f32) (harg3 : arg3.IsWhole) (arg4 : Memref sig .tc .vmem S32x256x64 .f32) (harg4 : arg4.IsWhole) (arg5 : Memref sig .tc .vmem S32x256 .f32) (harg5 : arg5.IsWhole) (arg6 : Memref sig .tc .vmem S256x64 .f32) (harg6 : arg6.IsWhole) (arg7 : Memref sig .tc .smem S2 .f32) (harg7 : arg7.IsWhole) (arg8 : Memref sig .tc .vmem S256x64 .f32) (harg8 : arg8.IsWhole)
    (x0 : Vec F S256x4096 .f32) (x1 : Vec F S256x4096 .f32) (x2 : Vec F S4096x64 .f32) (x3 : Vec F S32x256x64 .f32) (x4 : Vec F S32x256 .f32) (x5 : Vec F S256x64 .f32) (x6 : Vec F S2 .f32) :
    { L7 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) 𝒱₀ c none) E (cc4__final_body i arg1 harg1 arg2 harg2 arg3 harg3 arg4 harg4 arg5 harg5 arg6 harg6 arg7 harg7 arg8 harg8) K } := by
  refine ⟨?_, fun E K => ?run⟩
  case run =>
    simp only [cc4__final_body_eq_skeleton]; unfold cc4__final_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

theorem cover4_A_7 (c : Dev nD) (i : grid4.Coords) (arg1 : Memref sig .tc .vmem S256x4096 .f32) (harg1 : arg1.IsWhole) (arg2 : Memref sig .tc .vmem S256x4096 .f32) (harg2 : arg2.IsWhole) (arg3 : Memref sig .tc .vmem S4096x64 .f32) (harg3 : arg3.IsWhole) (arg4 : Memref sig .tc .vmem S32x256x64 .f32) (harg4 : arg4.IsWhole) (arg5 : Memref sig .tc .vmem S32x256 .f32) (harg5 : arg5.IsWhole) (arg6 : Memref sig .tc .vmem S256x64 .f32) (harg6 : arg6.IsWhole) (arg7 : Memref sig .tc .smem S2 .f32) (harg7 : arg7.IsWhole) (arg8 : Memref sig .tc .vmem S256x64 .f32) (harg8 : arg8.IsWhole)
    (x0 : Vec F S256x4096 .f32) (x1 : Vec F S256x4096 .f32) (x2 : Vec F S4096x64 .f32) (x3 : Vec F S32x256x64 .f32) (x4 : Vec F S32x256 .f32) (x5 : Vec F S256x64 .f32) (x6 : Vec F S2 .f32) (y : S256x64.Idx) :
    ∃ pc ∈ (kernelRun4_A c i arg1 harg1 arg2 harg2 arg3 harg3 arg4 harg4 arg5 harg5 arg6 harg6 arg7 harg7 arg8 harg8 x0 x1 x2 x3 x4 x5 x6).1, y ∈ pc.1.set :=
  View.cover_of_tiledL (kernelRun4_A c i arg1 harg1 arg2 harg2 arg3 harg3 arg4 harg4 arg5 harg5 arg6 harg6 arg7 harg7 arg8 harg8 x0 x1 x2 x3 x4 x5 x6).1 S256x64.size (by sl_kernel_rfl) y

def out4_A_7 (c : Dev nD) (i : grid4.Coords) (arg1 : Memref sig .tc .vmem S256x4096 .f32) (harg1 : arg1.IsWhole) (arg2 : Memref sig .tc .vmem S256x4096 .f32) (harg2 : arg2.IsWhole) (arg3 : Memref sig .tc .vmem S4096x64 .f32) (harg3 : arg3.IsWhole) (arg4 : Memref sig .tc .vmem S32x256x64 .f32) (harg4 : arg4.IsWhole) (arg5 : Memref sig .tc .vmem S32x256 .f32) (harg5 : arg5.IsWhole) (arg6 : Memref sig .tc .vmem S256x64 .f32) (harg6 : arg6.IsWhole) (arg7 : Memref sig .tc .smem S2 .f32) (harg7 : arg7.IsWhole) (arg8 : Memref sig .tc .vmem S256x64 .f32) (harg8 : arg8.IsWhole)
    (x0 : Vec F S256x4096 .f32) (x1 : Vec F S256x4096 .f32) (x2 : Vec F S4096x64 .f32) (x3 : Vec F S32x256x64 .f32) (x4 : Vec F S32x256 .f32) (x5 : Vec F S256x64 .f32) (x6 : Vec F S2 .f32) : Vec F S256x64 .f32 :=
  VO4_7.read (Elt F) (VO4_7.writes (Elt F) VO4_7.junk (kernelRun4_A c i arg1 harg1 arg2 harg2 arg3 harg3 arg4 harg4 arg5 harg5 arg6 harg6 arg7 harg7 arg8 harg8 x0 x1 x2 x3 x4 x5 x6).1)

/-- What the outputs' staging buffers hold after the body at point `t`. -/
def outsAt4 (c : Dev nD) (t : Fin cfg4.N) : Vec F S256x64 .f32 :=
  out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) (iblk4 V c 5 t) (iblk4 V c 6 t)

/-- The last call's proof data: the arrays as the call finds them, each input's buffer at its block, the outputs' at `outsAt4`, owing `O` throughout. -/
def dat4 (c : Dev nD) : Dat τ (Elt F) (HIx 1) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t)
  Φ _ := held₀ spec4 c
  q _ := fullShare
  owed _ := O c
  recorded _ := B c

theorem A_eq4 (c : Dev nD) (w : Fin cfg4.W) : (dat4 O B V c).A w = V c (Pipeline.arrRef spec4 w) := by
  dsimp only [dat4]

theorem after4_0 (c : Dev nD) (t : Fin cfg4.N) : (dat4 O B V c).after 0 t = iblk4 V c 0 t := by dsimp only [dat4]
theorem after4_1 (c : Dev nD) (t : Fin cfg4.N) : (dat4 O B V c).after 1 t = iblk4 V c 1 t := by dsimp only [dat4]
theorem after4_2 (c : Dev nD) (t : Fin cfg4.N) : (dat4 O B V c).after 2 t = iblk4 V c 2 t := by dsimp only [dat4]
theorem after4_3 (c : Dev nD) (t : Fin cfg4.N) : (dat4 O B V c).after 3 t = iblk4 V c 3 t := by dsimp only [dat4]
theorem after4_4 (c : Dev nD) (t : Fin cfg4.N) : (dat4 O B V c).after 4 t = iblk4 V c 4 t := by dsimp only [dat4]
theorem after4_5 (c : Dev nD) (t : Fin cfg4.N) : (dat4 O B V c).after 5 t = iblk4 V c 5 t := by dsimp only [dat4]
theorem after4_6 (c : Dev nD) (t : Fin cfg4.N) : (dat4 O B V c).after 6 t = iblk4 V c 6 t := by dsimp only [dat4]
theorem after4_7 (c : Dev nD) (t : Fin cfg4.N) : (dat4 O B V c).after 7 t = (outsAt4 V c t) := by dsimp only [dat4]

theorem before4_0 (c : Dev nD) (t : Fin cfg4.N) (d) : (dat4 O B V c).before 0 t d = iblk4 V c 0 t :=
  before4_0_of V (dat4 O B V c) (A_eq4 O B V c 0) (after4_0 O B V c) t d
theorem before4_1 (c : Dev nD) (t : Fin cfg4.N) (d) : (dat4 O B V c).before 1 t d = iblk4 V c 1 t :=
  before4_1_of V (dat4 O B V c) (A_eq4 O B V c 1) (after4_1 O B V c) t d
theorem before4_2 (c : Dev nD) (t : Fin cfg4.N) (d) : (dat4 O B V c).before 2 t d = iblk4 V c 2 t :=
  before4_2_of V (dat4 O B V c) (A_eq4 O B V c 2) (after4_2 O B V c) t d
theorem before4_3 (c : Dev nD) (t : Fin cfg4.N) (d) : (dat4 O B V c).before 3 t d = iblk4 V c 3 t :=
  before4_3_of V (dat4 O B V c) (A_eq4 O B V c 3) (after4_3 O B V c) t d
theorem before4_4 (c : Dev nD) (t : Fin cfg4.N) (d) : (dat4 O B V c).before 4 t d = iblk4 V c 4 t :=
  before4_4_of V (dat4 O B V c) (A_eq4 O B V c 4) (after4_4 O B V c) t d
theorem before4_5 (c : Dev nD) (t : Fin cfg4.N) (d) : (dat4 O B V c).before 5 t d = iblk4 V c 5 t :=
  before4_5_of V (dat4 O B V c) (A_eq4 O B V c 5) (after4_5 O B V c) t d
theorem before4_6 (c : Dev nD) (t : Fin cfg4.N) (d) : (dat4 O B V c).before 6 t d = iblk4 V c 6 t :=
  before4_6_of V (dat4 O B V c) (A_eq4 O B V c 6) (after4_6 O B V c) t d

def bodyPre4 (c : Dev nD) (t : Fin cfg4.N) : sProp 𝕄 :=
  iprop((dat4 O B V c).Φ t.castSucc ∗ (dat4 O B V c).owesAt none t.castSucc
    ∗ (∃ d, owns (c : Thread nD τ) (ms4_0 t) fullShare ((dat4 O B V c).before 0 t d))
    ∗ (∃ d, owns (c : Thread nD τ) (ms4_1 t) fullShare ((dat4 O B V c).before 1 t d))
    ∗ (∃ d, owns (c : Thread nD τ) (ms4_2 t) fullShare ((dat4 O B V c).before 2 t d))
    ∗ (∃ d, owns (c : Thread nD τ) (ms4_3 t) fullShare ((dat4 O B V c).before 3 t d))
    ∗ (∃ d, owns (c : Thread nD τ) (ms4_4 t) fullShare ((dat4 O B V c).before 4 t d))
    ∗ (∃ d, owns (c : Thread nD τ) (ms4_5 t) fullShare ((dat4 O B V c).before 5 t d))
    ∗ (∃ d, owns (c : Thread nD τ) (ms4_6 t) fullShare ((dat4 O B V c).before 6 t d))
    ∗ (∃ d, owns (c : Thread nD τ) (ms4_7 t) fullShare ((dat4 O B V c).before 7 t d)))

def bodyPost4 (c : Dev nD) (t : Fin cfg4.N) : sProp 𝕄 :=
  iprop((dat4 O B V c).Φ t.succ ∗ (dat4 O B V c).owesAt none t.succ
    ∗ owns (c : Thread nD τ) (ms4_0 t) fullShare ((dat4 O B V c).after 0 t)
    ∗ owns (c : Thread nD τ) (ms4_1 t) fullShare ((dat4 O B V c).after 1 t)
    ∗ owns (c : Thread nD τ) (ms4_2 t) fullShare ((dat4 O B V c).after 2 t)
    ∗ owns (c : Thread nD τ) (ms4_3 t) fullShare ((dat4 O B V c).after 3 t)
    ∗ owns (c : Thread nD τ) (ms4_4 t) fullShare ((dat4 O B V c).after 4 t)
    ∗ owns (c : Thread nD τ) (ms4_5 t) fullShare ((dat4 O B V c).after 5 t)
    ∗ owns (c : Thread nD τ) (ms4_6 t) fullShare ((dat4 O B V c).after 6 t)
    ∗ owns (c : Thread nD τ) (ms4_7 t) fullShare ((dat4 O B V c).after 7 t))

set_option maxHeartbeats 800000 in
theorem sound_body4 (c : Dev nD) (t : Fin cfg4.N) :
    bodyPre4 O B V c t ⊢ wp frame (wpE (defs₀ (F := F)) 𝒱₀ c none) Set.univ (bodyAt4 t) (fun _ => bodyPost4 O B V c t) := by
  unfold bodyPre4 bodyPost4 bodyAt4
  simp only [before4_0, before4_1, before4_2, before4_3, before4_4, before4_5, before4_6]
  rw [show (dat4 O B V c).Φ t.succ = (dat4 O B V c).Φ t.castSucc from rfl,
    show (dat4 O B V c).owesAt none t.succ = (dat4 O B V c).owesAt none t.castSucc from rfl,
    after4_0, after4_1, after4_2, after4_3, after4_4, after4_5, after4_6, after4_7]
  unfold outsAt4
  unfold out4_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun4_A c (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover4_A_7 c _ _ _ _ _ _ _ _ _ _ _ _ _ _ _ _ _ _ _ _ _ _ _ _)

theorem defs₀_row4 (t : Fin cfg4.N) :
    defs₀ (F := F) .tc cfg4.body (cfg4.bodyArgs t (cfg4.slots t)) = bodyAt4 t := by
  unfold defs₀; rfl

/-- The body meets its obligation at every point. -/
theorem body_obligation4 (c : Dev nD) : BodyObligation (dat4 (F := F) O B V c) (defs₀ (F := F)) 𝒱₀ none Set.univ := fun t => by
  rw [bigSep_W4, bigSep_W4, defs₀_row4]
  exact triple_restated (sound_body4 O B V c t) rfl .rfl fun _ => .rfl

end Cert.Proof.KernelIdeal

end
-- ==== Proof.IdealCalls.lean ====
/-
  The program's buffers at each point of @main, and its two TensorCore calls as segments of it.
-/
module

public import proofs.«01_k».proof.Proof.IdealRegions
public import Idealize.ShloMosaic.Lib.Pipeline.Frame

@[expose] public section

noncomputable section

namespace Cert.Proof.KernelIdeal

open Cert.KernelIdeal Cert.KernelIdeal.Gen

open Idealize.ShloMosaic Idealize.ShloMosaic.TcCoe
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

open Idealize.ShloMosaic.StableHlo (held seq after launchContents)

variable [FloatOps F] [Named F]
variable (m : (ℓ : Loc nD τ sig) → Buf (Elt F) ℓ) (ρ : Dev nD → PrngReg)

/-! ## The host lines -/

/-- The host operations before the first call: the two modal weights, by softmax. -/
def opsA : List (HloOp τ sig (Elt F)) :=
  [StableHlo.nullary main_cst (constant S_ .f32 0xFF800000#32),
   StableHlo.binary main_arg4 main_cst main_v0 ((fun x v => Host.reduce FloatOps.maximumf x v Facts₀.reducesTo_S2_S_d0 Facts₀.h_S_) : (⟨S2, .f32⟩ : BufTy).Contents (Elt F) → (⟨S_, .f32⟩ : BufTy).Contents (Elt F) → (⟨S_, .f32⟩ : BufTy).Contents (Elt F)),
   StableHlo.unary main_v0 main_v1 (broadcastInDim S2 ![] Facts₀.bcast_S_S2 : (⟨S_, .f32⟩ : BufTy).Contents (Elt F) → (⟨S2, .f32⟩ : BufTy).Contents (Elt F)),
   StableHlo.binary main_arg4 main_v1 main_v2 (subf : (⟨S2, .f32⟩ : BufTy).Contents (Elt F) → (⟨S2, .f32⟩ : BufTy).Contents (Elt F) → (⟨S2, .f32⟩ : BufTy).Contents (Elt F)),
   StableHlo.unary main_v2 main_v3 (Host.exp : (⟨S2, .f32⟩ : BufTy).Contents (Elt F) → (⟨S2, .f32⟩ : BufTy).Contents (Elt F)),
   StableHlo.nullary main_cst_0 (constant S_ .f32 0x00000000#32),
   StableHlo.binary main_v3 main_cst_0 main_v4 ((fun x v => Host.reduceAdd x v Facts₀.reducesTo_S2_S_d0 Facts₀.h_S_) : (⟨S2, .f32⟩ : BufTy).Contents (Elt F) → (⟨S_, .f32⟩ : BufTy).Contents (Elt F) → (⟨S_, .f32⟩ : BufTy).Contents (Elt F)),
   StableHlo.unary main_v4 main_v5 (broadcastInDim S2 ![] Facts₀.bcast_S_S2 : (⟨S_, .f32⟩ : BufTy).Contents (Elt F) → (⟨S2, .f32⟩ : BufTy).Contents (Elt F)),
   StableHlo.binary main_v3 main_v5 main_v6 (Host.divf : (⟨S2, .f32⟩ : BufTy).Contents (Elt F) → (⟨S2, .f32⟩ : BufTy).Contents (Elt F) → (⟨S2, .f32⟩ : BufTy).Contents (Elt F))]

/-- Those between the first two calls: the neighbours' indices and coefficients, side by side, transposed and cut; the table padded. -/
def opsB : List (HloOp τ sig (Elt F)) :=
  [StableHlo.binary main_arg1 main_arg3 main_v8 ((fun a b => concatenate S4096x32 1 [⟨S4096x16, a⟩, ⟨S4096x16, b⟩] Facts₀.concatenates_S4096x16_S4096x16_S4096x32_d1) : (⟨S4096x16, .i32⟩ : BufTy).Contents (Elt F) → (⟨S4096x16, .i32⟩ : BufTy).Contents (Elt F) → (⟨S4096x32, .i32⟩ : BufTy).Contents (Elt F)),
   StableHlo.binary main_v7_1 main_v7_2 main_v9 ((fun a b => concatenate S4096x32 1 [⟨S4096x16, a⟩, ⟨S4096x16, b⟩] Facts₀.concatenates_S4096x16_S4096x16_S4096x32_d1) : (⟨S4096x16, .f32⟩ : BufTy).Contents (Elt F) → (⟨S4096x16, .f32⟩ : BufTy).Contents (Elt F) → (⟨S4096x32, .f32⟩ : BufTy).Contents (Elt F)),
   StableHlo.unary main_v8 main_v10 ((transpose S32x4096 [1, 0] · Facts₀.transposes_S4096x32_S32x4096_1_0) : (⟨S4096x32, .i32⟩ : BufTy).Contents (Elt F) → (⟨S32x4096, .i32⟩ : BufTy).Contents (Elt F)),
   StableHlo.reshape main_v10 main_v11 (rfl : (.i32 : EltTy) = .i32) Facts₀.shapeCasts_S32x4096_S32x32x128,
   StableHlo.unary main_v9 main_v12 ((transpose S32x4096 [1, 0] · Facts₀.transposes_S4096x32_S32x4096_1_0) : (⟨S4096x32, .f32⟩ : BufTy).Contents (Elt F) → (⟨S32x4096, .f32⟩ : BufTy).Contents (Elt F)),
   StableHlo.nullary main_c (constantI S_ 32 0#32),
   StableHlo.unary main_c main_call0_v0 (sitofp .f32),
   StableHlo.binary main_v7_0 main_call0_v0 main_v13 (fun x v => pad S4096x128 ![0, 0] ![0, 64] ![0, 0] x v Facts₀.pads_S4096x64_S4096x128_000_0640 Facts₀.h_S_)]

/-- Those after the gather: the first sixty-four columns of what was gathered; the embeddings, users and items; and the first layer's
    two partial sums. -/
def opsC : List (HloOp τ sig (Elt F)) :=
  [StableHlo.unary main_v14 main_v15 ((extractStridedSlice S32x4096x64 ![0, 0, 0] · Facts₀.slices_S32x4096x128_S32x4096x64_0_0_0) : (⟨S32x4096x128, .f32⟩ : BufTy).Contents (Elt F) → (⟨S32x4096x64, .f32⟩ : BufTy).Contents (Elt F)),
   StableHlo.binary main_arg8 main_arg5 main_v16 ((fun a b => concatenate S20480x64 0 [⟨S16384x64, a⟩, ⟨S4096x64, b⟩] Facts₀.concatenates_S16384x64_S4096x64_S20480x64_d0) : (⟨S16384x64, .f32⟩ : BufTy).Contents (Elt F) → (⟨S4096x64, .f32⟩ : BufTy).Contents (Elt F) → (⟨S20480x64, .f32⟩ : BufTy).Contents (Elt F)),
   StableHlo.unary main_arg9 main_v17 ((extractStridedSlice S1x20480x64 ![0, 0, 0] · Facts₀.slices_S2x20480x64_S1x20480x64_0_0_0) : (⟨S2x20480x64, .f32⟩ : BufTy).Contents (Elt F) → (⟨S1x20480x64, .f32⟩ : BufTy).Contents (Elt F)),
   StableHlo.reshape main_v17 main_v18 (rfl : (.f32 : EltTy) = .f32) Facts₀.shapeCasts_S1x20480x64_S20480x64,
   StableHlo.unary main_arg9 main_v19 ((extractStridedSlice S1x20480x64 ![1, 0, 0] · Facts₀.slices_S2x20480x64_S1x20480x64_1_0_0) : (⟨S2x20480x64, .f32⟩ : BufTy).Contents (Elt F) → (⟨S1x20480x64, .f32⟩ : BufTy).Contents (Elt F)),
   StableHlo.reshape main_v19 main_v20 (rfl : (.f32 : EltTy) = .f32) Facts₀.shapeCasts_S1x20480x64_S20480x64]

/-- The second layer's two partial sums. -/
def opsD : List (HloOp τ sig (Elt F)) :=
  [StableHlo.unary main_arg10 main_v22 ((extractStridedSlice S1x20480x64 ![0, 0, 0] · Facts₀.slices_S2x20480x64_S1x20480x64_0_0_0) : (⟨S2x20480x64, .f32⟩ : BufTy).Contents (Elt F) → (⟨S1x20480x64, .f32⟩ : BufTy).Contents (Elt F)),
   StableHlo.reshape main_v22 main_v23 (rfl : (.f32 : EltTy) = .f32) Facts₀.shapeCasts_S1x20480x64_S20480x64,
   StableHlo.unary main_arg10 main_v24 ((extractStridedSlice S1x20480x64 ![1, 0, 0] · Facts₀.slices_S2x20480x64_S1x20480x64_1_0_0) : (⟨S2x20480x64, .f32⟩ : BufTy).Contents (Elt F) → (⟨S1x20480x64, .f32⟩ : BufTy).Contents (Elt F)),
   StableHlo.reshape main_v24 main_v25 (rfl : (.f32 : EltTy) = .f32) Facts₀.shapeCasts_S1x20480x64_S20480x64]

/-- The last: the users' rows of the means. -/
def opsE : List (HloOp τ sig (Elt F)) :=
  [StableHlo.unary main_v26 main_v28 ((extractStridedSlice S16384x64 ![0, 0] · Facts₀.slices_S20480x64_S16384x64_0_0) : (⟨S20480x64, .f32⟩ : BufTy).Contents (Elt F) → (⟨S16384x64, .f32⟩ : BufTy).Contents (Elt F))]

theorem main_eq (d : Dev nD) : main (F := F) d = (seq opsA >>= fun _ => Prog.lift (.customCall (SparseCore.inner (Pipeline.entry 0)) ()) >>= fun _ =>
    seq opsB >>= fun _ => (sc (F := F)).run d 0 >>= fun _ => seq opsC >>= fun _ => Prog.lift (.customCall (SparseCore.inner (Pipeline.entry 1)) ()) >>= fun _ =>
    seq opsD >>= fun _ => Prog.lift (.customCall (SparseCore.inner (Pipeline.entry 2)) ()) >>= fun _ =>
    Prog.lift (.customCall (SparseCore.inner (Pipeline.entry 3)) ()) >>= fun _ => seq opsE >>= fun _ => pure ⟨⟩) := rfl

theorem opsA_sub : (opsA (F := F)).Forall fun op => op.bufs ⊆ StableHlo.tcRefs τ sig := by simp only [opsA, List.Forall]; simp
theorem opsB_sub : (opsB (F := F)).Forall fun op => op.bufs ⊆ StableHlo.tcRefs τ sig := by simp only [opsB, List.Forall]; simp
theorem opsC_sub : (opsC (F := F)).Forall fun op => op.bufs ⊆ StableHlo.tcRefs τ sig := by simp only [opsC, List.Forall]; simp
theorem opsD_sub : (opsD (F := F)).Forall fun op => op.bufs ⊆ StableHlo.tcRefs τ sig := by simp only [opsD, List.Forall]; simp
theorem opsE_sub : (opsE (F := F)).Forall fun op => op.bufs ⊆ StableHlo.tcRefs τ sig := by simp only [opsE, List.Forall]; simp
theorem opsA_fresh : ∀ op ∈ opsA (F := F), op.fresh = ∅ := by
  refine List.forall_iff_forall_mem.mp ?_; simp only [opsA, List.Forall]; repeat' constructor
theorem opsB_fresh : ∀ op ∈ opsB (F := F), op.fresh = ∅ := by
  refine List.forall_iff_forall_mem.mp ?_; simp only [opsB, List.Forall]; repeat' constructor
theorem opsC_fresh : ∀ op ∈ opsC (F := F), op.fresh = ∅ := by
  refine List.forall_iff_forall_mem.mp ?_; simp only [opsC, List.Forall]; repeat' constructor
theorem opsD_fresh : ∀ op ∈ opsD (F := F), op.fresh = ∅ := by
  refine List.forall_iff_forall_mem.mp ?_; simp only [opsD, List.Forall]; repeat' constructor
theorem opsE_fresh : ∀ op ∈ opsE (F := F), op.fresh = ∅ := by
  refine List.forall_iff_forall_mem.mp ?_; simp only [opsE, List.Forall]; rfl

/-! ## What the TensorCore owes, and its recorded waits -/

/-- What device `d`'s TensorCore owes before SparseCore call `n`. -/
abbrev owedAt (n : ℕ) : (d : Dev nD) → CellTallies nD τ sig (HIx 1) := fun d => (K (F := F)).Otc d n
/-- The level every wait recorded by then lies at or below. -/
abbrev cut (n : ℕ) : ℕ := 8 * n
/-- The waits it may have recorded by then. -/
def below (n : ℕ) : (d : Dev nD) → Set (SemLoc sig × HIx 1) := fun d => {p | (K (F := F)).lev (T d, p.1) p.2 ≤ cut n}
/-- The thread state at a TensorCore call: every unscoped buffer at `W`, the generator register, and the debt. -/
def tcThr (n : ℕ) (W : Valuation τ sig (Elt F)) (c : Dev nD) : sProp 𝕄 :=
  iprop(held (c : Thread nD τ) (Pipeline.ucRefs τ sig) W ∗ (∃ r, prngReg c r)
    ∗ ∃ R, ⌜(K (F := F)).WBelow (T c) R (cut n)⌝ ∗ owes (T c) (owedAt (F := F) n c) R)

/-! ## The contents at each point -/

/-- A buffer that is none of a call's output arrays is as the call found it. -/
theorem leaves_of {gr W : ℕ} (win : Fin W → Pipeline.WinSpec sig gr) (hinj : Function.Injective (Pipeline.arrRef win)) (c : Dev nD)
    (X : Valuation τ sig (Elt F)) (Y : (w : Fin W) → Buf (Elt F) ((c : Thread nD τ).loc (Pipeline.arrRef win w))) (r : Ref sig .tc)
    (h : ∀ w, Pipeline.arrRef win w = r → Y w = X (Proc.devRef .tc (Pipeline.arrRef win w))) :
    Pipeline.withArrays win c X Y (Proc.devRef .tc r) = X (Proc.devRef .tc r) := by
  by_cases hw : ∃ w, Pipeline.arrRef win w = r
  · obtain ⟨w, rfl⟩ := hw
    exact (Pipeline.withArrays_arr win hinj c _ _ w).trans (h w rfl)
  · exact Pipeline.withArrays_of_ne win c _ _ r fun w e => hw ⟨w, e⟩

/-- When the first call starts. -/
def W1 (d : Dev nD) : Valuation τ sig (Elt F) := after opsA (launchContents m d)
abbrev V1 : (c : Dev nD) → (b : Ref sig .tc) → Buf (Elt F) ((c : Thread nD τ).loc b) := fun c b => W1 m c b

/-- When it is done: its arrays at what its pipeline leaves, the rest as they were. -/
def W2 (d : Dev nD) : Valuation τ sig (Elt F) :=
  Pipeline.withArrays spec0 d (W1 m d) fun w => (dat0 (owedAt (F := F) 0) (below (F := F) 0) (V1 m) d).arrAt w cfg0.N
abbrev V2 : (c : Dev nD) → (b : Ref sig .tc) → Buf (Elt F) ((c : Thread nD τ).loc b) := fun c b => W2 m c b

theorem W2_arr (c : Dev nD) (w : Fin cfg0.W) : W2 m c (Proc.devRef .tc (Pipeline.arrRef spec0 w)) = (dat0 (owedAt (F := F) 0) (below (F := F) 0) (V1 m) c).arrAt w cfg0.N := by
  unfold W2; exact Pipeline.withArrays_arr spec0 launch0.win.arr_inj c _ _ w

theorem W2_of (c : Dev nD) (r : Ref sig .tc) (h : ∀ w : Fin cfg0.W, Pipeline.arrRef spec0 w = r → (cfg0.win w).isOut = false) :
    W2 m c (Proc.devRef .tc r) = W1 m c (Proc.devRef .tc r) := by
  unfold W2
  exact leaves_of spec0 launch0.win.arr_inj c _ _ r fun w e => ((dat0 (owedAt (F := F) 0) (below (F := F) 0) (V1 m) c).arrAt_in w (h w e) _).trans (A_eq0 _ _ _ c w)

abbrev t' : DevRef τ sig := Proc.devRef .tc (main_v13 : Ref sig .tc)
abbrev i' : DevRef τ sig := Proc.devRef .tc (main_v11 : Ref sig .tc)
abbrev o' : DevRef τ sig := Proc.devRef .tc (main_v14 : Ref sig .tc)

/-- When the gather starts, and its three arrays then. -/
def VA (d : Dev nD) : Valuation τ sig (Elt F) := after opsB (W2 m d)
def tb (d : Dev nD) : Buf (Elt F) (tLoc d) := VA m d t'
def ic (d : Dev nD) : Buf (Elt F) (iLoc d) := VA m d i'
def oc (d : Dev nD) : Buf (Elt F) (oLoc d) := VA m d o'

/-- When the gather is done. -/
def VC (d : Dev nD) : Valuation τ sig (Elt F) := Function.update (VA m d) o' (outVal (tb m) (ic m) d)

/-- When the call that adds the first layer's partial sums starts. -/
def W3 (d : Dev nD) : Valuation τ sig (Elt F) := after opsC (VC m d)
abbrev V3 : (c : Dev nD) → (b : Ref sig .tc) → Buf (Elt F) ((c : Thread nD τ).loc b) := fun c b => W3 m c b

/-- When it is done. -/
def W4 (d : Dev nD) : Valuation τ sig (Elt F) :=
  Pipeline.withArrays spec2 d (W3 m d) fun w => (dat2 (owedAt (F := F) 1) (below (F := F) 1) (V3 m) d).arrAt w cfg2.N
abbrev V4 : (c : Dev nD) → (b : Ref sig .tc) → Buf (Elt F) ((c : Thread nD τ).loc b) := fun c b => W4 m c b

theorem W4_arr (c : Dev nD) (w : Fin cfg2.W) : W4 m c (Proc.devRef .tc (Pipeline.arrRef spec2 w)) = (dat2 (owedAt (F := F) 1) (below (F := F) 1) (V3 m) c).arrAt w cfg2.N := by
  unfold W4; exact Pipeline.withArrays_arr spec2 launch2.win.arr_inj c _ _ w

theorem W4_of (c : Dev nD) (r : Ref sig .tc) (h : ∀ w : Fin cfg2.W, Pipeline.arrRef spec2 w = r → (cfg2.win w).isOut = false) :
    W4 m c (Proc.devRef .tc r) = W3 m c (Proc.devRef .tc r) := by
  unfold W4
  exact leaves_of spec2 launch2.win.arr_inj c _ _ r fun w e => ((dat2 (owedAt (F := F) 1) (below (F := F) 1) (V3 m) c).arrAt_in w (h w e) _).trans (A_eq2 _ _ _ c w)

/-- When the call of the means starts. -/
def W5 (d : Dev nD) : Valuation τ sig (Elt F) := after opsD (W4 m d)
abbrev V5 : (c : Dev nD) → (b : Ref sig .tc) → Buf (Elt F) ((c : Thread nD τ).loc b) := fun c b => W5 m c b

/-- When it is done, and the last call starts. -/
def W6 (d : Dev nD) : Valuation τ sig (Elt F) :=
  Pipeline.withArrays spec3 d (W5 m d) fun w => (dat3 (owedAt (F := F) 1) (below (F := F) 1) (V5 m) d).arrAt w cfg3.N
abbrev V6 : (c : Dev nD) → (b : Ref sig .tc) → Buf (Elt F) ((c : Thread nD τ).loc b) := fun c b => W6 m c b

theorem W6_arr (c : Dev nD) (w : Fin cfg3.W) : W6 m c (Proc.devRef .tc (Pipeline.arrRef spec3 w)) = (dat3 (owedAt (F := F) 1) (below (F := F) 1) (V5 m) c).arrAt w cfg3.N := by
  unfold W6; exact Pipeline.withArrays_arr spec3 launch3.win.arr_inj c _ _ w

theorem W6_of (c : Dev nD) (r : Ref sig .tc) (h : ∀ w : Fin cfg3.W, Pipeline.arrRef spec3 w = r → (cfg3.win w).isOut = false) :
    W6 m c (Proc.devRef .tc r) = W5 m c (Proc.devRef .tc r) := by
  unfold W6
  exact leaves_of spec3 launch3.win.arr_inj c _ _ r fun w e => ((dat3 (owedAt (F := F) 1) (below (F := F) 1) (V5 m) c).arrAt_in w (h w e) _).trans (A_eq3 _ _ _ c w)

/-- When the last call is done. -/
def W7 (d : Dev nD) : Valuation τ sig (Elt F) :=
  Pipeline.withArrays spec4 d (W6 m d) fun w => (dat4 (owedAt (F := F) 1) (below (F := F) 1) (V6 m) d).arrAt w cfg4.N
abbrev V7 : (c : Dev nD) → (b : Ref sig .tc) → Buf (Elt F) ((c : Thread nD τ).loc b) := fun c b => W7 m c b

theorem W7_arr (c : Dev nD) (w : Fin cfg4.W) : W7 m c (Proc.devRef .tc (Pipeline.arrRef spec4 w)) = (dat4 (owedAt (F := F) 1) (below (F := F) 1) (V6 m) c).arrAt w cfg4.N := by
  unfold W7; exact Pipeline.withArrays_arr spec4 launch4.win.arr_inj c _ _ w

theorem W7_of (c : Dev nD) (r : Ref sig .tc) (h : ∀ w : Fin cfg4.W, Pipeline.arrRef spec4 w = r → (cfg4.win w).isOut = false) :
    W7 m c (Proc.devRef .tc r) = W6 m c (Proc.devRef .tc r) := by
  unfold W7
  exact leaves_of spec4 launch4.win.arr_inj c _ _ r fun w e => ((dat4 (owedAt (F := F) 1) (below (F := F) 1) (V6 m) c).arrAt_in w (h w e) _).trans (A_eq4 _ _ _ c w)

/-- At the end. -/
def VB (d : Dev nD) : Valuation τ sig (Elt F) := after opsE (W7 m d)

/-! ## The calls as segments -/

/-- Each call's proof data, at its entry contents. -/
def pdats : (p : Fin 4) → (c : Dev nD) → Dat τ (Elt F) (HIx 1) ℕ UU ℕ (Pipeline.pin (pcfgs (F := F)) adm p) c
  | ⟨0, _⟩ => fun c => dat0 (owedAt (F := F) 0) (below (F := F) 0) (V1 m) c
  | ⟨1, _⟩ => fun c => dat2 (owedAt (F := F) 1) (below (F := F) 1) (V3 m) c
  | ⟨2, _⟩ => fun c => dat3 (owedAt (F := F) 1) (below (F := F) 1) (V5 m) c
  | ⟨3, _⟩ => fun c => dat4 (owedAt (F := F) 1) (below (F := F) 1) (V6 m) c

/-- A wait of a call's own pipeline is recorded at the index no handshake uses. -/
theorem wait_none (p : Fin 4) (x : SemLoc sig × HIx 1) (h : x ∈ ((Pipeline.pin (pcfgs (F := F)) adm p).waitPairs (none : HIx 1))) : x.2 = none := by
  obtain ⟨w, s, rfl⟩ := h; rfl

set_option backward.isDefEq.respectTransparency.types false in
/-- A TensorCore call over the program's thread state, before or after the gather (`n`): entered from every unscoped buffer at `X`,
    left with them at `X'`, which has the call's arrays at what its pipeline leaves; the generator register goes in and comes
    out, and what the core owes stays as it is. -/
def region (p : Fin 4) (n : ℕ) (hl : Pipeline.LaunchFacts (nD := nD) (τ := τ) cfgs p) (X X' : Dev nD → Valuation τ sig (Elt F))
    (hbody : ∀ c, Pipeline.BodyObligationLoose (pdats m p c) (defs₀ (F := F)) 𝒱₀ none Set.univ)
    (ho : ∀ c t, (pdats m p c).owed t = owedAt (F := F) n c) (hB : ∀ c t, (pdats m p c).recorded t = below (F := F) n c)
    (hq : ∀ c w, (pdats m p c).q w = fullShare)
    (hΦ : ∀ c t, (pdats m p c).Φ t = held₀ (Pipeline.pin (pcfgs (F := F)) adm p).spec c)
    (hA : ∀ c w, (pdats m p c).A w = X c (Proc.devRef .tc (Pipeline.arrRef (cfgs p).spec w)))
    (hX : ∀ c, X' c = Pipeline.withArrays (cfgs p).spec c (X c) fun w => (pdats m p c).arrAt w (cfgs p).N) :
    Pipeline.RegionSeg (pcfgs (F := F)) adm (pdats m) none defs₀ 𝒱₀ (K (F := F)).L (K (F := F)).lev p where
  win := hl.win.to₀
  block_pos := hl.block_pos
  stage_whole := hl.stage_whole
  K := PEmpty
  osem k := k.elim
  ho := Pipeline.OwnSemFacts.none _
  hbody := hbody
  hwaits c := Pipeline.cellsWaits_of_cut (Pipeline.pin (pcfgs (F := F)) adm) (pdats m) none p c (cut n) (owedAt n c) (ho c)
    (fun _ _ => Finset.mem_univ _) (fun _ _ => Nat.zero_le _) (fun g i h => ⟨Finset.mem_univ _, (K (F := F)).lev_of_Otc_pos h⟩)
  pre c := tcThr n (X c) c
  post c := tcThr n (X' c) c
  X c := iprop(∃ r, prngReg c r)
  Y c := iprop(∃ r, prngReg c r)
  Z c := Pipeline.unscopedRest (Ix := HIx 1) (Name := ℕ) (U := UU) (Lvl := ℕ) (cfgs p).spec c (fun b => X c b)
  hentry c := by
    rw [Pipeline.ownSems0_none]
    have hsplit := Pipeline.arrays_of_unscopedBufs (p := p) (pcfgs (F := F)) adm (pdats m) hl.win hl.arr_whole c
      ((pdats m p c).share_full (hq c)) (fun b => X c b) (hA c)
    rw [Pipeline.unscopedBufs_held] at hsplit
    unfold tcThr
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, %hW, HO⟩; iexists W; isplitr; · ipureintro; exact fun x hx => Or.inl (by rw [hB]; exact hW x hx)
      iexact HO
    isplitl [Hp]; · iexact Hp
    iexact Hrest
  hin c := by
    rw [hΦ]; unfold held₀
    iintro ⟨Hp, -, Hr⟩
    isplitl [Hr]; · iexact Hr
    iexact Hp
  hout c := by
    rw [Pipeline.ownSems0_none, hΦ]; unfold held₀
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU) (Lvl := ℕ)
      hl.win hl.arr_whole c (pdats m) ((pdats m p c).share_full (hq c))
      (fun b => X c b) (fun b => X' c b) ((pdats m p c).arrAt · (cfgs p).N)
      (fun w => by rw [hX]; exact (Pipeline.withArrays_arr (cfgs p).spec hl.win.arr_inj c (X c) (fun w => (pdats m p c).arrAt w (cfgs p).N) w).symm)
      (fun b hb => by rw [hX]; exact Pipeline.withArrays_of_ne (cfgs p).spec c _ _ b fun w e => hb (Finset.mem_image.mpr ⟨w, Finset.mem_univ _, e⟩))
    rw [Pipeline.unscopedBufs_held] at hjoin
    unfold tcThr
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, %hW, HO⟩; iexists W; isplitr
    · ipureintro
      intro x hx
      rcases hW hx with h | h
      · rw [hB] at h; exact h
      · rw [wait_none p x h]; exact Nat.zero_le _
    iexact HO

/-- The coefficients call. -/
def reg0 : Pipeline.RegionSeg (pcfgs (F := F)) adm (pdats m) none defs₀ 𝒱₀ (K (F := F)).L (K (F := F)).lev 0 :=
  region m 0 0 launch0 (W1 m) (W2 m) (fun c => (body_obligation0 (owedAt (F := F) 0) (below (F := F) 0) (V1 m) c).loose)
    (fun _ _ => rfl) (fun _ _ => rfl) (fun _ _ => rfl) (fun _ _ => rfl) (fun c w => A_eq0 _ _ (V1 m) c w) (fun _ => rfl)

/-- The sums call. -/
def reg2 : Pipeline.RegionSeg (pcfgs (F := F)) adm (pdats m) none defs₀ 𝒱₀ (K (F := F)).L (K (F := F)).lev 1 :=
  region m 1 1 launch2 (W3 m) (W4 m) (fun c => (body_obligation2 (owedAt (F := F) 1) (below (F := F) 1) (V3 m) c).loose)
    (fun _ _ => rfl) (fun _ _ => rfl) (fun _ _ => rfl) (fun _ _ => rfl) (fun c w => A_eq2 _ _ (V3 m) c w) (fun _ => rfl)

/-- The means call. -/
def reg3 : Pipeline.RegionSeg (pcfgs (F := F)) adm (pdats m) none defs₀ 𝒱₀ (K (F := F)).L (K (F := F)).lev 2 :=
  region m 2 1 launch3 (W5 m) (W6 m) (fun c => (body_obligation3 (owedAt (F := F) 1) (below (F := F) 1) (V5 m) c).loose)
    (fun _ _ => rfl) (fun _ _ => rfl) (fun _ _ => rfl) (fun _ _ => rfl) (fun c w => A_eq3 _ _ (V5 m) c w) (fun _ => rfl)

/-- The last call. -/
def reg4 : Pipeline.RegionSeg (pcfgs (F := F)) adm (pdats m) none defs₀ 𝒱₀ (K (F := F)).L (K (F := F)).lev 3 :=
  region m 3 1 launch4 (W6 m) (W7 m) (fun c => (body_obligation4 (owedAt (F := F) 1) (below (F := F) 1) (V6 m) c).loose)
    (fun _ _ => rfl) (fun _ _ => rfl) (fun _ _ => rfl) (fun _ _ => rfl) (fun c w => A_eq4 _ _ (V6 m) c w) (fun _ => rfl)

end Cert.Proof.KernelIdeal

end
-- ==== Proof.IdealBlocks.lean ====
/-
  What the four TensorCore calls leave in their output arrays, as functions of the arrays they find: the coefficients call's
  three arrays whole, the sums' and the means' by their sixteen blocks of 1280 rows, the last call's by its sixteen of 256.
-/
module

public import proofs.«01_k».proof.Proof.IdealCalls
public import Idealize.ShloMosaic.Lib.Pipeline.ValueKit
public import Idealize.ShloMosaic.Lib.Pipeline.ReadBack
public import Idealize.ShloMosaic.Lib.Pointwise.Reshape

@[expose] public section

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat)

variable {F : FTy → Type} [FloatOps F] [Named F]

/-- A one-word load at place `n` of the pair of weights reads weight `n`. -/
theorem ld_w (X : Vec F S2 .f32) (n : Fin 2) {off : Fin 1 → Nat} (inb) (ho : off 0 = n.val) (x) :
    View.ld (Val := Elt F) (e' := .f32) X (Rect.unit (s := S2) off S1.size inb) x = X (ValueIdx.ix1 n) :=
  View.ld_unit_apply_of _ _ _ _ _ _ fun a => match a with
    | ⟨0, _⟩ => by
      have : (x 0 : Nat) < 1 := (x 0).isLt
      show n.val = off 0 + (x 0).val
      omega

variable (V : (c : Dev nD) → (b : Ref sig .tc) → Buf (Elt F) ((c : Thread nD τ).loc b))

/-! ## What a point's body leaves is its payload of the point's blocks -/

theorem outs0_4 (c : Dev nD) (t : Fin cfg0.N) : (outsAt0 V c t).1
    = k0_pay2 (iblk0 V c 3 t (ValueIdx.ix1 0)) (iblk0 V c 3 t (ValueIdx.ix1 1)) (iblk0 V c 0 t) (iblk0 V c 1 t) (iblk0 V c 2 t) := by
  unfold outsAt0 out0_A_4 kernelRun0_A
  dsimp only
  frame_out
  simp only [read_unread_whole]
  rw [ld_w _ 0 _ rfl, ld_w _ 1 _ rfl]

theorem outs0_5 (c : Dev nD) (t : Fin cfg0.N) : (outsAt0 V c t).2.1
    = k0_pay3 (iblk0 V c 3 t (ValueIdx.ix1 0)) (iblk0 V c 3 t (ValueIdx.ix1 1)) (iblk0 V c 0 t) (iblk0 V c 1 t) := by
  unfold outsAt0 out0_A_5 kernelRun0_A
  dsimp only
  frame_out
  simp only [read_unread_whole]
  rw [ld_w _ 0 _ rfl, ld_w _ 1 _ rfl]

theorem outs0_6 (c : Dev nD) (t : Fin cfg0.N) : (outsAt0 V c t).2.2
    = k0_pay4 (iblk0 V c 3 t (ValueIdx.ix1 0)) (iblk0 V c 3 t (ValueIdx.ix1 1)) (iblk0 V c 0 t) (iblk0 V c 1 t) := by
  unfold outsAt0 out0_A_6 kernelRun0_A
  dsimp only
  frame_out
  simp only [read_unread_whole]
  rw [ld_w _ 0 _ rfl, ld_w _ 1 _ rfl]

theorem outs4_7 (c : Dev nD) (t : Fin cfg4.N) : outsAt4 V c t
    = k4_pay1 (iblk4 V c 6 t (ValueIdx.ix1 0)) (iblk4 V c 6 t (ValueIdx.ix1 1)) (iblk4 V c 0 t) (iblk4 V c 1 t) (iblk4 V c 2 t)
        (iblk4 V c 3 t) (iblk4 V c 4 t) (iblk4 V c 5 t) := by
  unfold outsAt4 out4_A_7 kernelRun4_A
  dsimp only
  frame_out
  rw [ld_w _ 0 _ rfl, ld_w _ 1 _ rfl]
  rfl

/-! ## The coefficients call: one point, every block its whole array -/

/-- The one grid point. -/
def t₀ : Fin cfg0.N := ⟨0, by decide⟩

theorem i0_0 : win0_0.index t₀ = ![0, 0] := by decide
theorem i0_1 : win0_1.index t₀ = ![0, 0] := by decide
theorem i0_2 : win0_2.index t₀ = ![0, 0] := by decide
theorem i0_3 : win0_3.index t₀ = ![0] := by decide
theorem i0_4 : win0_4.index t₀ = ![0, 0] := by decide
theorem i0_5 : win0_5.index t₀ = ![0, 0] := by decide
theorem i0_6 : win0_6.index t₀ = ![0, 0] := by decide

theorem iblk0_0 (c : Dev nD) : iblk0 V c 0 t₀ = V c main_arg0 := by
  funext x
  blk_simp [iblk0]
  refine congrArg (V c main_arg0) (funext fun a => Fin.ext ?_)
  match a with
  | ⟨0, _⟩ => blk_simp [i0_0]
  | ⟨1, _⟩ => blk_simp [i0_0]
theorem iblk0_1 (c : Dev nD) : iblk0 V c 1 t₀ = V c main_arg2 := by
  funext x
  blk_simp [iblk0]
  refine congrArg (V c main_arg2) (funext fun a => Fin.ext ?_)
  match a with
  | ⟨0, _⟩ => blk_simp [i0_1]
  | ⟨1, _⟩ => blk_simp [i0_1]
theorem iblk0_2 (c : Dev nD) : iblk0 V c 2 t₀ = V c main_arg5 := by
  funext x
  blk_simp [iblk0]
  refine congrArg (V c main_arg5) (funext fun a => Fin.ext ?_)
  match a with
  | ⟨0, _⟩ => blk_simp [i0_2]
  | ⟨1, _⟩ => blk_simp [i0_2]
theorem iblk0_3 (c : Dev nD) : iblk0 V c 3 t₀ = V c main_v6 := by
  funext x
  blk_simp [iblk0]
  refine congrArg (V c main_v6) (funext fun a => Fin.ext ?_)
  match a with
  | ⟨0, _⟩ => blk_simp [i0_3]

variable (O : (c : Dev nD) → CellTallies nD τ sig (HIx 1)) (B : (c : Dev nD) → Set (SemLoc sig × HIx 1))

theorem arr0_4 (c : Dev nD) : (dat0 O B V c).arrAt 4 cfg0.N
    = k0_pay2 (V c main_v6 (ValueIdx.ix1 0)) (V c main_v6 (ValueIdx.ix1 1)) (V c main_arg0) (V c main_arg2) (V c main_arg5) := by
  refine (dat0 O B V c).arrAt_eq_of_after_last 4 t₀ (by decide +kernel) _ fun j => ?_
  blk_simp
  rw [after0_4, outs0_4, iblk0_0, iblk0_1, iblk0_2, iblk0_3]
theorem arr0_5 (c : Dev nD) : (dat0 O B V c).arrAt 5 cfg0.N
    = k0_pay3 (V c main_v6 (ValueIdx.ix1 0)) (V c main_v6 (ValueIdx.ix1 1)) (V c main_arg0) (V c main_arg2) := by
  refine (dat0 O B V c).arrAt_eq_of_after_last 5 t₀ (by decide +kernel) _ fun j => ?_
  blk_simp
  rw [after0_5, outs0_5, iblk0_0, iblk0_1, iblk0_3]
theorem arr0_6 (c : Dev nD) : (dat0 O B V c).arrAt 6 cfg0.N
    = k0_pay4 (V c main_v6 (ValueIdx.ix1 0)) (V c main_v6 (ValueIdx.ix1 1)) (V c main_arg0) (V c main_arg2) := by
  refine (dat0 O B V c).arrAt_eq_of_after_last 6 t₀ (by decide +kernel) _ fun j => ?_
  blk_simp
  rw [after0_6, outs0_6, iblk0_0, iblk0_1, iblk0_3]

/-! ## The sums and the means: sixteen points, each at 1280 rows -/

theorem i2_0 : ∀ t : Fin cfg2.N, win2_0.index t = ![t.val, 0] := by decide +kernel
theorem i2_1 : ∀ t : Fin cfg2.N, win2_1.index t = ![t.val, 0] := by decide +kernel
theorem i2_2 : ∀ t : Fin cfg2.N, win2_2.index t = ![t.val, 0] := by decide +kernel
theorem i3_0 : ∀ t : Fin cfg3.N, win3_0.index t = ![t.val, 0] := by decide +kernel
theorem i3_1 : ∀ t : Fin cfg3.N, win3_1.index t = ![t.val, 0] := by decide +kernel
theorem i3_2 : ∀ t : Fin cfg3.N, win3_2.index t = ![t.val, 0] := by decide +kernel
theorem i3_3 : ∀ t : Fin cfg3.N, win3_3.index t = ![t.val, 0] := by decide +kernel
theorem i3_4 : ∀ t : Fin cfg3.N, win3_4.index t = ![t.val, 0] := by decide +kernel

/-- Row `p` of block `t` of all users and items. -/
abbrev rowAll (t : Fin 16) (p : Fin 1280) : Fin 20480 := ⟨t.val * 1280 + p.val, by omega⟩

theorem iblk2_0 (c : Dev nD) (t : Fin cfg2.N) : iblk2 V c 0 t = fun x : S1280x64.Idx => V c main_v18 (ValueIdx.ix2 (rowAll t (x 0)) (x 1)) := by
  funext x
  blk_simp [iblk2]
  refine congrArg (V c main_v18) (funext fun a => Fin.ext ?_)
  match a with
  | ⟨0, _⟩ => (blk_simp [i2_0] <;> rfl)
  | ⟨1, _⟩ => (blk_simp [i2_0] <;> rfl)
theorem iblk2_1 (c : Dev nD) (t : Fin cfg2.N) : iblk2 V c 1 t = fun x : S1280x64.Idx => V c main_v20 (ValueIdx.ix2 (rowAll t (x 0)) (x 1)) := by
  funext x
  blk_simp [iblk2]
  refine congrArg (V c main_v20) (funext fun a => Fin.ext ?_)
  match a with
  | ⟨0, _⟩ => (blk_simp [i2_1] <;> rfl)
  | ⟨1, _⟩ => (blk_simp [i2_1] <;> rfl)
theorem iblk3_0 (c : Dev nD) (t : Fin cfg3.N) : iblk3 V c 0 t = fun x : S1280x64.Idx => V c main_v16 (ValueIdx.ix2 (rowAll t (x 0)) (x 1)) := by
  funext x
  blk_simp [iblk3]
  refine congrArg (V c main_v16) (funext fun a => Fin.ext ?_)
  match a with
  | ⟨0, _⟩ => (blk_simp [i3_0] <;> rfl)
  | ⟨1, _⟩ => (blk_simp [i3_0] <;> rfl)
theorem iblk3_1 (c : Dev nD) (t : Fin cfg3.N) : iblk3 V c 1 t = fun x : S1280x64.Idx => V c main_v21 (ValueIdx.ix2 (rowAll t (x 0)) (x 1)) := by
  funext x
  blk_simp [iblk3]
  refine congrArg (V c main_v21) (funext fun a => Fin.ext ?_)
  match a with
  | ⟨0, _⟩ => (blk_simp [i3_1] <;> rfl)
  | ⟨1, _⟩ => (blk_simp [i3_1] <;> rfl)
theorem iblk3_2 (c : Dev nD) (t : Fin cfg3.N) : iblk3 V c 2 t = fun x : S1280x64.Idx => V c main_v23 (ValueIdx.ix2 (rowAll t (x 0)) (x 1)) := by
  funext x
  blk_simp [iblk3]
  refine congrArg (V c main_v23) (funext fun a => Fin.ext ?_)
  match a with
  | ⟨0, _⟩ => (blk_simp [i3_2] <;> rfl)
  | ⟨1, _⟩ => (blk_simp [i3_2] <;> rfl)
theorem iblk3_3 (c : Dev nD) (t : Fin cfg3.N) : iblk3 V c 3 t = fun x : S1280x64.Idx => V c main_v25 (ValueIdx.ix2 (rowAll t (x 0)) (x 1)) := by
  funext x
  blk_simp [iblk3]
  refine congrArg (V c main_v25) (funext fun a => Fin.ext ?_)
  match a with
  | ⟨0, _⟩ => (blk_simp [i3_3] <;> rfl)
  | ⟨1, _⟩ => (blk_simp [i3_3] <;> rfl)

/-- The sums' array. -/
def sumOut (a b : Vec F S20480x64 .f32) : Vec F S20480x64 .f32 := addf a b

/-- An entry of the means' array: the means call's payload at blocks that hold the four arrays' entry. -/
def meanOut (a b x y : Vec F S20480x64 .f32) : Vec F S20480x64 .f32 := fun i =>
  k3_pay1 (fun _ => a i) (fun _ => b i) (fun _ => x i) (fun _ => y i) (ValueIdx.ix2 0 0)

theorem sums_idx (y : S1280x64.Idx) : r2_0.idx y = y := funext fun a => Fin.ext (match a with
  | ⟨0, _⟩ => by show 0 + 1 * (y 0).val = (y 0).val; omega
  | ⟨1, _⟩ => by show 0 + 1 * (y 1).val = (y 1).val; omega)
theorem means_idx (y : S1280x64.Idx) : r3_0.idx y = y := sums_idx y

theorem sums_ld (x : Vec F S1280x64 .f32) : View.ld (Val := Elt F) (e' := .f32) x r2_0 = x := funext fun y => congrArg x (sums_idx y)
theorem means_ld (x : Vec F S1280x64 .f32) : View.ld (Val := Elt F) (e' := .f32) x r3_0 = x := funext fun y => congrArg x (means_idx y)

theorem out2_eq (x0 x1 : Vec F S1280x64 .f32) : out2_2 x0 x1 = k2_pay1 x0 x1 := by
  funext y
  unfold out2_2
  rw [sums_ld, sums_ld, ← sums_idx y]
  exact (View.canon_cons_emb r2_0 _ [] y).trans (congrArg (k2_pay1 x0 x1) (sums_idx y).symm)
theorem out3_eq (x0 x1 x2 x3 : Vec F S1280x64 .f32) : out3_4 x0 x1 x2 x3 = k3_pay1 x0 x1 x2 x3 := by
  funext y
  unfold out3_4
  rw [means_ld, means_ld, means_ld, means_ld, ← means_idx y]
  exact (View.canon_cons_emb r3_0 _ [] y).trans (congrArg (k3_pay1 x0 x1 x2 x3) (means_idx y).symm)

theorem pay2_at (a b : Vec F S1280x64 .f32) (y : S1280x64.Idx) : k2_pay1 a b y = FloatOps.addf (a y) (b y) := by
  unfold k2_pay1
  rw [shapeCast_id, shapeCast_id]
  rfl
theorem pay3_at (a b x z : Vec F S1280x64 .f32) (y : S1280x64.Idx) :
    k3_pay1 a b x z y = k3_pay1 (fun _ => a y) (fun _ => b y) (fun _ => x y) (fun _ => z y) (ValueIdx.ix2 0 0) := by
  unfold k3_pay1
  simp only [shapeCast_id]
  rfl

theorem arr2_2 (c : Dev nD) : (dat2 O B V c).arrAt 2 cfg2.N = sumOut (V c main_v18) (V c main_v20) := by
  refine (dat2 O B V c).arrAt_eq_of_covers 2 _ (by decide +kernel) fun t hf y => ?_
  blk_simp
  rw [after2_2, out2_eq, iblk2_0, iblk2_1]
  have ey : (win2_2.blk t).view.emb y = (ValueIdx.ix2 (rowAll t (y 0)) (y 1) : S20480x64.Idx) := funext fun a => Fin.ext (by
    match a with
    | ⟨0, _⟩ => (blk_simp [i2_2] <;> rfl)
    | ⟨1, _⟩ => (blk_simp [i2_2] <;> rfl))
  rw [ey]
  exact pay2_at _ _ y

theorem arr3_4 (c : Dev nD) : (dat3 O B V c).arrAt 4 cfg3.N = meanOut (V c main_v16) (V c main_v21) (V c main_v23) (V c main_v25) := by
  refine (dat3 O B V c).arrAt_eq_of_covers 4 _ (by decide +kernel) fun t hf y => ?_
  blk_simp
  rw [after3_4, out3_eq, iblk3_0, iblk3_1, iblk3_2, iblk3_3]
  have ey : (win3_4.blk t).view.emb y = (ValueIdx.ix2 (rowAll t (y 0)) (y 1) : S20480x64.Idx) := funext fun a => Fin.ext (by
    match a with
    | ⟨0, _⟩ => (blk_simp [i3_4] <;> rfl)
    | ⟨1, _⟩ => (blk_simp [i3_4] <;> rfl))
  rw [ey]
  exact pay3_at _ _ _ _ y

/-! ## The last call: sixteen points, each at 256 rows -/

theorem i4_0 : ∀ t : Fin cfg4.N, win4_0.index t = ![t.val, 0] := by decide +kernel
theorem i4_1 : ∀ t : Fin cfg4.N, win4_1.index t = ![t.val, 0] := by decide +kernel
theorem i4_2 : ∀ t : Fin cfg4.N, win4_2.index t = ![0, 0] := by decide +kernel
theorem i4_3 : ∀ t : Fin cfg4.N, win4_3.index t = ![0, t.val, 0] := by decide +kernel
theorem i4_4 : ∀ t : Fin cfg4.N, win4_4.index t = ![0, t.val] := by decide +kernel
theorem i4_5 : ∀ t : Fin cfg4.N, win4_5.index t = ![64 + t.val, 0] := by decide +kernel
theorem i4_6 : ∀ t : Fin cfg4.N, win4_6.index t = ![0] := by decide +kernel
theorem i4_7 : ∀ t : Fin cfg4.N, win4_7.index t = ![t.val, 0] := by decide +kernel

/-- Row `p` of block `t`. -/
abbrev rowOf (t : Fin 16) (p : Fin 256) : Fin 4096 := ⟨t.val * 256 + p.val, by omega⟩

/-- The last call's payload at block `t` of whole arrays. -/
def lastPay (w : Vec F S2 .f32) (a b : Vec F S4096x4096 .f32) (e : Vec F S4096x64 .f32) (g : Vec F S32x4096x64 .f32)
    (k : Vec F S32x4096 .f32) (u : Vec F S20480x64 .f32) (t : Fin 16) : Vec F S256x64 .f32 :=
  k4_pay1 (w (ValueIdx.ix1 0)) (w (ValueIdx.ix1 1))
    (fun x => a (ValueIdx.ix2 (rowOf t (x 0)) (x 1))) (fun x => b (ValueIdx.ix2 (rowOf t (x 0)) (x 1))) e
    (fun x => g (ValueIdx.ix3 (x 0) (rowOf t (x 1)) (x 2))) (fun x => k (ValueIdx.ix2 (x 0) (rowOf t (x 1))))
    (fun x => u (ValueIdx.ix2 (⟨16384 + (rowOf t (x 0)).val, by omega⟩ : Fin 20480) (x 1)))

/-- The last call's output array. -/
def lastOut (w : Vec F S2 .f32) (a b : Vec F S4096x4096 .f32) (e : Vec F S4096x64 .f32) (g : Vec F S32x4096x64 .f32)
    (k : Vec F S32x4096 .f32) (u : Vec F S20480x64 .f32) : Vec F S4096x64 .f32 := fun i =>
  lastPay w a b e g k u (⟨(i 0).val / 256, by have : (i 0).val < 4096 := (i 0).isLt; omega⟩ : Fin 16) (ValueIdx.ix2 (⟨(i 0).val % 256, by omega⟩ : Fin 256) (i 1))

theorem iblk4_0 (c : Dev nD) (t : Fin cfg4.N) : iblk4 V c 0 t = fun x : S256x4096.Idx => V c main_arg6 (ValueIdx.ix2 (rowOf t (x 0)) (x 1)) := by
  funext x
  blk_simp [iblk4]
  refine congrArg (V c main_arg6) (funext fun a => Fin.ext ?_)
  match a with
  | ⟨0, _⟩ => (blk_simp [i4_0] <;> rfl)
  | ⟨1, _⟩ => (blk_simp [i4_0] <;> rfl)
theorem iblk4_1 (c : Dev nD) (t : Fin cfg4.N) : iblk4 V c 1 t = fun x : S256x4096.Idx => V c main_arg7 (ValueIdx.ix2 (rowOf t (x 0)) (x 1)) := by
  funext x
  blk_simp [iblk4]
  refine congrArg (V c main_arg7) (funext fun a => Fin.ext ?_)
  match a with
  | ⟨0, _⟩ => (blk_simp [i4_1] <;> rfl)
  | ⟨1, _⟩ => (blk_simp [i4_1] <;> rfl)
theorem iblk4_2 (c : Dev nD) (t : Fin cfg4.N) : iblk4 V c 2 t = V c main_arg5 := by
  funext x
  blk_simp [iblk4]
  refine congrArg (V c main_arg5) (funext fun a => Fin.ext ?_)
  match a with
  | ⟨0, _⟩ => blk_simp [i4_2]
  | ⟨1, _⟩ => blk_simp [i4_2]
theorem iblk4_3 (c : Dev nD) (t : Fin cfg4.N) : iblk4 V c 3 t = fun x : S32x256x64.Idx => V c main_v15 (ValueIdx.ix3 (x 0) (rowOf t (x 1)) (x 2)) := by
  funext x
  blk_simp [iblk4]
  refine congrArg (V c main_v15) (funext fun a => Fin.ext ?_)
  match a with
  | ⟨0, _⟩ => (blk_simp [i4_3] <;> rfl)
  | ⟨1, _⟩ => (blk_simp [i4_3] <;> rfl)
  | ⟨2, _⟩ => (blk_simp [i4_3] <;> rfl)
theorem iblk4_4 (c : Dev nD) (t : Fin cfg4.N) : iblk4 V c 4 t = fun x : S32x256.Idx => V c main_v12 (ValueIdx.ix2 (x 0) (rowOf t (x 1))) := by
  funext x
  blk_simp [iblk4]
  refine congrArg (V c main_v12) (funext fun a => Fin.ext ?_)
  match a with
  | ⟨0, _⟩ => (blk_simp [i4_4] <;> rfl)
  | ⟨1, _⟩ => (blk_simp [i4_4] <;> rfl)
theorem iblk4_5 (c : Dev nD) (t : Fin cfg4.N) : iblk4 V c 5 t
    = fun x : S256x64.Idx => V c main_v26 (ValueIdx.ix2 (⟨16384 + (rowOf t (x 0)).val, by omega⟩ : Fin 20480) (x 1)) := by
  funext x
  blk_simp [iblk4]
  refine congrArg (V c main_v26) (funext fun a => Fin.ext ?_)
  match a with
  | ⟨0, _⟩ =>
    blk_simp [i4_5]
    show (64 + t.val) * 256 + (x 0).val = 16384 + (t.val * 256 + (x 0).val)
    omega
  | ⟨1, _⟩ => (blk_simp [i4_5] <;> rfl)
theorem iblk4_6 (c : Dev nD) (t : Fin cfg4.N) : iblk4 V c 6 t = V c main_v6 := by
  funext x
  blk_simp [iblk4]
  refine congrArg (V c main_v6) (funext fun a => Fin.ext ?_)
  match a with
  | ⟨0, _⟩ => blk_simp [i4_6]

theorem lastOut_at (w : Vec F S2 .f32) (a b : Vec F S4096x4096 .f32) (e : Vec F S4096x64 .f32) (g : Vec F S32x4096x64 .f32)
    (k : Vec F S32x4096 .f32) (u : Vec F S20480x64 .f32) (t : Fin 16) (p : Fin 256) (j : Fin 64) :
    lastOut w a b e g k u (ValueIdx.ix2 (rowOf t p) j) = lastPay w a b e g k u t (ValueIdx.ix2 p j) := by
  have e1 : (⟨(rowOf t p).val / 256, by omega⟩ : Fin 16) = t := Fin.ext (by show (t.val * 256 + p.val) / 256 = t.val; omega)
  have e2 : (⟨(rowOf t p).val % 256, by omega⟩ : Fin 256) = p := Fin.ext (by show (t.val * 256 + p.val) % 256 = p.val; omega)
  show lastPay w a b e g k u (⟨(rowOf t p).val / 256, by omega⟩ : Fin 16) (ValueIdx.ix2 (⟨(rowOf t p).val % 256, by omega⟩ : Fin 256) j) = _
  rw [e1, e2]

theorem arr4_7 (c : Dev nD) : (dat4 O B V c).arrAt 7 cfg4.N
    = lastOut (V c main_v6) (V c main_arg6) (V c main_arg7) (V c main_arg5) (V c main_v15) (V c main_v12) (V c main_v26) := by
  refine (dat4 O B V c).arrAt_eq_of_covers 7 _ (by decide +kernel) fun t hf y => ?_
  blk_simp
  rw [after4_7, outs4_7, iblk4_0, iblk4_1, iblk4_2, iblk4_3, iblk4_4, iblk4_5, iblk4_6]
  have ey : (win4_7.blk t).view.emb y = (ValueIdx.ix2 (rowOf t (y 0)) (y 1) : S4096x64.Idx) := funext fun a => Fin.ext (by
    match a with
    | ⟨0, _⟩ => (blk_simp [i4_7] <;> rfl)
    | ⟨1, _⟩ => (blk_simp [i4_7] <;> rfl))
  have ez : y = (ValueIdx.ix2 (y 0) (y 1) : S256x64.Idx) := ValueIdx.eq_ix2 y
  rw [ey]
  refine Eq.trans ?_ (lastOut_at (V c main_v6) (V c main_arg6) (V c main_arg7) (V c main_arg5) (V c main_v15) (V c main_v12) (V c main_v26)
    t (y 0) (y 1)).symm
  exact congrArg (lastPay (V c main_v6) (V c main_arg6) (V c main_arg7) (V c main_arg5) (V c main_v15) (V c main_v12) (V c main_v26) t) ez

end Cert.Proof.KernelIdeal

end
-- ==== Proof.IdealRun.lean ====
/-
  The whole program's run: the host lines, the three calls in turn, and what every final memory holds.
-/
module

public import proofs.«01_k».proof.Proof.IdealCalls

@[expose] public section

noncomputable section

namespace Cert.Proof.KernelIdeal

open Cert.KernelIdeal Cert.KernelIdeal.Gen

open Idealize.ShloMosaic Idealize.ShloMosaic.TcCoe
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

open Idealize.ShloMosaic.StableHlo (held seq after launchContents)

variable [FloatOps F] [Named F]
variable (m : (ℓ : Loc nD τ sig) → Buf (Elt F) ℓ) (ρ : Dev nD → PrngReg)

/-! ## The call within the unscoped buffers -/

/-- Every unscoped buffer of the TensorCore but the call's three. -/
abbrev restU : Finset (DevRef τ sig) := ((Pipeline.ucRefs τ sig \ {t'}) \ {i'}) \ {o'}

theorem held_U (d : Dev nD) (W : Valuation τ sig (Elt F)) :
    (held (T d) (Pipeline.ucRefs τ sig) W : sProp 𝕄)
      = iprop((tLoc d ↦{fullShare} W t') ∗ (iLoc d ↦{fullShare} W i') ∗ (oLoc d ↦{fullShare} W o') ∗ held (T d) restU W) := by
  rw [StableHlo.held_sub_split (T d) (T := {t'}) (S := Pipeline.ucRefs τ sig) (by decide),
    StableHlo.held_sub_split (T d) (T := {i'}) (S := Pipeline.ucRefs τ sig \ {t'}) (by decide),
    StableHlo.held_sub_split (T d) (T := {o'}) (S := (Pipeline.ucRefs τ sig \ {t'}) \ {i'}) (by decide)]
  unfold held
  rw [bigSep_singleton, bigSep_singleton, bigSep_singleton]

theorem held_rest (d : Dev nD) : (held (T d) restU (VC m d) : sProp 𝕄) = held (T d) restU (VA m d) :=
  StableHlo.held_congr (T d) fun b hb => Function.update_of_ne (fun h => by
    rw [h] at hb; exact (Finset.mem_sdiff.mp hb).2 (Finset.mem_singleton_self _)) _ _

theorem held_VC (d : Dev nD) : (iprop((tLoc d ↦{fullShare} tb m d) ∗ (iLoc d ↦{fullShare} ic m d) ∗ (oLoc d ↦{fullShare} outVal (tb m) (ic m) d)
    ∗ held (T d) restU (VA m d)) : sProp 𝕄) = held (T d) (Pipeline.ucRefs τ sig) (VC m d) := by
  rw [held_U, held_rest]
  unfold VC tb ic
  rw [Function.update_of_ne (show t' ≠ o' by decide), Function.update_of_ne (show i' ≠ o' by decide), Function.update_self]

/-- What @main leaves: every unscoped buffer of the TensorCore at its final contents. -/
abbrev FIN (d : Dev nD) : sProp 𝕄 := held (T d) (Pipeline.ucRefs τ sig) (VB m d)

/-- A TensorCore call inside the program: its segment's rule, taken through the handshakes' signature. -/
theorem wp_call (p : Fin 4) (R : Pipeline.RegionSeg (pcfgs (F := F)) adm (pdats m) none defs₀ 𝒱₀ (K (F := F)).L (K (F := F)).lev p) (d : Dev nD)
    [∀ e, Nonempty (Elt F e)] (Q : PUnit → sProp 𝕄) :
    iprop((iprop(boundary (T d) ∗ R.post d) -∗ Q ⟨⟩) ∗ boundary (T d) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (T d) none) Set.univ (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (Pipeline.RegionSeg.wp (pcfgs (F := F)) adm (pdats m) none cellOf_inj (EP (F := F)) defs₀ 𝒱₀ (K (F := F)).L (K (F := F)).lev R d none
    (fun u hu => nomatch hu) .ret Q)
  iintro ⟨Hk, Hb, Hpre, Hl, Hg, Ht⟩
  isplitl [Hk]
  · iintro H; rw [wp_ret]; imodintro; iapply Hk $$ H
  isplitl [Hb]; · iexact Hb
  isplitl [Hpre]; · iexact Hpre
  isplitl [Hl]; · iexact Hl
  isplitl [Hg] <;> iassumption

/-- The four pipelines' ghost state, one by one. -/
theorem G_eq (d : Dev nD) : (G d : sProp 𝕄)
    = iprop((Pipeline.cellsGhost cfgs (EP (F := F)) 0 d ∗ Pipeline.cellsGhost cfgs (EP (F := F)) 1 d ∗ Pipeline.cellsGhost cfgs (EP (F := F)) 2 d
        ∗ Pipeline.cellsGhost cfgs (EP (F := F)) 3 d)
      ∗ Pipeline.toksInit cfgs (EP (F := F)) 0 d ∗ Pipeline.toksInit cfgs (EP (F := F)) 1 d ∗ Pipeline.toksInit cfgs (EP (F := F)) 2 d
        ∗ Pipeline.toksInit cfgs (EP (F := F)) 3 d) := by
  unfold G
  rw [bigSep_univ_eq_bigSepL [(0 : Fin 4), (1 : Fin 4), (2 : Fin 4), (3 : Fin 4)] (by decide) (by decide),
    bigSep_univ_eq_bigSepL [(0 : Fin 4), (1 : Fin 4), (2 : Fin 4), (3 : Fin 4)] (by decide) (by decide)]
  rfl

/-- What a handshake state holds besides the debt. -/
def tcSt' (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 1).last q)) 1)))

theorem tcSt_split (d : Dev nD) (n : ℕ) : ((K (F := F)).tcSt EH d n : sProp 𝕄)
    = iprop((∃ R, ⌜(K (F := F)).WBelow (T d) R (cut n)⌝ ∗ owes (T d) (owedAt (F := F) n d) R) ∗ tcSt' d n) := rfl

/-- A TensorCore call of the program over the state that the host lines run in. -/
theorem wp_tc (p : Fin 4) (n : ℕ) (X X' : Dev nD → Valuation τ sig (Elt F))
    (R : Pipeline.RegionSeg (pcfgs (F := F)) adm (pdats m) none defs₀ 𝒱₀ (K (F := F)).L (K (F := F)).lev p)
    (hpre : ∀ d, R.pre d = tcThr n (X d) d) (hpost : ∀ d, R.post d = tcThr n (X' d) d) (d : Dev nD)
    [∀ e, Nonempty (Elt F e)] (Q : PUnit → sProp 𝕄) :
    iprop((iprop(boundary (T d) ∗ held (T d) (Pipeline.ucRefs τ sig) (X' d) ∗ (∃ r, prngReg d r) ∗ (K (F := F)).tcSt EH d n) -∗ Q ⟨⟩)
        ∗ boundary (T d) ∗ held (T d) (Pipeline.ucRefs τ sig) (X d) ∗ (∃ r, prngReg d r) ∗ (K (F := F)).tcSt EH d n
        ∗ levAts (K (F := F)).L (K (F := F)).lev ∗ Pipeline.cellsGhost cfgs (EP (F := F)) p d ∗ Pipeline.toksInit cfgs (EP (F := F)) p d)
      ⊢ wp frame (wpE ((K (F := F)).defs (D (F := F))) 𝒱 (T d) none) Set.univ (Prog.lift (.customCall (SparseCore.inner (Pipeline.entry p)) ())) Q := by
  refine BIBase.Entails.trans ?_ (wp_call m p R d Q)
  rw [hpre, hpost, tcSt_split]
  unfold tcThr
  iintro ⟨Hk, Hb, Hheld, Hpr, ⟨Ho, Hst⟩, Hl, Hg, Ht⟩
  isplitl [Hk Hst]
  · iintro ⟨Hb, Hheld, Hpr, Ho⟩
    iapply Hk
    isplitl [Hb]; · iexact Hb
    isplitl [Hheld]; · iexact Hheld
    isplitl [Hpr]; · iexact Hpr
    isplitl [Ho] <;> iassumption
  isplitl [Hb]; · iexact Hb
  isplitl [Hheld Hpr Ho]
  · isplitl [Hheld]; · iexact Hheld
    isplitl [Hpr] <;> iassumption
  isplitl [Hl]; · iexact Hl
  isplitl [Hg] <;> iassumption

/-- @main on device `d`: the host lines over the unscoped buffers, the first call, the gather from the table's shares, the
    index array and the result, and the three calls after it. -/
theorem hmain [∀ e, Nonempty (Elt F e)] (κ : GSem nD τ sig → ℕ) (d : Dev nD) :
    iprop((K (F := F)).ctx EH (P (tb m) (ic m) (oc m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (launchContents m d)
    from Pipeline.unscopedBufs_held d (launchContents m d), main_eq, G_eq]
  iintro ⟨#Hctx, Hst, ⟨Hb, Hheld, Hts, Hpr⟩, ⟨Hg0, Hg1, Hg2, Hg3⟩, Hk0, Hk1, Hk2, Hk3⟩
  ihave #Hlev := (SparseCore.Cfg.ctx_levAts κ) $$ Hctx
  ihave Hpr := (show (prngReg d (ρ d) : sProp 𝕄) ⊢ iprop(∃ r, prngReg d r) from exists_intro (Φ := fun r => (prngReg d r : sProp 𝕄)) (ρ d)) $$ Hpr
  iapply (StableHlo.wp_seq (defs := (K (F := F)).defs (D (F := F))) 𝒱 none Set.univ d (Pipeline.ucRefs τ sig) _ opsA
    (fun op hop => Pipeline.sub_ucRefs op (List.forall_iff_forall_mem.mp opsA_sub op hop)) opsA_fresh (launchContents m d)) $$ [Hb Hheld]
  · isplitl [Hb] <;> iassumption
  iintro ⟨Hb, Hheld⟩
  rw [wp_bind]
  iapply (wp_tc m 0 0 (W1 m) (W2 m) (reg0 m) (fun _ => rfl) (fun _ => rfl) d)
  isplitr [Hb Hheld Hpr Hst Hg0 Hk0]
  swap
  · isplitl [Hb]; · iexact Hb
    isplitl [Hheld]; · iexact Hheld
    isplitl [Hpr]; · iexact Hpr
    isplitl [Hst]; · iexact Hst
    isplitr; · iexact Hlev
    isplitl [Hg0] <;> iassumption
  iintro ⟨Hb, Hheld, Hpr, Hst⟩
  iapply (StableHlo.wp_seq (defs := (K (F := F)).defs (D (F := F))) 𝒱 none Set.univ d (Pipeline.ucRefs τ sig) _ opsB
    (fun op hop => Pipeline.sub_ucRefs op (List.forall_iff_forall_mem.mp opsB_sub op hop)) opsB_fresh (W2 m d)) $$ [Hb Hheld]
  · isplitl [Hb] <;> iassumption
  iintro ⟨Hb, Hheld⟩
  ihave Hh := (Entails.of_eq (held_U (F := F) d _)) $$ Hheld
  icases Hh with ⟨Ht, Hi, Ho, Hrest⟩
  ihave Ht' := (Transfers.pointsTo_toks_split fullShare 32) $$ Ht
  icases Ht' with ⟨Hd, Htoks⟩
  rw [wp_bind]
  iapply ((K (F := F)).wp_run (D (F := F)) 𝒱 (EH := EH) (P := P (tb m) (ic m) (oc m)) κ d 0) $$ [Hst Htoks Hi Ho Hd Hrest Hb Hts Hpr Hg1 Hk1 Hg2 Hk2 Hg3 Hk3]
  isplitr; · iexact Hctx
  isplitl [Hst]; · iexact Hst
  isplitl [Htoks Hi Ho]
  · rw [st_eq]
    isplitl [Hi]; · iexact Hi
    isplitl [Htoks]; · iexact Htoks
    iexact Ho
  iintro ⟨Hst, Hdn⟩
  ihave Hst := (Entails.of_eq (show ((K (F := F)).tcSt EH d ((0 : Fin 1).val + 1) : sProp 𝕄) = (K (F := F)).tcSt EH d 1 from rfl)) $$ Hst
  ihave Hdn' := (Entails.of_eq (dn_eq (tb m) (ic m) (oc m) d)) $$ Hdn
  icases Hdn' with ⟨Hi, Htoks, Ho⟩
  ihave Ht := (Transfers.pointsTo_toks_join (ℓ := tLoc d) (S := Finset.univ) (f := tb m d) fullShare 32) $$ [Hd Htoks]
  · isplitl [Hd]; · iexact Hd
    iexact Htoks
  ihave Hheld := (Entails.of_eq (held_VC (F := F) m d)) $$ [Ht Hi Ho Hrest]
  · isplitl [Ht]; · iexact Ht
    isplitl [Hi]; · iexact Hi
    isplitl [Ho]; · iexact Ho
    iexact Hrest
  iapply (StableHlo.wp_seq (defs := (K (F := F)).defs (D (F := F))) 𝒱 none Set.univ d (Pipeline.ucRefs τ sig) _ opsC
    (fun op hop => Pipeline.sub_ucRefs op (List.forall_iff_forall_mem.mp opsC_sub op hop)) opsC_fresh (VC m d)) $$ [Hb Hheld]
  · isplitl [Hb] <;> iassumption
  iintro ⟨Hb, Hheld⟩
  rw [wp_bind]
  iapply (wp_tc m 1 1 (W3 m) (W4 m) (reg2 m) (fun _ => rfl) (fun _ => rfl) d)
  isplitr [Hb Hheld Hpr Hst Hg1 Hk1]
  swap
  · isplitl [Hb]; · iexact Hb
    isplitl [Hheld]; · iexact Hheld
    isplitl [Hpr]; · iexact Hpr
    isplitl [Hst]; · iexact Hst
    isplitr; · iexact Hlev
    isplitl [Hg1] <;> iassumption
  iintro ⟨Hb, Hheld, Hpr, Hst⟩
  iapply (StableHlo.wp_seq (defs := (K (F := F)).defs (D (F := F))) 𝒱 none Set.univ d (Pipeline.ucRefs τ sig) _ opsD
    (fun op hop => Pipeline.sub_ucRefs op (List.forall_iff_forall_mem.mp opsD_sub op hop)) opsD_fresh (W4 m d)) $$ [Hb Hheld]
  · isplitl [Hb] <;> iassumption
  iintro ⟨Hb, Hheld⟩
  rw [wp_bind]
  iapply (wp_tc m 2 1 (W5 m) (W6 m) (reg3 m) (fun _ => rfl) (fun _ => rfl) d)
  isplitr [Hb Hheld Hpr Hst Hg2 Hk2]
  swap
  · isplitl [Hb]; · iexact Hb
    isplitl [Hheld]; · iexact Hheld
    isplitl [Hpr]; · iexact Hpr
    isplitl [Hst]; · iexact Hst
    isplitr; · iexact Hlev
    isplitl [Hg2] <;> iassumption
  iintro ⟨Hb, Hheld, Hpr, Hst⟩
  rw [wp_bind]
  iapply (wp_tc m 3 1 (W6 m) (W7 m) (reg4 m) (fun _ => rfl) (fun _ => rfl) d)
  isplitr [Hb Hheld Hpr Hst Hg3 Hk3]
  swap
  · isplitl [Hb]; · iexact Hb
    isplitl [Hheld]; · iexact Hheld
    isplitl [Hpr]; · iexact Hpr
    isplitl [Hst]; · iexact Hst
    isplitr; · iexact Hlev
    isplitl [Hg3] <;> iassumption
  iintro ⟨Hb, Hheld, Hpr, Hst⟩
  iapply (StableHlo.wp_seq (defs := (K (F := F)).defs (D (F := F))) 𝒱 none Set.univ d (Pipeline.ucRefs τ sig) _ opsE
    (fun op hop => Pipeline.sub_ucRefs op (List.forall_iff_forall_mem.mp opsE_sub op hop)) opsE_fresh (W7 m d)) $$ [Hb Hheld]
  · isplitl [Hb] <;> iassumption
  iintro ⟨Hb, Hheld⟩
  rw [wp_pure]; imodintro
  isplitl [Hst]; · iexact Hst
  isplitr [Hb Hts]
  · iexact Hheld
  isplitl [Hb] <;> iassumption

/-! ## Every final memory -/

/-- Device `d`'s unscoped buffers in the final memory. -/
def fq (d : Dev nD) (s' : Phys nD τ sig (Elt F)) : Prop := ∀ b ∈ Pipeline.ucRefs τ sig, s'.mem.mem (d, b) = VB m d b

theorem hfin (d : Dev nD) (s' : Phys nD τ sig (Elt F)) : iprop(FIN m d ∗ SI s') ⊢ (⌜fq m d s'⌝ : sProp 𝕄) := by
  have key : ∀ b ∈ Pipeline.ucRefs τ sig, iprop(FIN m d ∗ SI s') ⊢ (⌜s'.mem.mem (d, b) = VB m d b⌝ : sProp 𝕄) := by
    intro b hb
    unfold FIN
    rw [StableHlo.held_sub_split (T d) (T := {b}) (Finset.singleton_subset_iff.mpr hb)]
    unfold held
    rw [bigSep_singleton]
    iintro ⟨⟨Hb, -⟩, HSI⟩
    ihave H := (SI_pointsTo_agree (st := s') (ℓ := (d, b)) (I := Finset.univ) (q := fullShare) (f := VB m d b)) $$ [HSI Hb]
    · isplitl [HSI] <;> iassumption
    icases H with %h
    ipureintro; exact funext fun i => h i (Finset.mem_univ i)
  exact (forall_intro fun b => (forall_intro fun hb => key b hb).trans pure_forall.2).trans pure_forall.2

/-- What every final memory of the run satisfies. -/
def QC : PUnit × MemSt nD τ sig (Elt F) → Prop := fun r =>
  (∀ d : Dev nD, ∀ b ∈ Pipeline.ucRefs τ sig, r.2.mem (d, b) = VB m d b) ∧ r.2.sem = fun _ => 0

/-- The program's run: the indices being in range, every execution ends, with the unscoped buffers at `VB` and every
    semaphore at zero. -/
theorem run_main [∀ e, Nonempty (Elt F e)] (hic : InRows (ic m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (tb m) (ic m) (oc m)) (A := ∅) facts v₀
    (fun q hq => match q with | 0 => nomatch hq)
    (fun q _ => match q with | 0 => tileObl (tb m) (ic m) (oc m) facts hic)
    (fun q _ => match q with | 0 => SparseCore.Cfg.VecSplit.of_plain (vecSplit (tb m) (ic m) (oc m)))
    m ρ main (fun d => G d) (FIN m) (u₀ (F := F)) (sep_elim_left.trans (hu₀ (tb m) (ic m) (oc m))) (hmain m ρ) (fq m) (hfin m) (QC m) (fun _ h hz => ⟨h, hz⟩)

end Cert.Proof.KernelIdeal

end
-- ==== Proof.IdealValue.lean ====
/-
  The contents of the buffers the run ends with, read off its steps: the arguments unchanged, the users' result the first
  rows of the means, and the items' result the last call's output at the modal weights, the two original adjacencies, the item
  embeddings, the gathered rows, the coefficients and the means.
-/
module

public import proofs.«01_k».proof.Proof.IdealBlocks
public import proofs.«01_k».proof.Proof.IdealRun
public import Idealize.ShloMosaic.Lib.Pointwise.Reshape
public import Idealize.ShloMosaic.Lib.KernelVsHost
public import Idealize.ShloMosaic.Lib.Pointwise.SelectCore

@[expose] public section

noncomputable section

namespace Cert.Proof.KernelIdeal

open Cert.KernelIdeal Cert.KernelIdeal.Gen

open Idealize.ShloMosaic Idealize.ShloMosaic.TcCoe
open Idealize.ShloMosaic.Tactic
open Idealize.ShloMosaic.StableHlo (held seq after launchContents)

variable {F : FTy → Type} [FloatOps F] [Named F]
variable (m : (ℓ : Loc nD τ sig) → Buf (Elt F) ℓ)

/-- The program's arguments. -/
abbrev IsArg (b : Ref sig .tc) : Prop := b = main_arg0 ∨ b = main_arg1 ∨ b = main_arg2 ∨ b = main_arg3 ∨ b = main_arg4 ∨ b = main_arg5
  ∨ b = main_arg6 ∨ b = main_arg7 ∨ b = main_arg8 ∨ b = main_arg9 ∨ b = main_arg10

/-! ## Before the gather -/

theorem W1_arg (d : Dev nD) (b : Ref sig .tc) (hb : IsArg b) : W1 m d (Proc.devRef .tc b) = m ((SparseCore.T d).loc b) := by
  unfold W1 opsA
  rcases hb with rfl | rfl | rfl | rfl | rfl | rfl | rfl | rfl | rfl | rfl | rfl <;> (after_results <;> rfl)

/-- The modal weights: the softmax of the argument. -/
def wts (x : Vec F S2 .f32) : Vec F S2 .f32 :=
  let e : Vec F S2 .f32 := Host.exp (subf x (broadcastInDim S2 ![] Facts₀.bcast_S_S2
    (Host.reduce FloatOps.maximumf x (constant S_ .f32 0xFF800000#32) Facts₀.reducesTo_S2_S_d0 Facts₀.h_S_)))
  Host.divf e (broadcastInDim S2 ![] Facts₀.bcast_S_S2 (Host.reduceAdd e (constant S_ .f32 0x00000000#32) Facts₀.reducesTo_S2_S_d0 Facts₀.h_S_))

theorem W1_wts (d : Dev nD) : W1 m d (Proc.devRef .tc main_v6) = wts (m ((SparseCore.T d).loc main_arg4)) := by
  unfold W1 opsA wts
  after_results <;> rfl

theorem W2_arg (d : Dev nD) (b : Ref sig .tc) (hb : IsArg b) : W2 m d (Proc.devRef .tc b) = m ((SparseCore.T d).loc b) := by
  rw [W2_of m d b ?_, W1_arg m d b hb]
  rcases hb with rfl | rfl | rfl | rfl | rfl | rfl | rfl | rfl | rfl | rfl | rfl <;> decide

theorem W2_wts (d : Dev nD) : W2 m d (Proc.devRef .tc main_v6) = wts (m ((SparseCore.T d).loc main_arg4)) := by
  rw [W2_of m d main_v6 (by decide), W1_wts m d]

/-- The coefficients call's three arrays. -/
def embs (d : Dev nD) : Vec F S4096x64 .f32 :=
  k0_pay2 (wts (m ((SparseCore.T d).loc main_arg4)) (ValueIdx.ix1 0)) (wts (m ((SparseCore.T d).loc main_arg4)) (ValueIdx.ix1 1))
    (m ((SparseCore.T d).loc main_arg0)) (m ((SparseCore.T d).loc main_arg2)) (m ((SparseCore.T d).loc main_arg5))
def cin (d : Dev nD) : Vec F S4096x16 .f32 :=
  k0_pay3 (wts (m ((SparseCore.T d).loc main_arg4)) (ValueIdx.ix1 0)) (wts (m ((SparseCore.T d).loc main_arg4)) (ValueIdx.ix1 1))
    (m ((SparseCore.T d).loc main_arg0)) (m ((SparseCore.T d).loc main_arg2))
def cit (d : Dev nD) : Vec F S4096x16 .f32 :=
  k0_pay4 (wts (m ((SparseCore.T d).loc main_arg4)) (ValueIdx.ix1 0)) (wts (m ((SparseCore.T d).loc main_arg4)) (ValueIdx.ix1 1))
    (m ((SparseCore.T d).loc main_arg0)) (m ((SparseCore.T d).loc main_arg2))

theorem W2_embs (d : Dev nD) : W2 m d (Proc.devRef .tc main_v7_0) = embs m d := by
  refine (W2_arr m d 4).trans ((arr0_4 (V1 m) (owedAt (F := F) 0) (below (F := F) 0) d).trans ?_)
  unfold embs
  rw [show V1 m d main_v6 = wts (m ((SparseCore.T d).loc main_arg4)) from W1_wts m d,
    show V1 m d main_arg0 = m ((SparseCore.T d).loc main_arg0) from W1_arg m d main_arg0 (by decide),
    show V1 m d main_arg2 = m ((SparseCore.T d).loc main_arg2) from W1_arg m d main_arg2 (by decide),
    show V1 m d main_arg5 = m ((SparseCore.T d).loc main_arg5) from W1_arg m d main_arg5 (by decide)]
theorem W2_cin (d : Dev nD) : W2 m d (Proc.devRef .tc main_v7_1) = cin m d := by
  refine (W2_arr m d 5).trans ((arr0_5 (V1 m) (owedAt (F := F) 0) (below (F := F) 0) d).trans ?_)
  unfold cin
  rw [show V1 m d main_v6 = wts (m ((SparseCore.T d).loc main_arg4)) from W1_wts m d,
    show V1 m d main_arg0 = m ((SparseCore.T d).loc main_arg0) from W1_arg m d main_arg0 (by decide),
    show V1 m d main_arg2 = m ((SparseCore.T d).loc main_arg2) from W1_arg m d main_arg2 (by decide)]
theorem W2_cit (d : Dev nD) : W2 m d (Proc.devRef .tc main_v7_2) = cit m d := by
  refine (W2_arr m d 6).trans ((arr0_6 (V1 m) (owedAt (F := F) 0) (below (F := F) 0) d).trans ?_)
  unfold cit
  rw [show V1 m d main_v6 = wts (m ((SparseCore.T d).loc main_arg4)) from W1_wts m d,
    show V1 m d main_arg0 = m ((SparseCore.T d).loc main_arg0) from W1_arg m d main_arg0 (by decide),
    show V1 m d main_arg2 = m ((SparseCore.T d).loc main_arg2) from W1_arg m d main_arg2 (by decide)]

/-! ## The gather's arrays -/

/-- The two index arrays side by side, transposed; and the two coefficient arrays. -/
def idxT (d : Dev nD) : IVec S32x4096 32 :=
  transpose S32x4096 [1, 0] (concatenate S4096x32 1 [⟨S4096x16, m ((SparseCore.T d).loc main_arg1)⟩, ⟨S4096x16, m ((SparseCore.T d).loc main_arg3)⟩]
    Facts₀.concatenates_S4096x16_S4096x16_S4096x32_d1) Facts₀.transposes_S4096x32_S32x4096_1_0
def coefT (d : Dev nD) : Vec F S32x4096 .f32 :=
  transpose S32x4096 [1, 0] (concatenate S4096x32 1 [⟨S4096x16, cin m d⟩, ⟨S4096x16, cit m d⟩]
    Facts₀.concatenates_S4096x16_S4096x16_S4096x32_d1) Facts₀.transposes_S4096x32_S32x4096_1_0

theorem ic_eq (d : Dev nD) : ic m d = shapeCast S32x32x128 (idxT m d) Facts₀.shapeCasts_S32x4096_S32x32x128 := by
  unfold idxT
  rw [← W2_arg m d main_arg1 (by decide), ← W2_arg m d main_arg3 (by decide)]
  unfold ic VA opsB
  after_results <;> rfl

theorem VA_coef (d : Dev nD) : VA m d (Proc.devRef .tc main_v12) = coefT m d := by
  unfold coefT
  rw [← W2_cin m d, ← W2_cit m d]
  unfold VA opsB
  after_results <;> rfl

theorem tb_eq (d : Dev nD) : tb m d = pad S4096x128 ![0, 0] ![0, 64] ![0, 0] (embs m d) (sitofp .f32 (constantI S_ 32 0#32))
    Facts₀.pads_S4096x64_S4096x128_000_0640 Facts₀.h_S_ := by
  rw [← W2_embs m d]
  unfold tb VA opsB
  after_results <;> rfl

theorem VA_arg (d : Dev nD) (b : Ref sig .tc) (hb : IsArg b) : VA m d (Proc.devRef .tc b) = m ((SparseCore.T d).loc b) := by
  rw [← W2_arg m d b hb]
  unfold VA opsB
  rcases hb with rfl | rfl | rfl | rfl | rfl | rfl | rfl | rfl | rfl | rfl | rfl <;> (after_results <;> rfl)

theorem VA_wts (d : Dev nD) : VA m d (Proc.devRef .tc main_v6) = wts (m ((SparseCore.T d).loc main_arg4)) := by
  rw [← W2_wts m d]
  unfold VA opsB
  after_results <;> rfl

/-! ## After it -/

/-- The buffers read later that no step after the gather writes. -/
abbrev Kept (b : Ref sig .tc) : Prop := b = main_v12 ∨ b = main_v6 ∨ IsArg b

theorem W3_of (d : Dev nD) (b : Ref sig .tc) (h : Kept b) : W3 m d (Proc.devRef .tc b) = VA m d (Proc.devRef .tc b) := by
  have e1 : W3 m d (Proc.devRef .tc b) = VC m d (Proc.devRef .tc b) := by
    unfold W3 opsC
    rcases h with rfl | rfl | rfl | rfl | rfl | rfl | rfl | rfl | rfl | rfl | rfl | rfl | rfl <;> (after_results <;> rfl)
  rw [e1]
  exact Function.update_of_ne (by rcases h with rfl | rfl | rfl | rfl | rfl | rfl | rfl | rfl | rfl | rfl | rfl | rfl | rfl <;> decide) _ _

/-- The gathered rows' first sixty-four columns. -/
def gath (d : Dev nD) : Vec F S32x4096x64 .f32 :=
  extractStridedSlice S32x4096x64 ![0, 0, 0] (outVal (tb m) (ic m) d) Facts₀.slices_S32x4096x128_S32x4096x64_0_0_0

theorem W3_gath (d : Dev nD) : W3 m d (Proc.devRef .tc main_v15) = gath m d := by
  have e : W3 m d (Proc.devRef .tc main_v15) = extractStridedSlice S32x4096x64 ![0, 0, 0] (VC m d o') Facts₀.slices_S32x4096x128_S32x4096x64_0_0_0 := by
    unfold W3 opsC
    after_results <;> rfl
  rw [e]; unfold VC gath; rw [Function.update_self]

theorem VC_arg (d : Dev nD) (b : Ref sig .tc) (hb : IsArg b) : VC m d (Proc.devRef .tc b) = m ((SparseCore.T d).loc b) := by
  rw [← VA_arg m d b hb]
  exact Function.update_of_ne (by rcases hb with rfl | rfl | rfl | rfl | rfl | rfl | rfl | rfl | rfl | rfl | rfl <;> decide) _ _

/-! ## The means -/

/-- The user and the item embeddings, one above the other. -/
def both (u : Vec F S16384x64 .f32) (e : Vec F S4096x64 .f32) : Vec F S20480x64 .f32 :=
  concatenate S20480x64 0 [⟨S16384x64, u⟩, ⟨S4096x64, e⟩] Facts₀.concatenates_S16384x64_S4096x64_S20480x64_d0

/-- A layer's two partial sums. -/
def part0 (p : Vec F S2x20480x64 .f32) : Vec F S20480x64 .f32 :=
  shapeCast S20480x64 (extractStridedSlice S1x20480x64 ![0, 0, 0] p Facts₀.slices_S2x20480x64_S1x20480x64_0_0_0) Facts₀.shapeCasts_S1x20480x64_S20480x64
def part1 (p : Vec F S2x20480x64 .f32) : Vec F S20480x64 .f32 :=
  shapeCast S20480x64 (extractStridedSlice S1x20480x64 ![1, 0, 0] p Facts₀.slices_S2x20480x64_S1x20480x64_1_0_0) Facts₀.shapeCasts_S1x20480x64_S20480x64

theorem W3_both (d : Dev nD) : W3 m d (Proc.devRef .tc main_v16) = both (m ((SparseCore.T d).loc main_arg8)) (m ((SparseCore.T d).loc main_arg5)) := by
  rw [← VC_arg m d main_arg8 (by decide), ← VC_arg m d main_arg5 (by decide)]
  unfold W3 opsC both
  after_results <;> rfl
theorem W3_part0 (d : Dev nD) : W3 m d (Proc.devRef .tc main_v18) = part0 (m ((SparseCore.T d).loc main_arg9)) := by
  rw [← VC_arg m d main_arg9 (by decide)]
  unfold W3 opsC part0
  after_results <;> rfl
theorem W3_part1 (d : Dev nD) : W3 m d (Proc.devRef .tc main_v20) = part1 (m ((SparseCore.T d).loc main_arg9)) := by
  rw [← VC_arg m d main_arg9 (by decide)]
  unfold W3 opsC part1
  after_results <;> rfl

/-- The first layer, its partial sums added. -/
def sums (p : Vec F S2x20480x64 .f32) : Vec F S20480x64 .f32 := sumOut (part0 p) (part1 p)

theorem W4_sums (d : Dev nD) : W4 m d (Proc.devRef .tc main_v21) = sums (m ((SparseCore.T d).loc main_arg9)) := by
  refine (W4_arr m d 2).trans ((arr2_2 (V3 m) (owedAt (F := F) 1) (below (F := F) 1) d).trans ?_)
  exact congrArg₂ sumOut (W3_part0 m d) (W3_part1 m d)

theorem W4_kept (d : Dev nD) (b : Ref sig .tc) (h : Kept b) : W4 m d (Proc.devRef .tc b) = VA m d (Proc.devRef .tc b) := by
  rw [W4_of m d b ?_, W3_of m d b h]
  rcases h with rfl | rfl | rfl | rfl | rfl | rfl | rfl | rfl | rfl | rfl | rfl | rfl | rfl <;> decide

theorem W4_arg (d : Dev nD) (b : Ref sig .tc) (hb : IsArg b) : W4 m d (Proc.devRef .tc b) = m ((SparseCore.T d).loc b) :=
  (W4_kept m d b (.inr (.inr hb))).trans (VA_arg m d b hb)

theorem W5_of (d : Dev nD) (b : Ref sig .tc) (h : b = main_v15 ∨ b = main_v16 ∨ b = main_v21 ∨ Kept b) :
    W5 m d (Proc.devRef .tc b) = W4 m d (Proc.devRef .tc b) := by
  unfold W5 opsD
  rcases h with rfl | rfl | rfl | rfl | rfl | rfl | rfl | rfl | rfl | rfl | rfl | rfl | rfl | rfl | rfl | rfl <;> (after_results <;> rfl)
theorem W5_part0 (d : Dev nD) : W5 m d (Proc.devRef .tc main_v23) = part0 (m ((SparseCore.T d).loc main_arg10)) := by
  rw [← W4_arg m d main_arg10 (by decide)]
  unfold W5 opsD part0
  after_results <;> rfl
theorem W5_part1 (d : Dev nD) : W5 m d (Proc.devRef .tc main_v25) = part1 (m ((SparseCore.T d).loc main_arg10)) := by
  rw [← W4_arg m d main_arg10 (by decide)]
  unfold W5 opsD part1
  after_results <;> rfl

/-- The means of the embeddings and the two layers. -/
def means (u : Vec F S16384x64 .f32) (e : Vec F S4096x64 .f32) (p q : Vec F S2x20480x64 .f32) : Vec F S20480x64 .f32 :=
  meanOut (both u e) (sums p) (part0 q) (part1 q)

theorem W6_means (d : Dev nD) : W6 m d (Proc.devRef .tc main_v26) = means (m ((SparseCore.T d).loc main_arg8)) (m ((SparseCore.T d).loc main_arg5))
    (m ((SparseCore.T d).loc main_arg9)) (m ((SparseCore.T d).loc main_arg10)) := by
  refine (W6_arr m d 4).trans ((arr3_4 (V5 m) (owedAt (F := F) 1) (below (F := F) 1) d).trans ?_)
  unfold means
  rw [show V5 m d main_v16 = both (m ((SparseCore.T d).loc main_arg8)) (m ((SparseCore.T d).loc main_arg5)) from
      (W5_of m d main_v16 (by decide)).trans ((W4_of m d main_v16 (by decide)).trans (W3_both m d)),
    show V5 m d main_v21 = sums (m ((SparseCore.T d).loc main_arg9)) from (W5_of m d main_v21 (by decide)).trans (W4_sums m d),
    show V5 m d main_v23 = part0 (m ((SparseCore.T d).loc main_arg10)) from W5_part0 m d,
    show V5 m d main_v25 = part1 (m ((SparseCore.T d).loc main_arg10)) from W5_part1 m d]

theorem W6_kept (d : Dev nD) (b : Ref sig .tc) (h : Kept b) : W6 m d (Proc.devRef .tc b) = VA m d (Proc.devRef .tc b) := by
  rw [W6_of m d b ?_, W5_of m d b (.inr (.inr (.inr h))), W4_kept m d b h]
  rcases h with rfl | rfl | rfl | rfl | rfl | rfl | rfl | rfl | rfl | rfl | rfl | rfl | rfl <;> decide

theorem W6_arg (d : Dev nD) (b : Ref sig .tc) (hb : IsArg b) : W6 m d (Proc.devRef .tc b) = m ((SparseCore.T d).loc b) :=
  (W6_kept m d b (.inr (.inr hb))).trans (VA_arg m d b hb)

theorem W6_gath (d : Dev nD) : W6 m d (Proc.devRef .tc main_v15) = gath m d := by
  rw [W6_of m d main_v15 (by decide), W5_of m d main_v15 (by decide), W4_of m d main_v15 (by decide), W3_gath]

/-! ## The end -/

theorem VB_of (d : Dev nD) (b : Ref sig .tc) (h : b = main_v27 ∨ IsArg b) : VB m d (Proc.devRef .tc b) = W7 m d (Proc.devRef .tc b) := by
  unfold VB opsE
  rcases h with rfl | rfl | rfl | rfl | rfl | rfl | rfl | rfl | rfl | rfl | rfl | rfl <;> (after_results <;> rfl)

theorem VB_arg (d : Dev nD) (b : Ref sig .tc) (hb : IsArg b) : VB m d (Proc.devRef .tc b) = m ((SparseCore.T d).loc b) := by
  rw [VB_of m d b (.inr hb), W7_of m d b ?_, W6_arg m d b hb]
  rcases hb with rfl | rfl | rfl | rfl | rfl | rfl | rfl | rfl | rfl | rfl | rfl <;> decide

/-- The users' result. -/
theorem VB_users (d : Dev nD) : VB m d (Proc.devRef .tc main_v28)
    = extractStridedSlice S16384x64 ![0, 0] (means (m ((SparseCore.T d).loc main_arg8)) (m ((SparseCore.T d).loc main_arg5))
        (m ((SparseCore.T d).loc main_arg9)) (m ((SparseCore.T d).loc main_arg10))) Facts₀.slices_S20480x64_S16384x64_0_0 := by
  rw [← W6_means m d, ← W7_of m d main_v26 (by decide)]
  unfold VB opsE
  after_results <;> rfl

/-- The items' result. -/
theorem VB_out (d : Dev nD) : VB m d (Proc.devRef .tc main_v27)
    = lastOut (wts (m ((SparseCore.T d).loc main_arg4))) (m ((SparseCore.T d).loc main_arg6)) (m ((SparseCore.T d).loc main_arg7))
        (m ((SparseCore.T d).loc main_arg5)) (gath m d) (coefT m d)
        (means (m ((SparseCore.T d).loc main_arg8)) (m ((SparseCore.T d).loc main_arg5)) (m ((SparseCore.T d).loc main_arg9)) (m ((SparseCore.T d).loc main_arg10))) := by
  refine (VB_of m d main_v27 (by decide)).trans ((W7_arr m d 7).trans ((arr4_7 (V6 m) (owedAt (F := F) 1) (below (F := F) 1) d).trans ?_))
  rw [show V6 m d main_v6 = wts (m ((SparseCore.T d).loc main_arg4)) from (W6_kept m d main_v6 (by decide)).trans (VA_wts m d),
    show V6 m d main_arg6 = m ((SparseCore.T d).loc main_arg6) from W6_arg m d main_arg6 (by decide),
    show V6 m d main_arg7 = m ((SparseCore.T d).loc main_arg7) from W6_arg m d main_arg7 (by decide),
    show V6 m d main_arg5 = m ((SparseCore.T d).loc main_arg5) from W6_arg m d main_arg5 (by decide),
    show V6 m d main_v12 = coefT m d from (W6_kept m d main_v12 (by decide)).trans (VA_coef m d),
    show V6 m d main_v15 = gath m d from W6_gath m d,
    show V6 m d main_v26 = means (m ((SparseCore.T d).loc main_arg8)) (m ((SparseCore.T d).loc main_arg5)) (m ((SparseCore.T d).loc main_arg9))
      (m ((SparseCore.T d).loc main_arg10)) from W6_means m d]

/-! ## Indices -/

/-- Every index is one of the table's rows. -/
def ArgsIn : Prop := ∀ (d : Dev nD) (x : S4096x16.Idx),
  (m ((SparseCore.T d).loc main_arg1) x : BitVec 32).toNat < 4096 ∧ (m ((SparseCore.T d).loc main_arg3) x : BitVec 32).toNat < 4096

theorem idxT_lt (h : ArgsIn m) (d : Dev nD) (x : S32x4096.Idx) : (idxT m d x).toNat < 4096 := by
  unfold idxT transpose
  refine concatenate_forall (P := fun v : BitVec 32 => v.toNat < 4096) S4096x32 1 _ _ ?_ _
  intro p hp i
  rcases List.mem_cons.mp hp with rfl | hp
  · exact (h d i).1
  · rcases List.mem_cons.mp hp with rfl | hp
    · exact (h d i).2
    · exact nomatch hp

theorem inRows (h : ArgsIn m) : InRows (ic m) := by
  intro d x
  rw [ic_eq]
  exact idxT_lt m h d _

/-- Word `(n, c, j)` of the chunked indices is word `(n, 128 c + j)` of the transposed ones. -/
theorem ic_at (d : Dev nD) (n : Fin 32) (i : Fin 4096) :
    ic m d (ValueIdx.ix3 n (⟨i.val / 128, by omega⟩ : Fin 32) (⟨i.val % 128, by omega⟩ : Fin 128)) = idxT m d (ValueIdx.ix2 n i) := by
  rw [ic_eq]
  unfold shapeCast
  refine congrArg (idxT m d) (Shape.reshapeEquiv_eq_of_rowMajor _ ?_)
  rw [rowMajor_val3 _ 4096 128 rfl rfl, rowMajor_val2 _ 4096 rfl]
  show n.val * 4096 + i.val = n.val * 4096 + i.val / 128 * 128 + i.val % 128
  omega

/-- The gathered rows, entry by entry. -/
theorem gath_at (h : ArgsIn m) (d : Dev nD) (n : Fin 32) (i : Fin 4096) (e : Fin 64) :
    gath m d (ValueIdx.ix3 n i e) = embs m d (ValueIdx.ix2 (⟨(idxT m d (ValueIdx.ix2 n i)).toNat, idxT_lt m h d _⟩ : Fin 4096) e) := by
  have e1 : gath m d (ValueIdx.ix3 n i e : S32x4096x64.Idx)
      = outVal (tb m) (ic m) d (ValueIdx.ix3 n i (⟨e.val, by omega⟩ : Fin 128) : S32x4096x128.Idx) := by
    unfold gath extractStridedSlice
    refine congrArg _ (funext fun a => Fin.ext ?_)
    match a with
    | ⟨0, _⟩ => exact Nat.zero_add _
    | ⟨1, _⟩ => exact Nat.zero_add _
    | ⟨2, _⟩ => exact Nat.zero_add _
  rw [e1]
  have e2 : outVal (tb m) (ic m) d (ValueIdx.ix3 n i (⟨e.val, by omega⟩ : Fin 128) : S32x4096x128.Idx)
      = tb m d (ValueIdx.ix2 (rowAt (ic m d (ValueIdx.ix3 n (⟨i.val / 128, by omega⟩ : Fin 32) (⟨i.val % 128, by omega⟩ : Fin 128)))) (⟨e.val, by omega⟩ : Fin 128) : S4096x128.Idx) := rfl
  rw [e2, ic_at, tb_eq]
  refine pad_apply_of_inside _ _ _ _ _ _ _ _ _ ?_
  intro a
  match a with
  | ⟨0, _⟩ =>
    show (idxT m d (ValueIdx.ix2 n i)).toNat % 4096 = 0 + (idxT m d (ValueIdx.ix2 n i)).toNat * 1
    rw [Nat.mod_eq_of_lt (idxT_lt m h d _)]; omega
  | ⟨1, _⟩ => show e.val = 0 + e.val * 1; omega

end Cert.Proof.KernelIdeal

end
-- ==== Proof.Algebra.lean ====
/-
  The identity behind the last call, over the extended reals: a row of the normalised learned adjacency, added to a row of the
  original one and multiplied into the embeddings, is the weighted sum of the neighbours' scaled embeddings added to the
  original row's product.
-/
module

public import Idealize.ShloMosaic.PureOps.Ideal

@[expose] public section

noncomputable section

namespace Cert.Proof.Algebra

open Idealize.ShloMosaic

variable {ι κ : Type} [Fintype ι] [Fintype κ] [DecidableEq κ]

/-- A real factor that isn't negative goes into a sum. -/
theorem mul_sum_of_nonneg (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top _), ih]

/-- A real goes out of a sum under a real factor. -/
theorem add_mul_real (p e : ℝ) (y : EReal) : ((p : EReal) + y) * (e : EReal) = ((p * e : ℝ) : EReal) + y * (e : EReal) := by
  induction y with
  | bot =>
    rw [EReal.add_bot]
    rcases lt_trichotomy e 0 with h | h | h
    · rw [EReal.bot_mul_coe_of_neg h, EReal.coe_add_top]
    · subst h; simp
    · rw [EReal.bot_mul_coe_of_pos h, EReal.add_bot]
  | top =>
    rw [EReal.coe_add_top]
    rcases lt_trichotomy e 0 with h | h | h
    · rw [EReal.top_mul_coe_of_neg h, EReal.add_bot]
    · subst h; simp
    · rw [EReal.top_mul_coe_of_pos h, EReal.coe_add_top]
  | coe y => norm_cast; rw [add_mul]

theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum that is real has real terms. -/
theorem real_of_add {x y : EReal} {r : ℝ} (h : x + y = r) : (∃ a : ℝ, x = a) ∧ ∃ b : ℝ, y = b := by
  induction x with
  | bot => rw [EReal.bot_add] at h; exact absurd h (EReal.bot_ne_coe r)
  | top =>
    induction y with
    | bot => rw [EReal.add_bot] at h; exact absurd h (EReal.bot_ne_coe r)
    | top => exact absurd h (by simp)
    | coe y => rw [EReal.top_add_coe] at h; exact absurd h.symm (EReal.coe_ne_top r)
  | coe x =>
    induction y with
    | bot => rw [EReal.add_bot] at h; exact absurd h (EReal.bot_ne_coe r)
    | top => rw [EReal.coe_add_top] at h; exact absurd h.symm (EReal.coe_ne_top r)
    | coe y => exact ⟨⟨x, rfl⟩, ⟨y, rfl⟩⟩

theorem real_of_sum (s : Finset ι) (f : ι → EReal) {r : ℝ} (h : ∑ i ∈ s, f i = r) : ∀ i ∈ s, ∃ a : ℝ, f i = a := by
  classical
  induction s using Finset.induction_on generalizing r with
  | empty => intro i hi; exact absurd hi (Finset.notMem_empty i)
  | insert i s hi ih =>
    rw [Finset.sum_insert hi] at h
    obtain ⟨ha, b, hb⟩ := real_of_add h
    intro j hj
    rcases Finset.mem_insert.mp hj with rfl | hj
    · exact ha
    · exact ih hb j hj

theorem real_of_mul_pos {w : ℝ} (hw : 0 < w) {x : EReal} {r : ℝ} (h : (w : EReal) * x = r) : ∃ a : ℝ, x = a := by
  induction x with
  | bot => rw [EReal.coe_mul_bot_of_pos hw] at h; exact absurd h (EReal.bot_ne_coe r)
  | top => rw [EReal.coe_mul_top_of_pos hw] at h; exact absurd h.symm (EReal.coe_ne_top r)
  | coe x => exact ⟨x, rfl⟩

/-- The scaling of a row by its sum. -/
def scale (x : EReal) : EReal := if x = 0 then 0 else Ideal.rsqrt x

theorem scale_real {x : EReal} (h : 0 ≤ x) : ∃ r : ℝ, scale x = r := by
  unfold scale
  split
  · exact ⟨0, rfl⟩
  · rename_i hx
    induction x with
    | bot => exact absurd h (by simp)
    | top => exact ⟨0, rfl⟩
    | coe x =>
      have h0 : 0 ≤ x := by exact_mod_cast h
      have h1 : x ≠ 0 := fun e => hx (by rw [e]; rfl)
      exact ⟨(Real.sqrt x)⁻¹, by rw [Ideal.rsqrt_coe, if_neg (not_lt.mpr h0), if_neg h1]⟩

theorem scale_zero_or {x : EReal} (h : 0 ≤ x) : scale x = 0 ∨ ∃ r : ℝ, x = r := by
  induction x with
  | bot => exact absurd h (by simp)
  | top => left; unfold scale; rw [if_neg (by simp)]; rfl
  | coe x => exact .inr ⟨x, rfl⟩

/-- Row `r` of the learned adjacency at column `c`: the row's values at their columns, weighted. -/
def learned (w0 w1 : EReal) (vi vt : ι → EReal) (ii it : ι → κ) (c : κ) : EReal :=
  w0 * (∑ k, if ii k = c then vi k else 0) + w1 * ∑ k, if it k = c then vt k else 0

/-- The learned adjacency's row sum is the weighted sum of the row's values. -/
theorem sum_learned (w0 w1 : ℝ) (h0 : 0 ≤ w0) (h1 : 0 ≤ w1) (vi vt : ι → EReal) (ii it : ι → κ) :
    ∑ c, learned w0 w1 vi vt ii it c = w0 * (∑ k, vi k) + w1 * ∑ k, vt k := by
  unfold learned
  rw [Finset.sum_add_distrib, ← mul_sum_of_nonneg _ _ h0, ← mul_sum_of_nonneg _ _ h1, Finset.sum_comm, Finset.sum_comm (s := Finset.univ) (t := Finset.univ) (f := fun c k => if it k = c then vt k else 0)]
  simp

/-- The identity where every value is real. -/
theorem row_real (w0 w1 dr h1 : ℝ) (vi vt : ι → ℝ) (ii it : ι → κ) (d e : κ → ℝ) :
    ∑ c, h1 * (dr * (w0 * (∑ k, if ii k = c then vi k else 0) + w1 * ∑ k, if it k = c then vt k else 0) * d c) * e c
      = h1 * (∑ k, e (ii k) * d (ii k) * (vi k * (w0 * dr)) + ∑ k, e (it k) * d (it k) * (vt k * (w1 * dr))) := by
  have one : ∀ (w : ℝ) (v : ι → ℝ) (i : ι → κ), ∑ k, e (i k) * d (i k) * (v k * (w * dr)) = ∑ c, dr * (w * ∑ k, if i k = c then v k else 0) * d c * e c := by
    intro w v i
    simp only [Finset.mul_sum, Finset.sum_mul]
    rw [Finset.sum_comm]
    refine Finset.sum_congr rfl fun k _ => ?_
    rw [Finset.sum_eq_single (i k) (fun c _ hc => by rw [if_neg (fun h => hc h.symm)]; ring) (fun h => absurd (Finset.mem_univ _) h), if_pos rfl]
    ring
  rw [one w0 vi ii, one w1 vt it, ← Finset.sum_add_distrib, Finset.mul_sum]
  exact Finset.sum_congr rfl fun c _ => by ring

/-- The identity, the row's scaling zero or its values real; the original row arbitrary. -/
theorem row (w0 w1 dr h1 h9 : ℝ) (hh : 0 ≤ h9) (vi vt : ι → EReal) (ii it : ι → κ) (d e : κ → ℝ) (a : κ → EReal)
    (hv : dr = 0 ∨ (∀ k, ∃ x : ℝ, vi k = x) ∧ ∀ k, ∃ x : ℝ, vt k = x) :
    ∑ c, ((h1 : EReal) * ((dr : EReal) * learned w0 w1 vi vt ii it c * (d c : EReal)) + (h9 : EReal) * a c) * (e c : EReal)
      = (h1 : EReal) * (∑ k, (e (ii k) : EReal) * (d (ii k) : EReal) * (vi k * ((w0 : EReal) * (dr : EReal)))
          + ∑ k, (e (it k) : EReal) * (d (it k) : EReal) * (vt k * ((w1 : EReal) * (dr : EReal))))
        + (h9 : EReal) * ∑ c, a c * (e c : EReal) := by
  rw [mul_sum_of_nonneg _ _ hh]
  rcases hv with rfl | ⟨hvi, hvt⟩
  · simp [mul_assoc]
  · choose xi hxi using hvi
    choose xt hxt using hvt
    obtain rfl : vi = fun k => (xi k : EReal) := funext hxi
    obtain rfl : vt = fun k => (xt k : EReal) := funext hxt
    have hl : ∀ c, learned (w0 : EReal) (w1 : EReal) (fun k => (xi k : EReal)) (fun k => (xt k : EReal)) ii it c
        = ((w0 * (∑ k, if ii k = c then xi k else 0) + w1 * ∑ k, if it k = c then xt k else 0 : ℝ) : EReal) := by
      intro c
      unfold learned
      rw [EReal.coe_add, EReal.coe_mul, EReal.coe_mul, coe_sum, coe_sum]
      congr 2 <;> refine Finset.sum_congr rfl fun k _ => ?_ <;> split <;> rfl
    have hs : ∀ c, ((h1 : EReal) * ((dr : EReal) * learned w0 w1 (fun k => (xi k : EReal)) (fun k => (xt k : EReal)) ii it c * (d c : EReal)) + (h9 : EReal) * a c) * (e c : EReal)
        = ((h1 * (dr * (w0 * (∑ k, if ii k = c then xi k else 0) + w1 * ∑ k, if it k = c then xt k else 0) * d c) * e c : ℝ) : EReal)
          + (h9 : EReal) * (a c * (e c : EReal)) := by
      intro c
      have h := add_mul_real (h1 * (dr * (w0 * (∑ k, if ii k = c then xi k else 0) + w1 * ∑ k, if it k = c then xt k else 0) * d c)) (e c) ((h9 : EReal) * a c)
      rw [hl, ← mul_assoc (h9 : EReal)]
      simp only [EReal.coe_mul] at h ⊢
      exact h
    simp only [hs]
    rw [Finset.sum_add_distrib, ← coe_sum, row_real]
    congr 1
    rw [EReal.coe_mul, EReal.coe_add, coe_sum, coe_sum]
    simp only [EReal.coe_mul]

end Cert.Proof.Algebra

end
-- ==== Proof.IdealRead.lean ====
/-
  The program's results read at an entry, its floats extended reals.
-/
module

public import proofs.«01_k».proof.Proof.IdealValue
public import proofs.«01_k».proof.Proof.Algebra
public import Idealize.ShloMosaic.Lib.Pointwise

@[expose] public section

noncomputable section

namespace Cert.Proof.KernelIdeal

open Cert.KernelIdeal Cert.KernelIdeal.Gen

open Idealize.ShloMosaic Idealize.ShloMosaic.TcCoe

/-- The scaling of row `r`. -/
def dg (w0 w1 : EReal) (vi vt : Vec Ideal S4096x16 .f32) (r : Fin 4096) : EReal :=
  Algebra.scale (w0 * (∑ k : Fin 16, vi (ValueIdx.ix2 r k)) + w1 * ∑ k : Fin 16, vt (ValueIdx.ix2 r k))

theorem scal_at (w0 w1 : Ideal .f32) (vi vt : Vec Ideal S4096x16 .f32) (r : Fin 4096) : k0_pay1 (F := Ideal) w0 w1 vi vt (ValueIdx.ix1 r) = dg w0 w1 vi vt r := by
  unfold k0_pay1 dg Algebra.scale
  pointwise
  rfl

theorem embs_at (w0 w1 : Ideal .f32) (vi vt : Vec Ideal S4096x16 .f32) (e : Vec Ideal S4096x64 .f32) (r : Fin 4096) (j : Fin 64) :
    k0_pay2 (F := Ideal) w0 w1 vi vt e (ValueIdx.ix2 r j) = e (ValueIdx.ix2 r j) * dg w0 w1 vi vt r := by
  rw [← scal_at]
  unfold k0_pay2
  pointwise
  rfl

theorem cin_at (w0 w1 : Ideal .f32) (vi vt : Vec Ideal S4096x16 .f32) (r : Fin 4096) (k : Fin 16) :
    k0_pay3 (F := Ideal) w0 w1 vi vt (ValueIdx.ix2 r k) = vi (ValueIdx.ix2 r k) * (w0 * dg w0 w1 vi vt r) := by
  rw [← scal_at]
  unfold k0_pay3
  pointwise
  rfl

theorem cit_at (w0 w1 : Ideal .f32) (vi vt : Vec Ideal S4096x16 .f32) (r : Fin 4096) (k : Fin 16) :
    k0_pay4 (F := Ideal) w0 w1 vi vt (ValueIdx.ix2 r k) = vt (ValueIdx.ix2 r k) * (w1 * dg w0 w1 vi vt r) := by
  rw [← scal_at]
  unfold k0_pay4
  pointwise
  rfl

/-- The row of the two products, weighted: before its division by its length. -/
def hrow (w : Vec Ideal S2 .f32) (a b : Vec Ideal S4096x4096 .f32) (e : Vec Ideal S4096x64 .f32) (g : Vec Ideal S32x4096x64 .f32)
    (k : Vec Ideal S32x4096 .f32) (r : Fin 4096) (j : Fin 64) : EReal :=
  (FloatOps.ofBits .f32 0x3DCCCCCD#32 : Ideal .f32) * (∑ n : Fin 32, g (ValueIdx.ix3 n r j) * k (ValueIdx.ix2 n r))
    + (FloatOps.ofBits .f32 0x3F666666#32 : Ideal .f32)
      * ∑ c : Fin 4096, (w (ValueIdx.ix1 0) * a (ValueIdx.ix2 r c) + w (ValueIdx.ix1 1) * b (ValueIdx.ix2 r c)) * e (ValueIdx.ix2 c j)

theorem lastPay_at (w : Vec Ideal S2 .f32) (a b : Vec Ideal S4096x4096 .f32) (e : Vec Ideal S4096x64 .f32) (g : Vec Ideal S32x4096x64 .f32)
    (k : Vec Ideal S32x4096 .f32) (u : Vec Ideal S20480x64 .f32) (t : Fin 16) (p : Fin 256) (j : Fin 64) :
    lastPay (F := Ideal) w a b e g k u t (ValueIdx.ix2 p j)
      = u (ValueIdx.ix2 ⟨16384 + (rowOf t p).val, by omega⟩ j)
        + Ideal.div (hrow w a b e g k (rowOf t p) j)
            (max (Ideal.sqrt (∑ i : Fin 64, hrow w a b e g k (rowOf t p) i * hrow w a b e g k (rowOf t p) i)) (FloatOps.ofBits .f32 0x2B8CBCCC#32 : Ideal .f32)) := by
  unfold lastPay k4_pay1 hrow
  pointwise
  rfl

theorem out_at (w : Vec Ideal S2 .f32) (a b : Vec Ideal S4096x4096 .f32) (e : Vec Ideal S4096x64 .f32) (g : Vec Ideal S32x4096x64 .f32)
    (k : Vec Ideal S32x4096 .f32) (u : Vec Ideal S20480x64 .f32) (r : Fin 4096) (j : Fin 64) :
    lastOut (F := Ideal) w a b e g k u (ValueIdx.ix2 r j)
      = u (ValueIdx.ix2 ⟨16384 + r.val, by omega⟩ j)
        + Ideal.div (hrow w a b e g k r j)
            (max (Ideal.sqrt (∑ i : Fin 64, hrow w a b e g k r i * hrow w a b e g k r i)) (FloatOps.ofBits .f32 0x2B8CBCCC#32 : Ideal .f32)) := by
  obtain ⟨t, p, rfl⟩ : ∃ (t : Fin 16) (p : Fin 256), r = rowOf t p :=
    ⟨⟨r.val / 256, by omega⟩, ⟨r.val % 256, by omega⟩, Fin.ext (by show r.val = r.val / 256 * 256 + r.val % 256; omega)⟩
  exact (lastOut_at w a b e g k u t p j).trans (lastPay_at w a b e g k u t p j)

theorem third_eq : (Named.named (F := Ideal) Cert.KernelIdeal.κ "third" (φ := .f32) 0x3EAAAAAB#32 : Ideal .f32) = ((3⁻¹ : ℝ) : EReal) :=
  IdealRules.named_const.ideal_named_scalar _ _ _ _ rfl

/-- A mean: the embedding, the first layer's sum and the second's two parts, times a third. -/
theorem means_at (u : Vec Ideal S16384x64 .f32) (e : Vec Ideal S4096x64 .f32) (p q : Vec Ideal S2x20480x64 .f32) (i : S20480x64.Idx) :
    means (F := Ideal) u e p q i
      = (both (F := Ideal) u e i + (part0 (F := Ideal) p i + part1 (F := Ideal) p i) + part0 (F := Ideal) q i + part1 (F := Ideal) q i) * ((3⁻¹ : ℝ) : EReal) := by
  unfold means meanOut sums sumOut k3_pay1
  simp only [shapeCast_id]
  rw [← third_eq]
  rfl

variable (m : (ℓ : Loc nD τ sig) → Buf (Elt Ideal) ℓ)

theorem idxT_left (d : Dev nD) (k : Fin 16) (r : Fin 4096) :
    idxT m d (ValueIdx.ix2 (⟨k.val, by omega⟩ : Fin 32) r) = m ((SparseCore.T d).loc main_arg1) (ValueIdx.ix2 r k) := by
  unfold idxT
  pointwise
  rfl

theorem idxT_right (d : Dev nD) (k : Fin 16) (r : Fin 4096) :
    idxT m d (ValueIdx.ix2 (⟨16 + k.val, by omega⟩ : Fin 32) r) = m ((SparseCore.T d).loc main_arg3) (ValueIdx.ix2 r k) := by
  unfold idxT
  pointwise
  rfl

theorem coefT_left (d : Dev nD) (k : Fin 16) (r : Fin 4096) : coefT m d (ValueIdx.ix2 (⟨k.val, by omega⟩ : Fin 32) r) = cin m d (ValueIdx.ix2 r k) := by
  unfold coefT
  pointwise
  rfl

theorem coefT_right (d : Dev nD) (k : Fin 16) (r : Fin 4096) : coefT m d (ValueIdx.ix2 (⟨16 + k.val, by omega⟩ : Fin 32) r) = cit m d (ValueIdx.ix2 r k) := by
  unfold coefT
  pointwise
  rfl

end Cert.Proof.KernelIdeal

end
-- ==== Proof.RefRead.lean ====
/-
  The reference's results read at an entry: its steps named, each read at an index.
-/
module

public import proofs.«01_k».proof.Proof.Gen.ReferenceIdeal.Run
public import proofs.«01_k».proof.Proof.Algebra
public import Idealize.ShloMosaic.Lib.Pointwise
public import Idealize.ShloMosaic.Lib.Routing.OpsPair

@[expose] public section

noncomputable section

namespace Cert.Proof.Ref

open Cert.ReferenceIdeal Cert.ReferenceIdeal.Gen Idealize.ShloMosaic Idealize.ShloMosaic.TcCoe

/-- The softmax of the modal weights. -/
def wts (x : FVec Ideal S2 .f32) : FVec Ideal S2 .f32 :=
  let e : FVec Ideal S2 .f32 := Host.exp (subf x (broadcastInDim S2 ![0] bcast_S1_S2_0 (broadcastInDim S1 ![] bcast_S_S1
    (maximumf (constant S_ .f32 0xFF800000#32) (Host.reduce FloatOps.maximumf x (constant S_ .f32 0xFF800000#32) reducesTo_S2_S_d0 h_S_)))))
  Host.divf e (broadcastInDim S2 ![0] bcast_S1_S2_0 (broadcastInDim S1 ![] bcast_S_S1
    (Host.reduceAdd e (constant S_ .f32 0x00000000#32) reducesTo_S2_S_d0 h_S_)))

/-- The row and the column each of a modality's values goes to. -/
def place (ix : IVec S4096x16 32) : IVec S4096x16x2 32 :=
  concatenate S4096x16x2 2
    [⟨S4096x16x1, broadcastInDim S4096x16x1 ![0, 1] bcast_S4096x16_S4096x16x1_0_1 (broadcastInDim S4096x16 ![0, 1] bcast_S4096x1_S4096x16_0_1
      (select (cmpi .slt (broadcastInDim S4096x1 ![0] bcast_S4096_S4096x1_0 (iotaInDim S4096 32 0)) (broadcastInDim S4096x1 ![] bcast_S_S4096x1 (constantI S_ 32 0#32)))
        (addi (broadcastInDim S4096x1 ![0] bcast_S4096_S4096x1_0 (iotaInDim S4096 32 0)) (broadcastInDim S4096x1 ![] bcast_S_S4096x1 (constantI S_ 32 4096#32)))
        (broadcastInDim S4096x1 ![0] bcast_S4096_S4096x1_0 (iotaInDim S4096 32 0))))⟩,
     ⟨S4096x16x1, broadcastInDim S4096x16x1 ![0, 1] bcast_S4096x16_S4096x16x1_0_1
      (select (cmpi .slt ix (broadcastInDim S4096x16 ![] bcast_S_S4096x16 (constantI S_ 32 0#32)))
        (addi ix (broadcastInDim S4096x16 ![] bcast_S_S4096x16 (constantI S_ 32 4096#32))) ix)⟩]
    concatenates_S4096x16x1_S4096x16x1_S4096x16x2_d2

/-- A modality's learned adjacency. -/
def adj (ix : IVec S4096x16 32) (v : FVec Ideal S4096x16 .f32) : FVec Ideal S4096x4096 .f32 :=
  Host.scatterAdd scatter_S4096x4096_S4096x16x2_S4096x16_n_01_01_2 (broadcastInDim S4096x4096 ![] bcast_S_S4096x4096 (constant S_ .f32 0x00000000#32)) (place ix) v

/-- Two arrays weighted and added. -/
def mix (w : FVec Ideal S2 .f32) (x y : FVec Ideal S4096x4096 .f32) : FVec Ideal S4096x4096 .f32 :=
  addf (mulf (broadcastInDim S4096x4096 ![] bcast_S_S4096x4096 (shapeCast _ (extractStridedSlice S1 ![0] w slices_S2_S1_0) shapeCasts_S1_S_)) x)
    (mulf (broadcastInDim S4096x4096 ![] bcast_S_S4096x4096 (shapeCast _ (extractStridedSlice S1 ![1] w slices_S2_S1_1) shapeCasts_S1_S_)) y)

/-- The rows' sums, and the scaling they give. -/
def degs (x : FVec Ideal S4096x4096 .f32) : FVec Ideal S4096 .f32 := Host.reduceAdd x (constant S_ .f32 0x00000000#32) reducesTo_S4096x4096_S4096_d1 h_S_
def scal (x : FVec Ideal S4096 .f32) : FVec Ideal S4096 .f32 :=
  select (cmpf .oeq x (broadcastInDim S4096 ![] bcast_S_S4096 (constant S_ .f32 0x00000000#32))) (broadcastInDim S4096 ![] bcast_S_S4096 (id (constant S_ .f32 0x00000000#32))) (Host.rsqrt x)

/-- The adjacency: a tenth of the scaled learned one and nine tenths of the original. -/
def full (d : FVec Ideal S4096 .f32) (l o : FVec Ideal S4096x4096 .f32) : FVec Ideal S4096x4096 .f32 :=
  addf (mulf (broadcastInDim S4096x4096 ![] bcast_S_S4096x4096 (constant S_ .f32 0x3DCCCCCD#32))
      (mulf (mulf (broadcastInDim S4096x4096 ![0, 1] bcast_S4096x1_S4096x4096_0_1 (broadcastInDim S4096x1 ![0] bcast_S4096_S4096x1_0 d)) l)
        (broadcastInDim S4096x4096 ![0, 1] bcast_S1x4096_S4096x4096_0_1 (broadcastInDim S1x4096 ![1] bcast_S4096_S1x4096_1 d))))
    (mulf (broadcastInDim S4096x4096 ![] bcast_S_S4096x4096 (constant S_ .f32 0x3F666666#32)) o)

/-- The product with the embeddings. -/
def prop (a : FVec Ideal S4096x4096 .f32) (e : FVec Ideal S4096x64 .f32) : FVec Ideal S4096x64 .f32 :=
  Host.dotGeneral dot_S4096x4096_S4096x64_S4096x64_1_0_0_1_n_n none a e

/-- The rows divided by their lengths and added to the means of the items. -/
def outp (h : FVec Ideal S4096x64 .f32) (u : FVec Ideal S20480x64 .f32) : FVec Ideal S4096x64 .f32 :=
  addf (extractStridedSlice S4096x64 ![16384, 0] u slices_S20480x64_S4096x64_16384_0)
    (Host.divf h (broadcastInDim S4096x64 ![0, 1] bcast_S4096x1_S4096x64_0_1 (maximumf
      (Host.sqrt (broadcastInDim S4096x1 ![0] bcast_S4096_S4096x1_0 (Host.reduceAdd (mulf h h) (constant S_ .f32 0x00000000#32) reducesTo_S4096x64_S4096_d1 h_S_)))
      (broadcastInDim S4096x1 ![] bcast_S_S4096x1 (constant S_ .f32 0x2B8CBCCC#32)))))

/-- The user and the item embeddings, one above the other. -/
def both (u : FVec Ideal S16384x64 .f32) (e : FVec Ideal S4096x64 .f32) : FVec Ideal S20480x64 .f32 :=
  concatenate S20480x64 0 [⟨S16384x64, u⟩, ⟨S4096x64, e⟩] concatenates_S16384x64_S4096x64_S20480x64_d0

/-- A layer's two partial sums, and the layer. -/
def part0 (p : FVec Ideal S2x20480x64 .f32) : FVec Ideal S20480x64 .f32 :=
  shapeCast _ (extractStridedSlice S1x20480x64 ![0, 0, 0] p slices_S2x20480x64_S1x20480x64_0_0_0) shapeCasts_S1x20480x64_S20480x64
def part1 (p : FVec Ideal S2x20480x64 .f32) : FVec Ideal S20480x64 .f32 :=
  shapeCast _ (extractStridedSlice S1x20480x64 ![1, 0, 0] p slices_S2x20480x64_S1x20480x64_1_0_0) shapeCasts_S1x20480x64_S20480x64
def layer (p : FVec Ideal S2x20480x64 .f32) : FVec Ideal S20480x64 .f32 := addf (part0 p) (part1 p)

/-- Three arrays stacked, and the mean of the stack. -/
def stack (x y z : FVec Ideal S20480x64 .f32) : FVec Ideal S20480x3x64 .f32 :=
  concatenate S20480x3x64 1
    [⟨S20480x1x64, broadcastInDim S20480x1x64 ![0, 2] bcast_S20480x64_S20480x1x64_0_2 x⟩,
     ⟨S20480x1x64, broadcastInDim S20480x1x64 ![0, 2] bcast_S20480x64_S20480x1x64_0_2 y⟩,
     ⟨S20480x1x64, broadcastInDim S20480x1x64 ![0, 2] bcast_S20480x64_S20480x1x64_0_2 z⟩]
    concatenates_S20480x1x64_S20480x1x64_S20480x1x64_S20480x3x64_d1
def mean (x : FVec Ideal S20480x3x64 .f32) : FVec Ideal S20480x64 .f32 :=
  Host.divf (Host.reduceAdd x (constant S_ .f32 0x00000000#32) reducesTo_S20480x3x64_S20480x64_d1 h_S_)
    (broadcastInDim S20480x64 ![] bcast_S_S20480x64 (constant S_ .f32 0x40400000#32))

/-- The means of the embeddings and the two layers. -/
def means (u : FVec Ideal S16384x64 .f32) (e : FVec Ideal S4096x64 .f32) (p q : FVec Ideal S2x20480x64 .f32) : FVec Ideal S20480x64 .f32 :=
  mean (stack (both u e) (layer p) (layer q))

set_option maxRecDepth 8192 in
/-- The reference's second result, by its steps. -/
theorem res_eq (m : (ℓ : Loc nD τ sig) → Buf (Elt Ideal) ℓ) (c : Dev nD) :
    Value.res_out1 m c
      = outp (prop (full (scal (degs (mix (wts (m ((c.tc : Thread nD τ).loc main_arg4)))
              (adj (m ((c.tc : Thread nD τ).loc main_arg1)) (m ((c.tc : Thread nD τ).loc main_arg0)))
              (adj (m ((c.tc : Thread nD τ).loc main_arg3)) (m ((c.tc : Thread nD τ).loc main_arg2))))))
            (mix (wts (m ((c.tc : Thread nD τ).loc main_arg4)))
              (adj (m ((c.tc : Thread nD τ).loc main_arg1)) (m ((c.tc : Thread nD τ).loc main_arg0)))
              (adj (m ((c.tc : Thread nD τ).loc main_arg3)) (m ((c.tc : Thread nD τ).loc main_arg2))))
            (mix (wts (m ((c.tc : Thread nD τ).loc main_arg4))) (m ((c.tc : Thread nD τ).loc main_arg6)) (m ((c.tc : Thread nD τ).loc main_arg7))))
          (m ((c.tc : Thread nD τ).loc main_arg5))) (means (m ((c.tc : Thread nD τ).loc main_arg8)) (m ((c.tc : Thread nD τ).loc main_arg5))
            (m ((c.tc : Thread nD τ).loc main_arg9)) (m ((c.tc : Thread nD τ).loc main_arg10))) := by
  unfold Value.res_out1 Value.res_main_v104
  rfl

theorem stack_0 (x y z : FVec Ideal S20480x64 .f32) (r : Fin 20480) (j : Fin 64) : stack x y z (ValueIdx.ix3 r 0 j) = x (ValueIdx.ix2 r j) := by
  unfold stack
  pointwise
  rfl
theorem stack_1 (x y z : FVec Ideal S20480x64 .f32) (r : Fin 20480) (j : Fin 64) : stack x y z (ValueIdx.ix3 r 1 j) = y (ValueIdx.ix2 r j) := by
  unfold stack
  pointwise
  rfl
theorem stack_2 (x y z : FVec Ideal S20480x64 .f32) (r : Fin 20480) (j : Fin 64) : stack x y z (ValueIdx.ix3 r 2 j) = z (ValueIdx.ix2 r j) := by
  unfold stack
  pointwise
  rfl

theorem three : Ideal.ofBits .f32 0x40400000#32 = ((3 : ℝ) : EReal) := by
  simp [Ideal.ofBits, Ideal.ieee, -EReal.coe_mul]
  norm_num

theorem mean_at (x : FVec Ideal S20480x3x64 .f32) (r : Fin 20480) (j : Fin 64) :
    mean x (ValueIdx.ix2 r j) = (∑ k : Fin 3, x (ValueIdx.ix3 r k j)) * ((3⁻¹ : ℝ) : EReal) := by
  have h : mean x (ValueIdx.ix2 r j) = Ideal.div (∑ k : Fin 3, x (ValueIdx.ix3 r k j)) (Ideal.ofBits .f32 0x40400000#32) := by
    unfold mean
    pointwise
    rfl
  rw [h, three, Ideal.div_coe (by norm_num), one_div]

/-- A mean: the embedding and the two layers' entries, added, times a third. -/
theorem means_at (u : FVec Ideal S16384x64 .f32) (e : FVec Ideal S4096x64 .f32) (p q : FVec Ideal S2x20480x64 .f32) (r : Fin 20480) (j : Fin 64) :
    means u e p q (ValueIdx.ix2 r j)
      = (both u e (ValueIdx.ix2 r j) + layer p (ValueIdx.ix2 r j) + layer q (ValueIdx.ix2 r j)) * ((3⁻¹ : ℝ) : EReal) := by
  unfold means
  rw [mean_at, Fin.sum_univ_three, stack_0, stack_1, stack_2]

theorem mix_at (w : FVec Ideal S2 .f32) (x y : FVec Ideal S4096x4096 .f32) (r c : Fin 4096) :
    mix w x y (ValueIdx.ix2 r c) = w (ValueIdx.ix1 0) * x (ValueIdx.ix2 r c) + w (ValueIdx.ix1 1) * y (ValueIdx.ix2 r c) := by
  unfold mix
  pointwise
  rfl

theorem degs_at (x : FVec Ideal S4096x4096 .f32) (r : Fin 4096) : degs x (ValueIdx.ix1 r) = ∑ c : Fin 4096, x (ValueIdx.ix2 r c) := by
  unfold degs
  pointwise
  rfl

theorem scal_at (x : FVec Ideal S4096 .f32) (r : Fin 4096) : scal x (ValueIdx.ix1 r) = Algebra.scale (x (ValueIdx.ix1 r)) := by
  unfold scal Algebra.scale
  pointwise
  rw [show (id (constant S_ .f32 0x00000000#32) : FVec Ideal S_ .f32) (Idealize.ShloMosaic.ix0) = 0 from Ideal.ofBits_zero_f32]

theorem full_at (d : FVec Ideal S4096 .f32) (l o : FVec Ideal S4096x4096 .f32) (r c : Fin 4096) :
    full d l o (ValueIdx.ix2 r c)
      = (FloatOps.ofBits .f32 0x3DCCCCCD#32 : Ideal .f32) * (d (ValueIdx.ix1 r) * l (ValueIdx.ix2 r c) * d (ValueIdx.ix1 c))
        + (FloatOps.ofBits .f32 0x3F666666#32 : Ideal .f32) * o (ValueIdx.ix2 r c) := by
  unfold full
  pointwise
  rfl

theorem prop_at (a : FVec Ideal S4096x4096 .f32) (e : FVec Ideal S4096x64 .f32) (r : Fin 4096) (j : Fin 64) :
    prop a e (ValueIdx.ix2 r j) = ∑ c : Fin 4096, a (ValueIdx.ix2 r c) * e (ValueIdx.ix2 c j) := by
  unfold prop
  pointwise
  rfl

theorem outp_at (h : FVec Ideal S4096x64 .f32) (u : FVec Ideal S20480x64 .f32) (r : Fin 4096) (j : Fin 64) :
    outp h u (ValueIdx.ix2 r j) = u (ValueIdx.ix2 ⟨16384 + r.val, by omega⟩ j)
      + Ideal.div (h (ValueIdx.ix2 r j)) (max (Ideal.sqrt (∑ k : Fin 64, h (ValueIdx.ix2 r k) * h (ValueIdx.ix2 r k))) (FloatOps.ofBits .f32 0x2B8CBCCC#32 : Ideal .f32)) := by
  unfold outp
  pointwise
  rfl

theorem toInt_of_lt {x : BitVec 32} (h : x.toNat < 4096) : x.toInt = x.toNat := by
  rw [BitVec.toInt_eq_toNat_cond, if_pos (by omega)]

theorem place_row (ix : IVec S4096x16 32) (r : Fin 4096) (k : Fin 16) : (place ix (ValueIdx.ix3 r k 0)).toInt = r.val := by
  unfold place
  pointwise
  have h : (BitVec.ofNat 32 r.val).toNat < 4096 := by rw [BitVec.toNat_ofNat, Nat.mod_eq_of_lt (by omega)]; exact r.isLt
  refine (congrArg BitVec.toInt (Routing.wrap_of_lt _ _ (lt_of_lt_of_le h (by decide)))).trans ?_
  refine (toInt_of_lt h).trans ?_
  rw [BitVec.toNat_ofNat, Nat.mod_eq_of_lt (by omega)]

theorem place_col (ix : IVec S4096x16 32) (r : Fin 4096) (k : Fin 16) (h : (ix (ValueIdx.ix2 r k)).toNat < 4096) :
    (place ix (ValueIdx.ix3 r k 1)).toInt = (ix (ValueIdx.ix2 r k)).toNat := by
  unfold place
  pointwise
  exact (congrArg BitVec.toInt (Routing.wrap_of_lt _ _ (lt_of_lt_of_le h (by decide)))).trans (toInt_of_lt h)

theorem adj_at (ix : IVec S4096x16 32) (v : FVec Ideal S4096x16 .f32) (h : ∀ x, (ix x).toNat < 4096) (r c : Fin 4096) :
    adj ix v (ValueIdx.ix2 r c)
      = ∑ k : Fin 16, if (⟨(ix (ValueIdx.ix2 r k)).toNat, h _⟩ : Fin 4096) = c then v (ValueIdx.ix2 r k) else 0 := by
  unfold adj
  show (Ideal.ofBits .f32 0x00000000#32 : EReal) + ∑ j ∈ Finset.univ.filter (fun j =>
    scatter_S4096x4096_S4096x16x2_S4096x16_n_01_01_2.resultIdx? j (place ix) = some (ValueIdx.ix2 r c)), v j = _
  rw [Ideal.ofBits_zero_f32, zero_add, Finset.sum_filter, ValueIdx.sum_idx2]
  have hl : ∀ (a : Fin 4096) (b : Fin 16), (scatter_S4096x4096_S4096x16x2_S4096x16_n_01_01_2.resultIdx? (ValueIdx.ix2 a b) (place ix) = some (ValueIdx.ix2 r c))
      ↔ (a = r ∧ (⟨(ix (ValueIdx.ix2 a b)).toNat, h _⟩ : Fin 4096) = c) := by
    intro a b
    refine (Routing.scatter_lands2 scatter_S4096x4096_S4096x16x2_S4096x16_n_01_01_2 rfl rfl rfl (place ix) a b r c).trans ?_
    have e0 : (place ix (ValueIdx.ix3 a b 0)).toInt = a.val := place_row ix a b
    have e1 : (place ix (ValueIdx.ix3 a b 1)).toInt = (ix (ValueIdx.ix2 a b)).toNat := place_col ix a b (h _)
    constructor
    · rintro ⟨h0, h1⟩
      have h0' := e0.symm.trans h0
      have h1' := e1.symm.trans h1
      exact ⟨Fin.ext (by exact_mod_cast h0'), Fin.ext (by exact_mod_cast h1')⟩
    · rintro ⟨rfl, rfl⟩
      exact ⟨e0, e1⟩
  simp only [hl]
  rw [Finset.sum_eq_single r]
  · exact Finset.sum_congr rfl fun k _ => by simp only [true_and]
  · intro a _ ha
    exact Finset.sum_eq_zero fun k _ => if_neg fun hh => ha hh.1
  · exact fun hh => absurd (Finset.mem_univ _) hh

end Cert.Proof.Ref

end
-- ==== Proof.Softmax.lean ====
/-
  The two programs' modal weights are one array, and real and positive where the modal values are real.
-/
module

public import proofs.«01_k».proof.Proof.IdealRead
public import proofs.«01_k».proof.Proof.RefRead

@[expose] public section

noncomputable section

namespace Cert.Proof

open Idealize.ShloMosaic

theorem tenth : ∃ h : ℝ, Ideal.ofBits .f32 0x3DCCCCCD#32 = (h : EReal) := by
  refine ⟨13421773 / 134217728, ?_⟩
  simp [Ideal.ofBits, Ideal.ieee, -EReal.coe_mul]
  norm_num

theorem nine_tenths : ∃ h : ℝ, 0 ≤ h ∧ Ideal.ofBits .f32 0x3F666666#32 = (h : EReal) := by
  refine ⟨15099494 / 16777216, by norm_num, ?_⟩
  simp [Ideal.ofBits, Ideal.ieee, -EReal.coe_mul]
  norm_num

theorem top_word : Ideal.ofBits .f32 0x7F800000#32 = ⊤ := by
  simp [Ideal.ofBits, Ideal.ieee]

theorem bot_word : Ideal.ofBits .f32 0xFF800000#32 = ⊥ := by
  simp [Ideal.ofBits, Ideal.ieee]

/-- The greatest of two values. -/
def top2 (x : FVec Ideal Cert.KernelIdeal.S2 .f32) : EReal := Finset.univ.fold max ⊥ fun k : Fin 2 => x (ValueIdx.ix1 k)

theorem ker_wts_at (x : FVec Ideal Cert.KernelIdeal.S2 .f32) (i : Fin 2) : KernelIdeal.wts (F := Ideal) x (ValueIdx.ix1 i)
    = Ideal.div (Ideal.exp (x (ValueIdx.ix1 i) - top2 x)) (∑ k : Fin 2, Ideal.exp (x (ValueIdx.ix1 k) - top2 x)) := by
  unfold KernelIdeal.wts top2
  rw [← bot_word]
  pointwise
  rfl

theorem ref_wts_at (x : FVec Ideal Cert.ReferenceIdeal.S2 .f32) (i : Fin 2) : Ref.wts x (ValueIdx.ix1 i)
    = Ideal.div (Ideal.exp (x (ValueIdx.ix1 i) - max ⊥ (top2 x))) (∑ k : Fin 2, Ideal.exp (x (ValueIdx.ix1 k) - max ⊥ (top2 x))) := by
  unfold Ref.wts top2
  rw [← bot_word]
  pointwise
  rfl

theorem wts_eq (x : FVec Ideal Cert.ReferenceIdeal.S2 .f32) : Ref.wts x = KernelIdeal.wts (F := Ideal) x := by
  funext i
  obtain ⟨k, rfl⟩ : ∃ k : Fin 2, i = ValueIdx.ix1 k := ⟨i 0, ValueIdx.eq_ix1 i⟩
  rw [ref_wts_at]
  refine Eq.trans ?_ (ker_wts_at x k).symm
  rw [max_eq_right bot_le]

theorem wts_pos (x : FVec Ideal Cert.KernelIdeal.S2 .f32) (hx : ∀ i, ∃ y : ℝ, x i = (y : EReal)) (i : Fin 2) :
    ∃ y : ℝ, 0 < y ∧ KernelIdeal.wts (F := Ideal) x (ValueIdx.ix1 i) = (y : EReal) := by
  choose y hy using hx
  have ht : ∃ t : ℝ, top2 x = (t : EReal) := by
    refine ⟨max (y (ValueIdx.ix1 0)) (y (ValueIdx.ix1 1)), ?_⟩
    unfold top2
    rw [show (Finset.univ : Finset (Fin 2)) = {0, 1} from rfl, Finset.fold_insert (by decide), Finset.fold_singleton, max_eq_left bot_le, hy, hy]
    exact (EReal.coe_strictMono.monotone.map_max).symm
  obtain ⟨t, ht⟩ := ht
  have he : ∀ k : Fin 2, Ideal.exp (x (ValueIdx.ix1 k) - top2 x) = ((Real.exp (y (ValueIdx.ix1 k) - t) : ℝ) : EReal) := by
    intro k
    rw [hy, ht, ← EReal.coe_sub, Ideal.exp_coe]
  rw [ker_wts_at]
  simp only [he]
  rw [← Algebra.coe_sum]
  have hs : 0 < ∑ k : Fin 2, Real.exp (y (ValueIdx.ix1 k) - t) := Finset.sum_pos (fun k _ => Real.exp_pos _) ⟨0, Finset.mem_univ _⟩
  refine ⟨Real.exp (y (ValueIdx.ix1 i) - t) * (∑ k : Fin 2, Real.exp (y (ValueIdx.ix1 k) - t))⁻¹, mul_pos (Real.exp_pos _) (inv_pos.mpr hs), ?_⟩
  unfold Ideal.div
  rw [if_neg (by exact_mod_cast hs.ne'), EReal.coe_mul, EReal.coe_inv]

end Cert.Proof

end
-- ==== Proof.Equation.lean ====
/-
  The preconditions read as bounds, the frames of the two kernel programs, and the equation with the reference.
-/
module

public import proofs.«01_k».proof.Defs
public import proofs.«01_k».proof.Proof.Value
public import proofs.«01_k».proof.Proof.Softmax
public import proofs.«01_k».proof.Proof.Gen.ReferenceIdeal
public import proofs.«01_k».proof.Proof.Gen.ReferenceIdeal.Run
public import proofs.«01_k».proof.Proof.Gen.Pre_in_rows
public import proofs.«01_k».proof.Proof.Gen.Pre_degrees
public import Idealize.ShloMosaic.Lib.ReduceAll
public import Idealize.ShloMosaic.Lib.WordCmp

@[expose] public section

noncomputable section

namespace Cert.Proof

open Idealize.ShloMosaic Idealize.SL.Sem

/-! ## The preconditions -/

instance : Subsingleton Cert.Pre_in_rows.S_.Idx := ⟨fun _ _ => funext fun a => a.elim0⟩
instance : Subsingleton Cert.Pre_degrees.S_.Idx := ⟨fun _ _ => funext fun a => a.elim0⟩

theorem word_lt (v : BitVec 32) (hv : IntOp.andi (IntOp.cmpi .sge v 0#32) (IntOp.cmpi .slt v (BitVec.ofNat 32 4096)) = 1#1) : v.toNat < 4096 := by
  rw [WordCmp.andi_sge_zero_slt_ofNat (by decide)] at hv
  by_contra hc
  rw [decide_eq_false hc] at hv
  exact absurd hv (by decide)

theorem both_of_andi : ∀ p q : BitVec 1, IntOp.andi p q = 1#1 → p = 1#1 ∧ q = 1#1 := by decide

/-- `in_rows` holding, every entry of both index arrays is below the table's number of rows. -/
theorem lt_of_pre {F : FTy → Type} [FloatOps F] (x0 : FVec F Cert.Pre_in_rows.S4096x16 .f32) (x1 : IVec Cert.Pre_in_rows.S4096x16 32)
    (x2 : FVec F Cert.Pre_in_rows.S4096x16 .f32) (x3 : IVec Cert.Pre_in_rows.S4096x16 32) (x4 : FVec F Cert.Pre_in_rows.S2 .f32)
    (x5 : FVec F Cert.Pre_in_rows.S4096x64 .f32) (x6 x7 : FVec F Cert.Pre_in_rows.S4096x4096 .f32) (x8 : FVec F Cert.Pre_in_rows.S16384x64 .f32) (x9 x10 : FVec F Cert.Pre_in_rows.S2x20480x64 .f32)
    (h : Cert.Pre_in_rows.fn x0 x1 x2 x3 x4 x5 x6 x7 x8 x9 x10 = fun _ => 1#1) (i : Cert.Pre_in_rows.S4096x16.Idx) : (x1 i).toNat < 4096 ∧ (x3 i).toNat < 4096 := by
  have e := congrFun h (fun a => a.elim0)
  simp only [Cert.Pre_in_rows.fn] at e
  have both := both_of_andi _ _ e
  exact ⟨word_lt _ (Host.reduce_andi_all _ _ _ _ _ both.1 i), word_lt _ (Host.reduce_andi_all _ _ _ _ _ both.2 i)⟩

theorem real_of_abs_lt {x : EReal} (h : Ideal.cmp .olt (max x (-x)) (Ideal.ofBits .f32 0x7F800000#32) = 1#1) : ∃ y : ℝ, x = (y : EReal) := by
  rw [top_word] at h
  have hlt : max x (-x) < ⊤ := by
    by_contra hc
    have : Ideal.cmp .olt (max x (-x)) ⊤ = 0#1 := by unfold Ideal.cmp; simp only [decide_eq_false hc]; rfl
    rw [this] at h
    exact absurd h (by decide)
  induction x with
  | bot => exact absurd hlt (by simp)
  | top => exact absurd hlt (by simp)
  | coe x => exact ⟨x, rfl⟩

theorem nonneg_of_cmp {x : EReal} (h : Ideal.cmp .oge x (Ideal.ofBits .f32 0x00000000#32) = 1#1) : 0 ≤ x := by
  rw [Ideal.ofBits_zero_f32] at h
  by_contra hc
  have : Ideal.cmp .oge x 0 = 0#1 := by unfold Ideal.cmp; simp only [decide_eq_false hc]; rfl
  rw [this] at h
  exact absurd h (by decide)

open Cert.Pre_degrees Cert.Pre_degrees.Facts in
/-- The row sums `degrees` speaks of. -/
def degOf [Cert.Pre_degrees.Facts] (w : FVec Ideal S2 .f32) (vi vt : FVec Ideal S4096x16 .f32) : FVec Ideal S4096 .f32 :=
  addf
    (mulf (broadcastInDim S4096 ![] bcast_S_S4096 (shapeCast S_ (extractStridedSlice S1 ![0] w slices_S2_S1_0) shapeCasts_S1_S_))
      (Host.reduceAdd vi (constant S_ .f32 0x00000000#32) reducesTo_S4096x16_S4096_d1 h_S_))
    (mulf (broadcastInDim S4096 ![] bcast_S_S4096 (shapeCast S_ (extractStridedSlice S1 ![1] w slices_S2_S1_1) shapeCasts_S1_S_))
      (Host.reduceAdd vt (constant S_ .f32 0x00000000#32) reducesTo_S4096x16_S4096_d1 h_S_))

theorem degOf_at [Cert.Pre_degrees.Facts] (w : FVec Ideal Cert.Pre_degrees.S2 .f32) (vi vt : FVec Ideal Cert.Pre_degrees.S4096x16 .f32) (r : Fin 4096) :
    degOf w vi vt (ValueIdx.ix1 r)
      = w (ValueIdx.ix1 0) * (∑ k : Fin 16, vi (ValueIdx.ix2 r k)) + w (ValueIdx.ix1 1) * ∑ k : Fin 16, vt (ValueIdx.ix2 r k) := by
  unfold degOf
  pointwise
  rfl

/-- `degrees` holding: the indices in range, the modal values and the embeddings real, no row sum negative. -/
theorem of_degrees (x0 : FVec Ideal Cert.Pre_degrees.S4096x16 .f32) (x1 : IVec Cert.Pre_degrees.S4096x16 32)
    (x2 : FVec Ideal Cert.Pre_degrees.S4096x16 .f32) (x3 : IVec Cert.Pre_degrees.S4096x16 32) (x4 : FVec Ideal Cert.Pre_degrees.S2 .f32)
    (x5 : FVec Ideal Cert.Pre_degrees.S4096x64 .f32) (x6 x7 : FVec Ideal Cert.Pre_degrees.S4096x4096 .f32) (x8 : FVec Ideal Cert.Pre_degrees.S16384x64 .f32) (x9 x10 : FVec Ideal Cert.Pre_degrees.S2x20480x64 .f32)
    (h : Cert.Pre_degrees.fn (F := Ideal) x0 x1 x2 x3 x4 x5 x6 x7 x8 x9 x10 = fun _ => 1#1) :
    (∀ i, (x1 i).toNat < 4096 ∧ (x3 i).toNat < 4096) ∧ (∀ i, ∃ y : ℝ, x4 i = (y : EReal)) ∧ (∀ i, ∃ y : ℝ, x5 i = (y : EReal))
      ∧ ∀ r : Fin 4096, (0 : EReal) ≤ KernelIdeal.wts (F := Ideal) x4 (ValueIdx.ix1 0) * (∑ k : Fin 16, x0 (ValueIdx.ix2 r k))
          + KernelIdeal.wts (F := Ideal) x4 (ValueIdx.ix1 1) * ∑ k : Fin 16, x2 (ValueIdx.ix2 r k) := by
  have e := congrFun h (fun a => a.elim0)
  simp only [Cert.Pre_degrees.fn, Cert.Pre_degrees.fn_part1, Cert.Pre_degrees.fn_part2] at e
  obtain ⟨e1, hd⟩ := both_of_andi _ _ e
  obtain ⟨hi, hf⟩ := both_of_andi _ _ e1
  obtain ⟨hi1, hi3⟩ := both_of_andi _ _ hi
  obtain ⟨hf4, hf5⟩ := both_of_andi _ _ hf
  refine ⟨fun i => ⟨word_lt _ (Host.reduce_andi_all _ _ _ _ _ hi1 i), word_lt _ (Host.reduce_andi_all _ _ _ _ _ hi3 i)⟩,
    fun i => real_of_abs_lt (Host.reduce_andi_all _ _ _ _ _ hf4 i), fun i => real_of_abs_lt (Host.reduce_andi_all _ _ _ _ _ hf5 i), fun r => ?_⟩
  have hr := Host.reduce_andi_all _ _ _ _ _ hd (ValueIdx.ix1 r)
  have hz : (0 : EReal) ≤ degOf (Ref.wts x4) x0 x2 (ValueIdx.ix1 r) := nonneg_of_cmp hr
  rw [degOf_at, wts_eq] at hz
  exact hz

/-! ## The frames -/

/-- Every execution of `Kernel` ends, its arguments unchanged, the results at the contents read off its steps, every
    semaphore at zero, the indices in range. -/
theorem run_Kernel (m : (ℓ : Loc Cert.Kernel.nD Cert.Kernel.τ Cert.Kernel.sig) → Buf (Elt Bits) ℓ) (ρ : Dev Cert.Kernel.nD → PrngReg) (hin : Kernel.ArgsIn m) :
    θ_run (Cert.Kernel.defs (F := Bits)) (Cert.Kernel.threads (F := Bits)) ⟨m, fun _ => 0, ρ⟩ (fun r => (∀ c : Dev Cert.Kernel.nD,
      r.2.mem ((c.tc : Thread Cert.Kernel.nD Cert.Kernel.τ).loc Cert.Kernel.main_v28) = Kernel.VB m c (Proc.devRef .tc Cert.Kernel.main_v28)
      ∧ r.2.mem ((c.tc : Thread Cert.Kernel.nD Cert.Kernel.τ).loc Cert.Kernel.main_v27) = Kernel.VB m c (Proc.devRef .tc Cert.Kernel.main_v27)
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) :=
  (θ_run Cert.Kernel.defs _ _).mono (fun r h => ⟨fun c => ⟨h.1 c (Proc.devRef .tc Cert.Kernel.main_v28) (by decide), h.1 c (Proc.devRef .tc Cert.Kernel.main_v27) (by decide),
      (h.1 c (Proc.devRef .tc Cert.Kernel.main_arg0) (by decide)).trans (Kernel.VB_arg m c Cert.Kernel.main_arg0 (by decide)),
      (h.1 c (Proc.devRef .tc Cert.Kernel.main_arg1) (by decide)).trans (Kernel.VB_arg m c Cert.Kernel.main_arg1 (by decide)),
      (h.1 c (Proc.devRef .tc Cert.Kernel.main_arg2) (by decide)).trans (Kernel.VB_arg m c Cert.Kernel.main_arg2 (by decide)),
      (h.1 c (Proc.devRef .tc Cert.Kernel.main_arg3) (by decide)).trans (Kernel.VB_arg m c Cert.Kernel.main_arg3 (by decide)),
      (h.1 c (Proc.devRef .tc Cert.Kernel.main_arg4) (by decide)).trans (Kernel.VB_arg m c Cert.Kernel.main_arg4 (by decide)),
      (h.1 c (Proc.devRef .tc Cert.Kernel.main_arg5) (by decide)).trans (Kernel.VB_arg m c Cert.Kernel.main_arg5 (by decide)),
      (h.1 c (Proc.devRef .tc Cert.Kernel.main_arg6) (by decide)).trans (Kernel.VB_arg m c Cert.Kernel.main_arg6 (by decide)),
      (h.1 c (Proc.devRef .tc Cert.Kernel.main_arg7) (by decide)).trans (Kernel.VB_arg m c Cert.Kernel.main_arg7 (by decide)),
      (h.1 c (Proc.devRef .tc Cert.Kernel.main_arg8) (by decide)).trans (Kernel.VB_arg m c Cert.Kernel.main_arg8 (by decide)),
      (h.1 c (Proc.devRef .tc Cert.Kernel.main_arg9) (by decide)).trans (Kernel.VB_arg m c Cert.Kernel.main_arg9 (by decide)),
      (h.1 c (Proc.devRef .tc Cert.Kernel.main_arg10) (by decide)).trans (Kernel.VB_arg m c Cert.Kernel.main_arg10 (by decide))⟩, h.2⟩)
    (Kernel.run_main (F := Bits) m ρ (Kernel.inRows m hin))

theorem frame_Kernel : Cert.quiescent_Kernel := fun m ρ hpre =>
  (θ_run Cert.Kernel.defs _ _).mono (fun _ h => ⟨fun c => (h.1 c).2.2, h.2⟩) (run_Kernel m ρ fun d x => lt_of_pre _ _ _ _ _ _ _ _ _ _ _ (hpre d) x)

/-- Every execution of `KernelIdeal` ends, its arguments unchanged, the results at the contents read off its steps, every
    semaphore at zero, the indices in range. -/
theorem run_KernelIdeal (m : (ℓ : Loc Cert.KernelIdeal.nD Cert.KernelIdeal.τ Cert.KernelIdeal.sig) → Buf (Elt Ideal) ℓ) (ρ : Dev Cert.KernelIdeal.nD → PrngReg) (hin : KernelIdeal.ArgsIn m) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_v28) = KernelIdeal.VB m c (Proc.devRef .tc Cert.KernelIdeal.main_v28)
      ∧ r.2.mem ((c.tc : Thread Cert.KernelIdeal.nD Cert.KernelIdeal.τ).loc Cert.KernelIdeal.main_v27) = KernelIdeal.VB m c (Proc.devRef .tc Cert.KernelIdeal.main_v27)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run Cert.KernelIdeal.defs _ _).mono (fun r h => ⟨fun c => ⟨h.1 c (Proc.devRef .tc Cert.KernelIdeal.main_v28) (by decide), h.1 c (Proc.devRef .tc Cert.KernelIdeal.main_v27) (by decide),
      (h.1 c (Proc.devRef .tc Cert.KernelIdeal.main_arg0) (by decide)).trans (KernelIdeal.VB_arg m c Cert.KernelIdeal.main_arg0 (by decide)),
      (h.1 c (Proc.devRef .tc Cert.KernelIdeal.main_arg1) (by decide)).trans (KernelIdeal.VB_arg m c Cert.KernelIdeal.main_arg1 (by decide)),
      (h.1 c (Proc.devRef .tc Cert.KernelIdeal.main_arg2) (by decide)).trans (KernelIdeal.VB_arg m c Cert.KernelIdeal.main_arg2 (by decide)),
      (h.1 c (Proc.devRef .tc Cert.KernelIdeal.main_arg3) (by decide)).trans (KernelIdeal.VB_arg m c Cert.KernelIdeal.main_arg3 (by decide)),
      (h.1 c (Proc.devRef .tc Cert.KernelIdeal.main_arg4) (by decide)).trans (KernelIdeal.VB_arg m c Cert.KernelIdeal.main_arg4 (by decide)),
      (h.1 c (Proc.devRef .tc Cert.KernelIdeal.main_arg5) (by decide)).trans (KernelIdeal.VB_arg m c Cert.KernelIdeal.main_arg5 (by decide)),
      (h.1 c (Proc.devRef .tc Cert.KernelIdeal.main_arg6) (by decide)).trans (KernelIdeal.VB_arg m c Cert.KernelIdeal.main_arg6 (by decide)),
      (h.1 c (Proc.devRef .tc Cert.KernelIdeal.main_arg7) (by decide)).trans (KernelIdeal.VB_arg m c Cert.KernelIdeal.main_arg7 (by decide)),
      (h.1 c (Proc.devRef .tc Cert.KernelIdeal.main_arg8) (by decide)).trans (KernelIdeal.VB_arg m c Cert.KernelIdeal.main_arg8 (by decide)),
      (h.1 c (Proc.devRef .tc Cert.KernelIdeal.main_arg9) (by decide)).trans (KernelIdeal.VB_arg m c Cert.KernelIdeal.main_arg9 (by decide)),
      (h.1 c (Proc.devRef .tc Cert.KernelIdeal.main_arg10) (by decide)).trans (KernelIdeal.VB_arg m c Cert.KernelIdeal.main_arg10 (by decide))⟩, h.2⟩)
    (KernelIdeal.run_main (F := Ideal) m ρ (KernelIdeal.inRows m hin))

theorem frame_KernelIdeal : Cert.quiescent_KernelIdeal := fun m ρ hpre =>
  (θ_run Cert.KernelIdeal.defs _ _).mono (fun _ h => ⟨fun c => (h.1 c).2.2, h.2⟩) (run_KernelIdeal m ρ fun d x => lt_of_pre _ _ _ _ _ _ _ _ _ _ _ (hpre d) x)

/-- The same, from a memory whose row sums aren't negative. -/
theorem frame_KernelIdeal_degrees : Cert.quiescent_KernelIdeal_pre_degrees := fun m ρ hpre =>
  (θ_run Cert.KernelIdeal.defs _ _).mono (fun _ h => ⟨fun c => (h.1 c).2.2, h.2⟩) (run_KernelIdeal m ρ fun d x => (of_degrees _ _ _ _ _ _ _ _ _ _ _ (hpre d)).1 x)

/-! ## The equation -/

/-- The two programs' rows before the division by their lengths. -/
theorem row_eq (m : (ℓ : Loc Cert.KernelIdeal.nD Cert.KernelIdeal.τ Cert.KernelIdeal.sig) → Buf (Elt Ideal) ℓ) (hin : KernelIdeal.ArgsIn m)
    (d : Dev Cert.KernelIdeal.nD)
    (vi : FVec Ideal Cert.ReferenceIdeal.S4096x16 .f32) (ii : IVec Cert.ReferenceIdeal.S4096x16 32)
    (vt : FVec Ideal Cert.ReferenceIdeal.S4096x16 .f32) (it : IVec Cert.ReferenceIdeal.S4096x16 32) (mw : FVec Ideal Cert.ReferenceIdeal.S2 .f32)
    (em : FVec Ideal Cert.ReferenceIdeal.S4096x64 .f32) (a b : FVec Ideal Cert.ReferenceIdeal.S4096x4096 .f32)
    (h0 : m ((SparseCore.T d).loc Cert.KernelIdeal.main_arg0) = vi) (h1 : m ((SparseCore.T d).loc Cert.KernelIdeal.main_arg1) = ii)
    (h2 : m ((SparseCore.T d).loc Cert.KernelIdeal.main_arg2) = vt) (h3 : m ((SparseCore.T d).loc Cert.KernelIdeal.main_arg3) = it)
    (h4 : m ((SparseCore.T d).loc Cert.KernelIdeal.main_arg4) = mw) (h5 : m ((SparseCore.T d).loc Cert.KernelIdeal.main_arg5) = em)
    (hmw : ∀ i, ∃ y : ℝ, mw i = (y : EReal)) (hem : ∀ i, ∃ y : ℝ, em i = (y : EReal))
    (hdeg : ∀ r : Fin 4096, (0 : EReal) ≤ KernelIdeal.wts (F := Ideal) mw (ValueIdx.ix1 0) * (∑ k : Fin 16, vi (ValueIdx.ix2 r k))
          + KernelIdeal.wts (F := Ideal) mw (ValueIdx.ix1 1) * ∑ k : Fin 16, vt (ValueIdx.ix2 r k)) (r : Fin 4096) (j : Fin 64) :
    Ref.prop (Ref.full (Ref.scal (Ref.degs (Ref.mix (Ref.wts mw) (Ref.adj ii vi) (Ref.adj it vt)))) (Ref.mix (Ref.wts mw) (Ref.adj ii vi) (Ref.adj it vt))
        (Ref.mix (Ref.wts mw) a b)) em (ValueIdx.ix2 r j)
      = KernelIdeal.hrow (KernelIdeal.wts (F := Ideal) mw) a b em (KernelIdeal.gath m d) (KernelIdeal.coefT m d) r j := by
  obtain ⟨w0, p0, e0⟩ := wts_pos mw hmw 0
  obtain ⟨w1, p1, e1⟩ := wts_pos mw hmw 1
  obtain ⟨t1, ht1⟩ := tenth
  obtain ⟨t9, p9, ht9⟩ := nine_tenths
  have hi : ∀ x, (ii x).toNat < 4096 := fun x => by have := (hin d x).1; rw [h1] at this; exact this
  have ht : ∀ x, (it x).toNat < 4096 := fun x => by have := (hin d x).2; rw [h3] at this; exact this
  choose er her using hem
  let I : Fin 4096 → Fin 16 → Fin 4096 := fun r k => ⟨(ii (ValueIdx.ix2 r k)).toNat, hi _⟩
  let J : Fin 4096 → Fin 16 → Fin 4096 := fun r k => ⟨(it (ValueIdx.ix2 r k)).toNat, ht _⟩
  -- the learned adjacency, its row sums and the scaling
  have hmix : ∀ r c, Ref.mix (Ref.wts mw) (Ref.adj ii vi) (Ref.adj it vt) (ValueIdx.ix2 r c)
      = Algebra.learned (w0 : EReal) (w1 : EReal) (fun k => vi (ValueIdx.ix2 r k)) (fun k => vt (ValueIdx.ix2 r k)) (I r) (J r) c := by
    intro r c
    rw [Ref.mix_at, Ref.adj_at ii vi hi, Ref.adj_at it vt ht, wts_eq, e0, e1]
    rfl
  have hsum : ∀ r : Fin 4096, Ref.degs (Ref.mix (Ref.wts mw) (Ref.adj ii vi) (Ref.adj it vt)) (ValueIdx.ix1 r)
      = (w0 : EReal) * (∑ k : Fin 16, vi (ValueIdx.ix2 r k)) + (w1 : EReal) * ∑ k : Fin 16, vt (ValueIdx.ix2 r k) := by
    intro r
    rw [Ref.degs_at]
    simp only [hmix]
    exact Algebra.sum_learned w0 w1 p0.le p1.le _ _ _ _
  have hnn : ∀ r : Fin 4096, (0 : EReal) ≤ (w0 : EReal) * (∑ k : Fin 16, vi (ValueIdx.ix2 r k)) + (w1 : EReal) * ∑ k : Fin 16, vt (ValueIdx.ix2 r k) := by
    intro r; have := hdeg r; rw [e0, e1] at this; exact this
  choose dr hdr using fun r => Algebra.scale_real (hnn r)
  have hscal : ∀ r : Fin 4096, Ref.scal (Ref.degs (Ref.mix (Ref.wts mw) (Ref.adj ii vi) (Ref.adj it vt))) (ValueIdx.ix1 r) = (dr r : EReal) := by
    intro r; rw [Ref.scal_at, hsum, hdr]
  have hdg : ∀ r : Fin 4096, KernelIdeal.dg (w0 : EReal) (w1 : EReal) vi vt r = (dr r : EReal) := fun r => hdr r
  have hv : dr r = 0 ∨ (∀ k : Fin 16, ∃ x : ℝ, vi (ValueIdx.ix2 r k) = x) ∧ ∀ k : Fin 16, ∃ x : ℝ, vt (ValueIdx.ix2 r k) = x := by
    rcases Algebra.scale_zero_or (hnn r) with hz | ⟨s, hs⟩
    · rw [hdr] at hz
      exact .inl (by exact_mod_cast hz)
    · obtain ⟨⟨sa, ha⟩, sb, hb⟩ := Algebra.real_of_add hs
      obtain ⟨sa', ha'⟩ := Algebra.real_of_mul_pos p0 ha
      obtain ⟨sb', hb'⟩ := Algebra.real_of_mul_pos p1 hb
      exact .inr ⟨fun k => Algebra.real_of_sum _ _ ha' k (Finset.mem_univ _), fun k => Algebra.real_of_sum _ _ hb' k (Finset.mem_univ _)⟩
  -- the kernel's gathered rows and coefficients
  have hembs : ∀ (s : Fin 4096), KernelIdeal.embs m d (ValueIdx.ix2 s j) = (er (ValueIdx.ix2 s j) : EReal) * (dr s : EReal) := by
    intro s
    unfold KernelIdeal.embs
    rw [h0, h2, h4, h5]
    refine (KernelIdeal.embs_at _ _ _ _ _ s j).trans ?_
    rw [e0, e1, hdg, her]
  have hcin : ∀ k : Fin 16, KernelIdeal.cin m d (ValueIdx.ix2 r k) = vi (ValueIdx.ix2 r k) * ((w0 : EReal) * (dr r : EReal)) := by
    intro k
    unfold KernelIdeal.cin
    rw [h0, h2, h4]
    refine (KernelIdeal.cin_at _ _ _ _ r k).trans ?_
    rw [e0, e1, hdg]
  have hcit : ∀ k : Fin 16, KernelIdeal.cit m d (ValueIdx.ix2 r k) = vt (ValueIdx.ix2 r k) * ((w1 : EReal) * (dr r : EReal)) := by
    intro k
    unfold KernelIdeal.cit
    rw [h0, h2, h4]
    refine (KernelIdeal.cit_at _ _ _ _ r k).trans ?_
    rw [e0, e1, hdg]
  have hleft : ∀ k : Fin 16, KernelIdeal.gath m d (ValueIdx.ix3 (⟨k.val, by omega⟩ : Fin 32) r j) = (er (ValueIdx.ix2 (I r k) j) : EReal) * (dr (I r k) : EReal) := by
    intro k
    rw [KernelIdeal.gath_at m hin d, ← hembs]
    refine congrArg (fun s : Fin 4096 => KernelIdeal.embs m d (ValueIdx.ix2 s j)) (Fin.ext ?_)
    show (KernelIdeal.idxT m d _).toNat = (ii (ValueIdx.ix2 r k)).toNat
    rw [KernelIdeal.idxT_left m d k r, h1]
  have hright : ∀ k : Fin 16, KernelIdeal.gath m d (ValueIdx.ix3 (⟨16 + k.val, by omega⟩ : Fin 32) r j) = (er (ValueIdx.ix2 (J r k) j) : EReal) * (dr (J r k) : EReal) := by
    intro k
    rw [KernelIdeal.gath_at m hin d, ← hembs]
    refine congrArg (fun s : Fin 4096 => KernelIdeal.embs m d (ValueIdx.ix2 s j)) (Fin.ext ?_)
    show (KernelIdeal.idxT m d _).toNat = (it (ValueIdx.ix2 r k)).toNat
    rw [KernelIdeal.idxT_right m d k r, h3]
  have hhl : ∑ n : Fin 32, KernelIdeal.gath m d (ValueIdx.ix3 n r j) * KernelIdeal.coefT m d (ValueIdx.ix2 n r)
      = ∑ k : Fin 16, (er (ValueIdx.ix2 (I r k) j) : EReal) * (dr (I r k) : EReal) * (vi (ValueIdx.ix2 r k) * ((w0 : EReal) * (dr r : EReal)))
        + ∑ k : Fin 16, (er (ValueIdx.ix2 (J r k) j) : EReal) * (dr (J r k) : EReal) * (vt (ValueIdx.ix2 r k) * ((w1 : EReal) * (dr r : EReal))) := by
    refine (Fin.sum_univ_two_halves 16 16 rfl _).trans (congrArg₂ (· + ·) (Finset.sum_congr rfl fun k _ => ?_) (Finset.sum_congr rfl fun k _ => ?_))
    · rw [← hleft k, ← hcin k, ← KernelIdeal.coefT_left m d k r]
    · rw [← hright k, ← hcit k, ← KernelIdeal.coefT_right m d k r]
  rw [Ref.prop_at]
  unfold KernelIdeal.hrow
  rw [hhl, e0, e1]
  simp only [Ref.full_at, hmix, hscal, her, Ideal.ofBits_def, ht1, ht9]
  refine Eq.trans ?_ (Algebra.row w0 w1 (dr r) t1 t9 p9 (fun k => vi (ValueIdx.ix2 r k)) (fun k => vt (ValueIdx.ix2 r k)) (I r) (J r) dr
    (fun c => er (ValueIdx.ix2 c j)) (fun c => (w0 : EReal) * a (ValueIdx.ix2 r c) + (w1 : EReal) * b (ValueIdx.ix2 r c)) hv)
  refine Finset.sum_congr rfl fun c _ => ?_
  rw [Ref.mix_at, wts_eq, e0, e1]

/-- The two programs' means. -/
theorem means_eq (u : FVec Ideal Cert.ReferenceIdeal.S16384x64 .f32) (e : FVec Ideal Cert.ReferenceIdeal.S4096x64 .f32)
    (p q : FVec Ideal Cert.ReferenceIdeal.S2x20480x64 .f32) : Ref.means u e p q = KernelIdeal.means (F := Ideal) u e p q := by
  funext x
  obtain ⟨r, j, rfl⟩ : ∃ (r : Fin 20480) (j : Fin 64), x = ValueIdx.ix2 r j := ⟨x 0, x 1, ValueIdx.eq_ix2 x⟩
  refine (Ref.means_at u e p q r j).trans (Eq.trans ?_ (KernelIdeal.means_at u e p q (ValueIdx.ix2 r j)).symm)
  refine congrArg (fun y : EReal => y * ((3⁻¹ : ℝ) : EReal)) ?_
  exact (add_assoc (Ref.both u e (ValueIdx.ix2 r j) + Ref.layer p (ValueIdx.ix2 r j) : EReal) (Ref.part0 q (ValueIdx.ix2 r j)) (Ref.part1 q (ValueIdx.ix2 r j))).symm

/-- The two programs, from the same arguments, `degrees` holding, end with the same results. -/
theorem algebraic : Cert.algebraic_KernelIdeal_ReferenceIdeal_pre_degrees := by
  intro m g m' g' hpre hagree
  have hp := fun c => of_degrees _ _ _ _ _ _ _ _ _ _ _ (hpre c)
  have hin : KernelIdeal.ArgsIn m := fun d x => (hp d).1 x
  refine ⟨fun c => KernelIdeal.VB m c (Proc.devRef .tc Cert.KernelIdeal.main_v28), fun c => KernelIdeal.VB m c (Proc.devRef .tc Cert.KernelIdeal.main_v27), ?_, ?_⟩
  · exact (θ_run Cert.KernelIdeal.defs _ _).mono (fun _ h => h.1) (run_KernelIdeal m g hin)
  · refine (θ_run Cert.ReferenceIdeal.defs _ _).mono (fun r h c => ⟨(h c).1.trans ?_, (h c).2.1.trans ?_, (h c).2.2⟩)
      (Cert.ReferenceIdeal.Value.run (F := Ideal) m' g')
    · obtain ⟨a0, a1, a2, a3, a4, a5, a6, a7, a8, a9, a10⟩ := hagree c
      rw [a5, a8, a9, a10]
      refine Eq.trans ?_ (KernelIdeal.VB_users m c).symm
      rw [← means_eq]
      rfl
    · obtain ⟨a0, a1, a2, a3, a4, a5, a6, a7, a8, a9, a10⟩ := hagree c
      refine (Ref.res_eq m' c).trans ?_
      rw [a0, a1, a2, a3, a4, a5, a6, a7, a8, a9, a10, means_eq]
      refine Eq.trans ?_ (KernelIdeal.VB_out m c).symm
      funext x
      obtain ⟨i, j, rfl⟩ : ∃ (i : Fin 4096) (j : Fin 64), x = ValueIdx.ix2 i j := ⟨x 0, x 1, ValueIdx.eq_ix2 x⟩
      refine (Ref.outp_at _ _ i j).trans (Eq.trans ?_ (KernelIdeal.out_at _ _ _ _ _ _ _ i j).symm)
      have hrow := fun j => row_eq m hin c _ _ _ _ _ _ (m ((SparseCore.T c).loc Cert.KernelIdeal.main_arg6)) (m ((SparseCore.T c).loc Cert.KernelIdeal.main_arg7))
        rfl rfl rfl rfl rfl rfl (hp c).2.1 (hp c).2.2.1 (hp c).2.2.2 i j
      simp only [hrow]

/-! ## The frames of the reference -/

/-- The reference terminates, its arguments end unchanged and every counter at zero, as it has none. -/
theorem frame_Reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same, from a memory whose row sums aren't negative. -/
theorem frame_Reference_degrees : Cert.quiescent_ReferenceIdeal_pre_degrees := fun m ρ _ => frame_Reference m ρ trivial

end Cert.Proof

end
-- ==== Proof.Features.lean ====
/-
  The feature call, one description for every width of the raw features: each row through an affine map, divided by its own
  length.
-/
module

public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.PureOps.Ideal

@[expose] public section

noncomputable section

namespace Cert.Proof.Features

open Idealize.ShloMosaic Idealize.ShloMosaic.Tactic

/-- A row divided by its length. -/
def unit (l : Fin 64 → EReal) (q : Fin 64) : EReal := FloatOps.divf (F := Ideal) (φ := .f32) (l q) (FloatOps.sqrt (F := Ideal) (φ := .f32) (∑ k : Fin 64, l k * l k))

/-- A row through the affine map. -/
def affine {n : Nat} (x : Fin n → EReal) (w : FVec Ideal ⟨2, ![n, 64]⟩ .f32) (b : Fin 64 → EReal) (q : Fin 64) : EReal :=
  ∑ k : Fin n, x k * w (ValueIdx.ix2 k q) + b q

/-- The array of features. -/
def features {n : Nat} (x : FVec Ideal ⟨2, ![4096, n]⟩ .f32) (w : FVec Ideal ⟨2, ![n, 64]⟩ .f32) (b : FVec Ideal ⟨1, ![64]⟩ .f32) :
    FVec Ideal ⟨2, ![4096, 64]⟩ .f32 := fun i => unit (affine (fun k => x (ValueIdx.ix2 (i 0) k)) w (fun q => b (ValueIdx.ix1 q))) (i 1)

/-- Row `p` of block `t`. -/
abbrev rowOf (t : Fin 16) (p : Fin 256) : Fin 4096 := ⟨t.val * 256 + p.val, by omega⟩

/-- Block `t` of the rows. -/
abbrev rows {n : Nat} (x : FVec Ideal ⟨2, ![4096, n]⟩ .f32) (t : Fin 16) : FVec Ideal ⟨2, ![256, n]⟩ .f32 :=
  fun y => x (ValueIdx.ix2 (rowOf t (y 0)) (y 1))

/-- The bias as a row. -/
abbrev biasRow (b : FVec Ideal ⟨1, ![64]⟩ .f32) : FVec Ideal ⟨2, ![1, 64]⟩ .f32 := fun y => b (ValueIdx.ix1 (y 1))

theorem bias_reshaped (b : FVec Ideal ⟨1, ![64]⟩ .f32) (h : (⟨1, ![64]⟩ : Shape).ShapeCasts ⟨2, ![1, 64]⟩) :
    shapeCast ⟨2, ![1, 64]⟩ b h = biasRow b := by
  funext y
  obtain ⟨a, q, rfl⟩ : ∃ (a : Fin 1) (q : Fin 64), y = ValueIdx.ix2 a q := ⟨y 0, y 1, ValueIdx.eq_ix2 y⟩
  pointwise
  rfl

theorem ld_whole {a b : Nat} (h : ∀ d : Fin 2, (![0, 0] : Fin 2 → Nat) d + (⟨2, ![a, b]⟩ : Shape).size d ≤ (⟨2, ![a, b]⟩ : Shape).size d)
    (x : FVec Ideal ⟨2, ![a, b]⟩ .f32) :
    View.ld (Val := Elt Ideal) (e' := .f32) x (Rect.unit (s := ⟨2, ![a, b]⟩) ![0, 0] (⟨2, ![a, b]⟩ : Shape).size h) = x := by
  funext y
  refine congrArg x (funext fun d => Fin.ext ?_)
  match d with
  | ⟨0, _⟩ => show 0 + 1 * (y 0).val = (y 0).val; omega
  | ⟨1, _⟩ => show 0 + 1 * (y 1).val = (y 1).val; omega

theorem canon_whole {a b : Nat} (h : ∀ d : Fin 2, (![0, 0] : Fin 2 → Nat) d + (⟨2, ![a, b]⟩ : Shape).size d ≤ (⟨2, ![a, b]⟩ : Shape).size d)
    (v : FVec Ideal ⟨2, ![a, b]⟩ .f32) (y : (⟨2, ![a, b]⟩ : Shape).Idx) :
    View.canon (Val := Elt Ideal) (e := .f32) [⟨Rect.unit (s := ⟨2, ![a, b]⟩) ![0, 0] (⟨2, ![a, b]⟩ : Shape).size h, v⟩] y = v y := by
  have e : (Rect.unit (s := ⟨2, ![a, b]⟩) ![0, 0] (⟨2, ![a, b]⟩ : Shape).size h).idx y = y := funext fun d => Fin.ext (by
    match d with
    | ⟨0, _⟩ => show 0 + 1 * (y 0).val = (y 0).val; omega
    | ⟨1, _⟩ => show 0 + 1 * (y 1).val = (y 1).val; omega)
  conv_lhs => rw [← e]
  exact View.canon_cons_emb (Val := Elt Ideal) (e := .f32) (Rect.unit (s := ⟨2, ![a, b]⟩) ![0, 0] (⟨2, ![a, b]⟩ : Shape).size h) v [] y

end Cert.Proof.Features
end
-- ==== Proof.FeaturesImage.lean ====
/-
  The feature call at the width of the image features, and its reference.
-/
module

public import proofs.«01_k».proof.Proof.Features
public import proofs.«01_k».proof.Proof.Gen.ImageIdeal.Value
public import proofs.«01_k».proof.Proof.Gen.ImageReferenceIdeal.Run
public import proofs.«01_k».proof.Defs

@[expose] public section

set_option maxRecDepth 4000

noncomputable section

namespace Cert.Proof.Image

open Idealize.ShloMosaic Idealize.ShloMosaic.TcCoe Idealize.ShloMosaic.Tactic Idealize.SL.Sem
open Features

section
open Cert.ImageIdeal Cert.ImageIdeal.Gen

theorem pay_at (x : FVec Ideal S256x4096 .f32) (w : FVec Ideal S4096x64 .f32) (b : FVec Ideal S1x64 .f32) (p : Fin 256) (q : Fin 64) :
    k0_pay1 (F := Ideal) x w b (ValueIdx.ix2 p q) = unit (affine (fun k => x (ValueIdx.ix2 p k)) w (fun q => b (ValueIdx.ix2 0 q))) q := by
  unfold k0_pay1
  pointwise
  rfl

theorem block (x : FVec Ideal S4096x4096 .f32) (w : FVec Ideal S4096x64 .f32) (b : FVec Ideal S64 .f32) (t : Fin 16) (y : S256x64.Idx) :
    out0_3 (F := Ideal) (rows x t) w (biasRow b) y = features x w b (ValueIdx.ix2 (rowOf t (y 0)) (y 1)) := by
  unfold out0_3
  refine (canon_whole _ _ y).trans ?_
  rw [ld_whole, ld_whole, ld_whole]
  refine (congrArg (k0_pay1 (F := Ideal) (rows x t) w (biasRow b)) (ValueIdx.eq_ix2 y)).trans ?_
  exact pay_at _ _ _ _ _

theorem i_0 : ∀ t : Fin cfg0.N, win0_0.index t = ![t.val, 0] := by decide +kernel
theorem i_1 : ∀ t : Fin cfg0.N, win0_1.index t = ![0, 0] := by decide +kernel
theorem i_2 : ∀ t : Fin cfg0.N, win0_2.index t = ![0, 0] := by decide +kernel
theorem i_3 : ∀ t : Fin cfg0.N, win0_3.index t = ![t.val, 0] := by decide +kernel

variable (m : (ℓ : Loc nD τ sig) → Buf (Elt Ideal) ℓ)

theorem bias_row (c : Dev nD) : V m c main_v0 = biasRow (m ((c : Thread nD τ).loc main_arg2)) := by
  refine Eq.trans ?_ (bias_reshaped _ shapeCasts_S64_S1x64)
  unfold V hostOps0
  after_results <;> rfl

theorem blk0 (c : Dev nD) (t : Fin cfg0.N) : iblk m c 0 t = rows (m ((c : Thread nD τ).loc main_arg0)) t := by
  funext x
  blk_simp [iblk]
  refine congrArg (m ((c : Thread nD τ).loc main_arg0)) (funext fun a => Fin.ext ?_)
  match a with
  | ⟨0, _⟩ => (blk_simp [i_0] <;> rfl)
  | ⟨1, _⟩ => (blk_simp [i_0] <;> rfl)

theorem blk1 (c : Dev nD) (t : Fin cfg0.N) : iblk m c 1 t = m ((c : Thread nD τ).loc main_arg1) := by
  funext x
  blk_simp [iblk]
  refine congrArg (m ((c : Thread nD τ).loc main_arg1)) (funext fun a => Fin.ext ?_)
  match a with
  | ⟨0, _⟩ => blk_simp [i_1]
  | ⟨1, _⟩ => blk_simp [i_1]

theorem blk2 (c : Dev nD) (t : Fin cfg0.N) : iblk m c 2 t = biasRow (m ((c : Thread nD τ).loc main_arg2)) := by
  refine Eq.trans ?_ (bias_row m c)
  funext x
  blk_simp [iblk]
  refine congrArg (V m c main_v0) (funext fun a => Fin.ext ?_)
  match a with
  | ⟨0, _⟩ => blk_simp [i_2]
  | ⟨1, _⟩ => blk_simp [i_2]

theorem arr3 (c : Dev nD) : (dats m 0 c).arrAt 3 cfg0.N
    = features (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, blk0, blk1, blk2]
  have ey : (win0_3.blk t).view.emb y = (ValueIdx.ix2 (rowOf t (y 0)) (y 1) : S4096x64.Idx) := funext fun a => Fin.ext (by
    match a with
    | ⟨0, _⟩ => (blk_simp [i_3] <;> rfl)
    | ⟨1, _⟩ => (blk_simp [i_3] <;> rfl))
  rw [ey]
  exact block _ _ _ t y

end

section
open Cert.ImageReferenceIdeal Cert.ImageReferenceIdeal.Gen

abbrev refAffine (x : FVec Ideal S4096x4096 .f32) (w : FVec Ideal S4096x64 .f32) (b : FVec Ideal S64 .f32) : FVec Ideal S4096x64 .f32 :=
  addf (Host.dotGeneral dot_S4096x4096_S4096x64_S4096x64_1_0_0_1_n_n none x w) (broadcastInDim S4096x64 ![0, 1] bcast_S1x64_S4096x64_0_1 (broadcastInDim S1x64 ![1] bcast_S64_S1x64_1 b))

theorem ref_eq (x : FVec Ideal S4096x4096 .f32) (w : FVec Ideal S4096x64 .f32) (b : FVec Ideal S64 .f32) :
    Host.divf (refAffine x w b) (broadcastInDim S4096x64 ![0, 1] bcast_S4096x1_S4096x64_0_1 (Host.sqrt (broadcastInDim S4096x1 ![0] bcast_S4096_S4096x1_0
      (Host.reduceAdd (mulf (refAffine x w b) (refAffine x w b)) (constant S_ .f32 0x00000000#32) reducesTo_S4096x64_S4096_d1 h_S_)))) = features x w b := by
  funext i
  obtain ⟨r, q, rfl⟩ : ∃ (r : Fin 4096) (q : Fin 64), i = ValueIdx.ix2 r q := ⟨i 0, i 1, ValueIdx.eq_ix2 i⟩
  unfold refAffine
  pointwise
  rfl

end

/-- The two programs, from the same arguments, end with the same features. -/
theorem algebraic : Cert.algebraic_ImageIdeal_ImageReferenceIdeal := by
  intro m g m' g' hpre hagree
  refine ⟨fun c => features (m ((c.tc : Thread Cert.ImageIdeal.nD Cert.ImageIdeal.τ).loc Cert.ImageIdeal.main_arg0))
    (m ((c.tc : Thread Cert.ImageIdeal.nD Cert.ImageIdeal.τ).loc Cert.ImageIdeal.main_arg1))
    (m ((c.tc : Thread Cert.ImageIdeal.nD Cert.ImageIdeal.τ).loc Cert.ImageIdeal.main_arg2)), ?_, ?_⟩
  · exact (θ_run Cert.ImageIdeal.defs _ _).mono (fun _ h c => ⟨(h c).1.trans (arr3 m c), (h c).2⟩)
      (Cert.ImageIdeal.Value.run_blocks (F := Ideal) m g)
  · refine (θ_run Cert.ImageReferenceIdeal.defs _ _).mono (fun r h c => ⟨(h c).1.trans ?_, (h c).2⟩)
      (Cert.ImageReferenceIdeal.Value.run (F := Ideal) m' g')
    rw [(hagree c).1, (hagree c).2.1, (hagree c).2.2]
    exact ref_eq _ _ _

end Cert.Proof.Image

end
-- ==== Proof.FeaturesText.lean ====
/-
  The feature call at the width of the text features, and its reference.
-/
module

public import proofs.«01_k».proof.Proof.Features
public import proofs.«01_k».proof.Proof.Gen.TextIdeal.Value
public import proofs.«01_k».proof.Proof.Gen.TextReferenceIdeal.Run
public import proofs.«01_k».proof.Defs

@[expose] public section

set_option maxRecDepth 4000

noncomputable section

namespace Cert.Proof.Text

open Idealize.ShloMosaic Idealize.ShloMosaic.TcCoe Idealize.ShloMosaic.Tactic Idealize.SL.Sem
open Features

section
open Cert.TextIdeal Cert.TextIdeal.Gen

theorem pay_at (x : FVec Ideal S256x384 .f32) (w : FVec Ideal S384x64 .f32) (b : FVec Ideal S1x64 .f32) (p : Fin 256) (q : Fin 64) :
    k0_pay1 (F := Ideal) x w b (ValueIdx.ix2 p q) = unit (affine (fun k => x (ValueIdx.ix2 p k)) w (fun q => b (ValueIdx.ix2 0 q))) q := by
  unfold k0_pay1
  pointwise
  rfl

theorem block (x : FVec Ideal S4096x384 .f32) (w : FVec Ideal S384x64 .f32) (b : FVec Ideal S64 .f32) (t : Fin 16) (y : S256x64.Idx) :
    out0_3 (F := Ideal) (rows x t) w (biasRow b) y = features x w b (ValueIdx.ix2 (rowOf t (y 0)) (y 1)) := by
  unfold out0_3
  refine (canon_whole _ _ y).trans ?_
  rw [ld_whole, ld_whole, ld_whole]
  refine (congrArg (k0_pay1 (F := Ideal) (rows x t) w (biasRow b)) (ValueIdx.eq_ix2 y)).trans ?_
  exact pay_at _ _ _ _ _

theorem i_0 : ∀ t : Fin cfg0.N, win0_0.index t = ![t.val, 0] := by decide +kernel
theorem i_1 : ∀ t : Fin cfg0.N, win0_1.index t = ![0, 0] := by decide +kernel
theorem i_2 : ∀ t : Fin cfg0.N, win0_2.index t = ![0, 0] := by decide +kernel
theorem i_3 : ∀ t : Fin cfg0.N, win0_3.index t = ![t.val, 0] := by decide +kernel

variable (m : (ℓ : Loc nD τ sig) → Buf (Elt Ideal) ℓ)

theorem bias_row (c : Dev nD) : V m c main_v0 = biasRow (m ((c : Thread nD τ).loc main_arg2)) := by
  refine Eq.trans ?_ (bias_reshaped _ shapeCasts_S64_S1x64)
  unfold V hostOps0
  after_results <;> rfl

theorem blk0 (c : Dev nD) (t : Fin cfg0.N) : iblk m c 0 t = rows (m ((c : Thread nD τ).loc main_arg0)) t := by
  funext x
  blk_simp [iblk]
  refine congrArg (m ((c : Thread nD τ).loc main_arg0)) (funext fun a => Fin.ext ?_)
  match a with
  | ⟨0, _⟩ => (blk_simp [i_0] <;> rfl)
  | ⟨1, _⟩ => (blk_simp [i_0] <;> rfl)

theorem blk1 (c : Dev nD) (t : Fin cfg0.N) : iblk m c 1 t = m ((c : Thread nD τ).loc main_arg1) := by
  funext x
  blk_simp [iblk]
  refine congrArg (m ((c : Thread nD τ).loc main_arg1)) (funext fun a => Fin.ext ?_)
  match a with
  | ⟨0, _⟩ => blk_simp [i_1]
  | ⟨1, _⟩ => blk_simp [i_1]

theorem blk2 (c : Dev nD) (t : Fin cfg0.N) : iblk m c 2 t = biasRow (m ((c : Thread nD τ).loc main_arg2)) := by
  refine Eq.trans ?_ (bias_row m c)
  funext x
  blk_simp [iblk]
  refine congrArg (V m c main_v0) (funext fun a => Fin.ext ?_)
  match a with
  | ⟨0, _⟩ => blk_simp [i_2]
  | ⟨1, _⟩ => blk_simp [i_2]

theorem arr3 (c : Dev nD) : (dats m 0 c).arrAt 3 cfg0.N
    = features (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, blk0, blk1, blk2]
  have ey : (win0_3.blk t).view.emb y = (ValueIdx.ix2 (rowOf t (y 0)) (y 1) : S4096x64.Idx) := funext fun a => Fin.ext (by
    match a with
    | ⟨0, _⟩ => (blk_simp [i_3] <;> rfl)
    | ⟨1, _⟩ => (blk_simp [i_3] <;> rfl))
  rw [ey]
  exact block _ _ _ t y

end

section
open Cert.TextReferenceIdeal Cert.TextReferenceIdeal.Gen

abbrev refAffine (x : FVec Ideal S4096x384 .f32) (w : FVec Ideal S384x64 .f32) (b : FVec Ideal S64 .f32) : FVec Ideal S4096x64 .f32 :=
  addf (Host.dotGeneral dot_S4096x384_S384x64_S4096x64_1_0_0_1_n_n none x w) (broadcastInDim S4096x64 ![0, 1] bcast_S1x64_S4096x64_0_1 (broadcastInDim S1x64 ![1] bcast_S64_S1x64_1 b))

theorem ref_eq (x : FVec Ideal S4096x384 .f32) (w : FVec Ideal S384x64 .f32) (b : FVec Ideal S64 .f32) :
    Host.divf (refAffine x w b) (broadcastInDim S4096x64 ![0, 1] bcast_S4096x1_S4096x64_0_1 (Host.sqrt (broadcastInDim S4096x1 ![0] bcast_S4096_S4096x1_0
      (Host.reduceAdd (mulf (refAffine x w b) (refAffine x w b)) (constant S_ .f32 0x00000000#32) reducesTo_S4096x64_S4096_d1 h_S_)))) = features x w b := by
  funext i
  obtain ⟨r, q, rfl⟩ : ∃ (r : Fin 4096) (q : Fin 64), i = ValueIdx.ix2 r q := ⟨i 0, i 1, ValueIdx.eq_ix2 i⟩
  unfold refAffine
  pointwise
  rfl

end

/-- The two programs, from the same arguments, end with the same features. -/
theorem algebraic : Cert.algebraic_TextIdeal_TextReferenceIdeal := by
  intro m g m' g' hpre hagree
  refine ⟨fun c => features (m ((c.tc : Thread Cert.TextIdeal.nD Cert.TextIdeal.τ).loc Cert.TextIdeal.main_arg0))
    (m ((c.tc : Thread Cert.TextIdeal.nD Cert.TextIdeal.τ).loc Cert.TextIdeal.main_arg1))
    (m ((c.tc : Thread Cert.TextIdeal.nD Cert.TextIdeal.τ).loc Cert.TextIdeal.main_arg2)), ?_, ?_⟩
  · exact (θ_run Cert.TextIdeal.defs _ _).mono (fun _ h c => ⟨(h c).1.trans (arr3 m c), (h c).2⟩)
      (Cert.TextIdeal.Value.run_blocks (F := Ideal) m g)
  · refine (θ_run Cert.TextReferenceIdeal.defs _ _).mono (fun r h c => ⟨(h c).1.trans ?_, (h c).2⟩)
      (Cert.TextReferenceIdeal.Value.run (F := Ideal) m' g')
    rw [(hagree c).1, (hagree c).2.1, (hagree c).2.2]
    exact ref_eq _ _ _

end Cert.Proof.Text

end
-- ==== Proof.ListsRounds.lean ====
/-
  What a point of the nearest-items call leaves in its two blocks: ten rounds, each the greatest similarity after the last
  one taken and the first position that has it, each round's pair put in its column.
-/
module

public import proofs.«01_k».proof.Proof.Gen.ListsIdeal.Value
public import Idealize.ShloMosaic.Lib.Pipeline.ValueKit
public import Idealize.ShloMosaic.Lib.Pipeline.ReadBack

@[expose] public section

set_option maxRecDepth 4000

noncomputable section

namespace Cert.Proof.Lists

open Cert.ListsIdeal Cert.ListsIdeal.Gen
open Idealize.ShloMosaic Idealize.ShloMosaic.TcCoe Idealize.ShloMosaic.Tactic

variable {F : FTy → Type} [FloatOps F]

/-- The column of each entry of a block of similarities. -/
def col : IVec S256x4096 32 := iota .tc S256x4096 32 [1] iota_S256x4096_d1_w32

/-- The column of each entry of a block of lists. -/
def slot : IVec S256x16 32 := iota .tc S256x16 32 [1] iota_S256x16_d1_w32

/-- Which entries come after the pair last taken. -/
def left (s : FVec F S256x4096 .f32) (p : FVec F S256x1 .f32 × IVec S256x1 32) : IVec S256x4096 1 :=
  ori (cmpf .olt s (broadcastTo S256x4096 p.1 broadcasts_S256x1_S256x4096))
    (andi (cmpf .oeq s (broadcastTo S256x4096 p.1 broadcasts_S256x1_S256x4096)) (cmpi .sgt col (broadcastTo S256x4096 p.2 broadcasts_S256x1_S256x4096)))

/-- The greatest of those left in each row. -/
def greatest (s : FVec F S256x4096 .f32) (e : IVec S256x4096 1) : FVec F S256x1 .f32 :=
  shapeCast S256x1 (multiReduction .maximumf [1] S256 (select e s (broadcast S256x4096 (Scalar.ofBits .f32 0xC0000000#32))) 0xFF800000#32
    reduces_S256x4096_S256 (.inl rfl) rfl) shapeCasts_S256_S256x1

/-- Among those left, the columns that hold `m`; elsewhere a number past every column. -/
def holders (s : FVec F S256x4096 .f32) (e : IVec S256x4096 1) (m : FVec F S256x1 .f32) : IVec S256x4096 32 :=
  select (andi e (cmpf .oeq s (broadcastTo S256x4096 m broadcasts_S256x1_S256x4096))) col (broadcast S256x4096 4096#32)

/-- The least of each row. -/
def least (h : IVec S256x4096 32) : IVec S256x1 32 :=
  shapeCast S256x1 (multiReductionI .minsi [1] S256 h 2147483647#32 reduces_S256x4096_S256 rfl) shapeCasts_S256_S256x1

/-- One round: from the pair last taken, the pair taken next. -/
def next (s : FVec F S256x4096 .f32) (p : FVec F S256x1 .f32 × IVec S256x1 32) : FVec F S256x1 .f32 × IVec S256x1 32 :=
  (greatest s (left s p), least (holders s (left s p) (greatest s (left s p))))

/-- The pair taken after `k` rounds: before the first, one that every entry comes after. -/
def taken (s : FVec F S256x4096 .f32) : ℕ → FVec F S256x1 .f32 × IVec S256x1 32
  | 0 => (broadcast S256x1 (Scalar.ofBits .f32 0x7F800000#32), broadcast S256x1 4294967295#32)
  | k + 1 => next s (taken s k)

/-- `m` put in column `k` of a block of lists. -/
def put {α : Type} (k : ℕ) (m : S256x1.Idx → α) (v : S256x16.Idx → α) : S256x16.Idx → α :=
  select (cmpi .eq slot (broadcast S256x16 (BitVec.ofNat 32 k)))
    (broadcastTo S256x16 (shapeCast S256x1 m shapeCasts_S256x1_S256x1) broadcasts_S256x1_S256x16) v

/-- The block of values after `k` rounds. -/
def values (s : FVec F S256x4096 .f32) : ℕ → FVec F S256x16 .f32
  | 0 => broadcast S256x16 (Scalar.ofBits .f32 0x00000000#32)
  | k + 1 => put k (taken s (k + 1)).1 (values s k)

/-- The block of columns after `k` rounds. -/
def columns (s : FVec F S256x4096 .f32) : ℕ → IVec S256x16 32
  | 0 => broadcast S256x16 0#32
  | k + 1 => put k (taken s (k + 1)).2 (columns s k)

/-! ## The body's values are these -/

section

variable (s : FVec F S256x4096 .f32) (p : FVec F S256x1 .f32 × IVec S256x1 32)

/-- The three compares that `left` joins. -/
abbrev below : IVec S256x4096 1 := cmpf .olt s (broadcastTo S256x4096 p.1 broadcasts_S256x1_S256x4096)
abbrev same : IVec S256x4096 1 := cmpf .oeq s (broadcastTo S256x4096 p.1 broadcasts_S256x1_S256x4096)
abbrev later : IVec S256x4096 1 := cmpi .sgt col (broadcastTo S256x4096 p.2 broadcasts_S256x1_S256x4096)
/-- The entries left, the others at the number below all. -/
abbrev kept (e : IVec S256x4096 1) : FVec F S256x4096 .f32 := select e s (broadcast S256x4096 (Scalar.ofBits .f32 0xC0000000#32))

theorem next_fst : (next s p).1 = greatest s (left s p) := by simp only [next]

theorem next_snd : (next s p).2 = least (holders s (left s p) (next s p).1) := by simp only [next]

theorem next_eq : ((next s p).1, least (holders s (left s p) (next s p).1)) = next s p := by
  rw [← next_snd]

theorem taken_succ (k : ℕ) : taken s (k + 1) = next s (taken s k) := by simp only [taken]

theorem pay12 : k0_pay12 (below s p) (same s p) (later p) = left s p := by
  unfold k0_pay12; rfl

theorem pay13 : k0_pay13 s (below s p) (same s p) (later p) = (next s p).1 := by
  unfold k0_pay13; rw [pay12]; rw [next_fst]; rfl

theorem pay14 : k0_pay14 s col (below s p) (same s p) (later p) = (next s p).2 := by
  unfold k0_pay14; rw [pay12, pay13]; rw [next_snd]; rfl

theorem pay16 : k0_pay16 s col (below s p) (same s p) (later p) = left s (next s p) := by
  unfold k0_pay16; rw [pay13, pay14]; rfl

theorem pay17 : k0_pay17 s col (below s p) (same s p) (later p) = (next s (next s p)).1 := by
  unfold k0_pay17; rw [pay16]; rw [next_fst]; rfl

theorem pay18 : k0_pay18 s col (below s p) (same s p) (later p) = (next s (next s p)).2 := by
  unfold k0_pay18; rw [pay16, pay17]; rw [next_snd]; rfl

theorem put15 (v : IVec S256x16 32) : k0_pay15 s col slot v (below s p) (same s p) (later p) = put 1 (next s p).2 v := by
  unfold k0_pay15; rw [pay14]; rfl

theorem put19 (v : FVec F S256x16 .f32) : k0_pay19 s col slot v (below s p) (same s p) (later p) = put 2 (next s (next s p)).1 (put 1 (next s p).1 v) := by
  unfold k0_pay19; rw [pay13, pay17]; rfl

theorem pay21 : k0_pay21 s col p.1 p.2 = left s p := by
  unfold k0_pay21; rfl

theorem pay22 : k0_pay22 s col p.1 p.2 = (next s p).1 := by
  unfold k0_pay22; rw [pay21]; rw [next_fst]; rfl

theorem pay23 : k0_pay23 s col p.1 p.2 = (next s p).2 := by
  unfold k0_pay23; rw [pay21, pay22]; rw [next_snd]; rfl

theorem put24 (v : FVec F S256x16 .f32) : k0_pay24 s col slot p.1 p.2 v = put 3 (next s p).1 v := by
  unfold k0_pay24; rw [pay22]; rfl

theorem put25 (v : IVec S256x16 32) : k0_pay25 s col slot v p.1 p.2 k0_pay20 = put 3 (next s p).2 (put 2 p.2 v) := by
  unfold k0_pay25; rw [pay23]; rfl

theorem pay26 : k0_pay26 s col p.1 p.2 = left s (next s p) := by
  unfold k0_pay26; rw [pay22, pay23]; rfl

theorem pay27 : k0_pay27 s col p.1 p.2 = (next s (next s p)).1 := by
  unfold k0_pay27; rw [pay26]; rw [next_fst]; rfl

theorem pay28 : k0_pay28 s col p.1 p.2 = holders s (left s (next s p)) (next s (next s p)).1 := by
  unfold k0_pay28; rw [pay26, pay27]; rfl

theorem pay29 (h : IVec S256x4096 32) : k0_pay29 h = least h := by
  unfold k0_pay29; rfl

theorem pay30 (m : FVec F S256x1 .f32) (h : IVec S256x4096 32) : k0_pay30 s col m h = left s (m, least h) := by
  unfold k0_pay30; rw [pay29]; simp only [left]

theorem pay31 (m : FVec F S256x1 .f32) (h : IVec S256x4096 32) : k0_pay31 s col m h = (next s (m, least h)).1 := by
  unfold k0_pay31; rw [pay30]; rw [next_fst]; rfl

theorem pay32 (m : FVec F S256x1 .f32) (h : IVec S256x4096 32) : k0_pay32 s col m h = (next s (m, least h)).2 := by
  unfold k0_pay32; rw [pay30, pay31]; rw [next_snd]; rfl

theorem put33 (m : FVec F S256x1 .f32) (h : IVec S256x4096 32) (v : FVec F S256x16 .f32) : k0_pay33 s col slot v m h = put 5 (next s (m, least h)).1 (put 4 m v) := by
  unfold k0_pay33; rw [pay31]; rfl

theorem put34 (m : FVec F S256x1 .f32) (h : IVec S256x4096 32) (v : IVec S256x16 32) : k0_pay34 s col slot v m h = put 5 (next s (m, least h)).2 (put 4 (least h) v) := by
  unfold k0_pay34; rw [pay29, pay32]; rfl

theorem pay35 (m : FVec F S256x1 .f32) (h : IVec S256x4096 32) : k0_pay35 s col m h = left s (next s (m, least h)) := by
  unfold k0_pay35; rw [pay31, pay32]; rfl

theorem pay36 (m : FVec F S256x1 .f32) (h : IVec S256x4096 32) : k0_pay36 s col m h = kept s (left s (next s (m, least h))) := by
  unfold k0_pay36; rw [pay35]

theorem pay37 : k0_pay37 (kept s (left s p)) = (next s p).1 := by
  unfold k0_pay37; rw [next_fst]; rfl

theorem pay38 : k0_pay38 s col (left s p) (kept s (left s p)) = (next s p).2 := by
  unfold k0_pay38; rw [pay37]; rw [next_snd]; rfl

theorem pay39 : k0_pay39 s col (left s p) (kept s (left s p)) = left s (next s p) := by
  unfold k0_pay39; rw [pay37, pay38]; rfl

theorem pay40 : k0_pay40 s col (left s p) (kept s (left s p)) = (next s (next s p)).1 := by
  unfold k0_pay40; rw [pay39]; rw [next_fst]; rfl

theorem pay41 : k0_pay41 s col (left s p) (kept s (left s p)) = (next s (next s p)).2 := by
  unfold k0_pay41; rw [pay39, pay40]; rw [next_snd]; rfl

theorem put42 (v : FVec F S256x16 .f32) : k0_pay42 s col slot v (left s p) (kept s (left s p)) = put 7 (next s (next s p)).1 (put 6 (next s p).1 v) := by
  unfold k0_pay42; rw [pay37, pay40]; rfl

theorem put43 (v : IVec S256x16 32) : k0_pay43 s col slot v (left s p) (kept s (left s p)) = put 7 (next s (next s p)).2 (put 6 (next s p).2 v) := by
  unfold k0_pay43; rw [pay38, pay41]; rfl

theorem pay44 : k0_pay44 s col (left s p) (kept s (left s p)) = broadcastTo S256x4096 (next s (next s p)).1 broadcasts_S256x1_S256x4096 := by
  unfold k0_pay44; rw [pay40]

theorem pay45 : k0_pay45 s col p.1 p.2 (broadcastTo S256x4096 p.1 broadcasts_S256x1_S256x4096) = left s p := by
  unfold k0_pay45; rfl

theorem pay46 : k0_pay46 s col p.1 p.2 (broadcastTo S256x4096 p.1 broadcasts_S256x1_S256x4096) = (next s p).1 := by
  unfold k0_pay46; rw [pay45]; rw [next_fst]; rfl

theorem pay47 : k0_pay47 s col p.1 p.2 (broadcastTo S256x4096 p.1 broadcasts_S256x1_S256x4096) = (next s p).2 := by
  unfold k0_pay47; rw [pay45, pay46]; rw [next_snd]; rfl

theorem put48 (v : FVec F S256x16 .f32) : k0_pay48 s col slot p.1 p.2 v (broadcastTo S256x4096 p.1 broadcasts_S256x1_S256x4096) = put 8 (next s p).1 v := by
  unfold k0_pay48; rw [pay46]; rfl

theorem put49 (v : IVec S256x16 32) : k0_pay49 s col slot p.1 p.2 v (broadcastTo S256x4096 p.1 broadcasts_S256x1_S256x4096) = put 8 (next s p).2 v := by
  unfold k0_pay49; rw [pay47]; rfl

theorem pay50 : k0_pay50 s col p.1 p.2 (broadcastTo S256x4096 p.1 broadcasts_S256x1_S256x4096) = left s (next s p) := by
  unfold k0_pay50; rw [pay46, pay47]; rfl

theorem pay51 : k0_pay51 s col p.1 p.2 (broadcastTo S256x4096 p.1 broadcasts_S256x1_S256x4096) = (next s (next s p)).1 := by
  unfold k0_pay51; rw [pay50]; rw [next_fst]; rfl

theorem pay52 : k0_pay52 s col p.1 p.2 (broadcastTo S256x4096 p.1 broadcasts_S256x1_S256x4096) = (next s (next s p)).2 := by
  unfold k0_pay52; rw [pay50, pay51]; rw [next_snd]; rfl

theorem put1 (m : FVec F S256x1 .f32) (v : FVec F S256x16 .f32) : k0_pay1 v m (k0_pay53 slot) = put 9 m v := by rfl

theorem put2 (m : IVec S256x1 32) (v : IVec S256x16 32) : k0_pay2 slot v m = put 9 m v := by rfl

end

section

variable (x0 : Vec F S256x64 .f32) (x1 : Vec F S4096x64 .f32)

/-- The block's similarities. -/
abbrev sims : FVec F S256x4096 .f32 := k0_pay3 (View.ld x0 r0_0) (View.ld x1 r0_1)

/-- The pair taken in the point's round `k`. -/
abbrev pair (k : ℕ) : FVec F S256x1 .f32 × IVec S256x1 32 := taken (sims x0 x1) k

theorem pay4 : k0_pay4 (View.ld x0 r0_0) (View.ld x1 r0_1) = left (sims x0 x1) (pair x0 x1 0) := by rfl
theorem pay5 : k0_pay5 (View.ld x0 r0_0) (View.ld x1 r0_1) = (pair x0 x1 1).1 := by
  unfold k0_pay5; rw [pay4]; exact (next_fst _ _).symm
theorem pay6 : k0_pay6 (View.ld x0 r0_0) (View.ld x1 r0_1) = (pair x0 x1 1).2 := by
  unfold k0_pay6; rw [pay4, pay5]; exact (next_snd _ _).symm
theorem pay54 : k0_pay54 x0 x1 = col := by rfl
theorem pay55 : k0_pay55 x0 x1 = slot := by rfl
theorem pay56 : k0_pay56 x0 x1 = sims x0 x1 := by rfl
theorem pay57 : k0_pay57 x0 x1 = below (sims x0 x1) (pair x0 x1 1) := by
  unfold k0_pay57 k0_pay9; rw [pay5]
theorem pay58 : k0_pay58 x0 x1 = same (sims x0 x1) (pair x0 x1 1) := by
  unfold k0_pay58 k0_pay10; rw [pay5]
theorem pay59 : k0_pay59 x0 x1 = later (pair x0 x1 1) := by
  unfold k0_pay59 k0_pay11; rw [pay6]; rfl
theorem pay60 : k0_pay60 x0 x1 = (pair x0 x1 3).1 := by
  unfold k0_pay60; rw [pay54, pay56, pay57, pay58, pay59, pay17]; rfl
theorem pay61 : k0_pay61 x0 x1 = (pair x0 x1 3).2 := by
  unfold k0_pay61; rw [pay54, pay56, pay57, pay58, pay59, pay18]; rfl
theorem pay62 : k0_pay62 x0 x1 = (pair x0 x1 5).1 := by
  unfold k0_pay62; rw [pay54, pay56, pay60, pay61, pay27]; rfl
theorem pay63 : k0_pay63 x0 x1 = holders (sims x0 x1) (left (sims x0 x1) (pair x0 x1 4)) (pair x0 x1 5).1 := by
  unfold k0_pay63; rw [pay54, pay56, pay60, pay61, pay28]; rfl
/-- The fifth pair, from its value and the columns that hold it. -/
theorem pair5 : ((pair x0 x1 5).1, least (holders (sims x0 x1) (left (sims x0 x1) (pair x0 x1 4)) (pair x0 x1 5).1)) = pair x0 x1 5 := by
  rw [show pair x0 x1 5 = next (sims x0 x1) (pair x0 x1 4) from taken_succ _ 4]; exact next_eq _ _
theorem pair5_snd : least (holders (sims x0 x1) (left (sims x0 x1) (pair x0 x1 4)) (pair x0 x1 5).1) = (pair x0 x1 5).2 := by
  rw [show pair x0 x1 5 = next (sims x0 x1) (pair x0 x1 4) from taken_succ _ 4, ← next_snd]
theorem pay64 : k0_pay64 x0 x1 = left (sims x0 x1) (pair x0 x1 6) := by
  unfold k0_pay64; rw [pay54, pay56, pay62, pay63, pay35, pair5]; rfl
theorem pay65 : k0_pay65 x0 x1 = kept (sims x0 x1) (left (sims x0 x1) (pair x0 x1 6)) := by
  unfold k0_pay65; rw [pay54, pay56, pay62, pay63, pay36, pair5]; rfl
theorem pay66 : k0_pay66 x0 x1 = (pair x0 x1 8).1 := by
  unfold k0_pay66; rw [pay54, pay56, pay64, pay65, pay40]; rfl
theorem pay67 : k0_pay67 x0 x1 = (pair x0 x1 8).2 := by
  unfold k0_pay67; rw [pay54, pay56, pay64, pay65, pay41]; rfl
theorem pay68 : k0_pay68 x0 x1 = broadcastTo S256x4096 (pair x0 x1 8).1 broadcasts_S256x1_S256x4096 := by
  unfold k0_pay68; rw [pay54, pay56, pay64, pay65, pay44]; rfl
theorem pay7 : k0_pay7 (View.ld x0 r0_0) (View.ld x1 r0_1) = values (sims x0 x1) 1 := by
  unfold k0_pay7; rw [pay5]; rfl
theorem pay8 : k0_pay8 (View.ld x0 r0_0) (View.ld x1 r0_1) = columns (sims x0 x1) 1 := by
  unfold k0_pay8; rw [pay6]; rfl

/-- What the point leaves in its block of values. -/
theorem out2_eq : out0_2 x0 x1 = View.canon [⟨r0_2, values (sims x0 x1) 10⟩] := by
  unfold out0_2
  rw [pay54, pay55, pay56, pay57, pay58, pay59, pay60, pay61, pay62, pay63, pay64, pay65, pay66, pay67, pay68, pay7,
    put19, put24, put33, put42, put48, pay51, put1, pair5]
  simp only [pair, taken, values]

/-- What the point leaves in its block of columns. -/
theorem out3_eq : out0_3 x0 x1 = View.canon [⟨r0_2, columns (sims x0 x1) 10⟩] := by
  unfold out0_3
  rw [pay54, pay55, pay56, pay57, pay58, pay59, pay60, pay61, pay62, pay63, pay64, pay65, pay66, pay67, pay68, pay8,
    put15, put25, put34, put43, put49, pay52, put2, pair5, pair5_snd]
  simp only [pair, taken, columns]

end

end Cert.Proof.Lists

end
-- ==== Proof.Nearest.lean ====
/-
  The ten nearest of one row, taken by repeated maximum: if a round takes the greatest of the entries that come after the
  last one taken (by value, greater first, and then by position), and of the entries equal to it the first, then the
  rounds take what the stable sort puts first.
-/
module

public import Idealize.ShloMosaic.Lib.SortPrefix
public import Idealize.ShloMosaic.PureOps.Reduce
public import Idealize.ShloMosaic.PureOps.Ideal.Laws

@[expose] public section

noncomputable section

namespace Cert.Proof.Nearest

open Idealize.ShloMosaic

/-- A stable insertion sort of an ascending list asks its order only of a later element against an earlier one. -/
theorem stableSort_eq {n : Nat} (R R' : Fin n → Fin n → Bool) (h : ∀ a b : Fin n, a < b → R b a = R' b a) :
    ∀ l : List (Fin n), l.Pairwise (· < ·) → stableSort R l = stableSort R' l
  | [], _ => rfl
  | a :: l, hl => by
    rw [List.pairwise_cons] at hl
    unfold stableSort
    rw [stableSort_eq R R' h l hl.2]
    exact insertBefore_congr R R' a _ fun b hb => h a b (hl.1 b ((perm_stableSort R' l).mem_iff.mp hb))

theorem sortedFrom_eq {n : Nat} (R R' : Fin n → Fin n → Bool) (h : ∀ a b : Fin n, a < b → R b a = R' b a) :
    sortedFrom R = sortedFrom R' := by
  funext k
  have e : sortPositions n R = sortPositions n R' := stableSort_eq R R' h _ (List.pairwise_lt_finRange n)
  unfold sortedFrom
  rw [List.get_of_eq e]
  rfl

variable {n : Nat} (s : Fin n → EReal)

/-- `k` comes before `k'`: by value, the greater first, and then by position. -/
def Before (k k' : Fin n) : Bool := decide (s k' < s k) || (decide (s k = s k') && decide (k < k'))

theorem before_total : StrictTotalBefore (Before s) :=
  StrictTotalBefore.of_key_then_position (fun a b : EReal => decide (b < a)) s (fun a => by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)

theorem before_iff (k k' : Fin n) : Before s k k' = true ↔ s k' < s k ∨ (s k = s k' ∧ k < k') := by
  simp [Before]

/-- The position of the row's `k`-th greatest entry. -/
def place (k : Fin n) : Fin n := sortedFrom (Before s) k

/-- The sort by value alone puts the same entries in the same places. -/
theorem sortedFrom_gt : sortedFrom (fun k k' : Fin n => decide (s k' < s k)) = place s := by
  funext k
  show _ = sortedFrom (Before s) k
  refine congrFun (sortedFrom_eq _ _ fun a b hab => ?_) k
  have : ¬ b < a := not_lt.mpr hab.le
  simp [Before, this]

theorem place_before {i j : Fin n} (h : i < j) : Before s (place s i) (place s j) = true := by
  have hB := before_total s
  have hne : place s i ≠ place s j := fun e => h.ne (sortedFrom_injective _ e)
  have hn : Before s (place s j) (place s i) = false :=
    sortedFrom_noInversion (Before s) (Before s) (fun a b h => hB.asymm a b h) (fun _ _ h => h) hB.negTrans i j h
  rcases hB.total _ _ hne with h1 | h1
  · exact h1
  · rw [hn] at h1; exact absurd h1 (by decide)

/-- Of the entries after the `k`-th, the next in order is before every other. -/
theorem next_first {k k' : Fin n} (hk : k'.val = k.val + 1) (j : Fin n) (h : Before s (place s k) j = true) (hj : j ≠ place s k') :
    Before s (place s k') j = true := by
  obtain ⟨i, rfl⟩ := sortedFrom_surjective (Before s) j
  change Before s (place s k) (place s i) = true at h
  change place s i ≠ place s k' at hj
  change Before s (place s k') (place s i) = true
  have h1 : ¬ i ≤ k := fun hle => by
    rcases hle.lt_or_eq with hlt | rfl
    · have := (before_total s).asymm _ _ (place_before s hlt)
      rw [this] at h; exact absurd h (by decide)
    · rw [(before_total s).irrefl] at h; exact absurd h (by decide)
  have h2 : i ≠ k' := fun e => hj (by rw [e])
  refine place_before s (Fin.lt_def.mpr ?_)
  have h3 : k.val < i.val := Fin.lt_def.mp (not_le.mp h1)
  have h4 : i.val ≠ k'.val := fun e => h2 (Fin.ext e)
  omega

theorem zero_first (k : Fin n) (hk : k.val = 0) (j : Fin n) (hj : j ≠ place s k) : Before s (place s k) j = true := by
  obtain ⟨i, rfl⟩ := sortedFrom_surjective (Before s) j
  change place s i ≠ place s k at hj
  refine place_before s (Fin.lt_def.mpr ?_)
  have : i.val ≠ k.val := fun e => hj (by rw [Fin.ext e])
  omega

/-! ## One round: the greatest of the entries left, and the first of those equal to it -/

variable (E : Fin n → Prop) [DecidablePred E] (p : Fin n)

/-- The greatest of the entries left is the one before all others; those not left are read as a number below every entry. -/
theorem fold_max (low : EReal) (hlow : ∀ j, low ≤ s j) (hp : E p) (hb : ∀ j, E j → j ≠ p → Before s p j = true) :
    (Finset.univ : Finset (Fin n)).fold max (⊥ : EReal) (fun j => if E j then s j else low) = s p := by
  apply le_antisymm
  · rw [Finset.fold_max_le]
    refine ⟨bot_le, fun j _ => ?_⟩
    by_cases hj : E j
    · rw [if_pos hj]
      by_cases e : j = p
      · rw [e]
      · rcases (before_iff s p j).mp (hb j hj e) with h | h
        · exact h.le
        · exact h.1.ge
    · rw [if_neg hj]; exact hlow p
  · rw [Finset.le_fold_max]
    exact Or.inr ⟨p, Finset.mem_univ p, by rw [if_pos hp]⟩

theorem minsi_eq (a b : BitVec 32) : IntOp.minsi a b = if a.toInt ≤ b.toInt then a else b := by
  unfold IntOp.minsi
  rw [BitVec.slt_eq_decide]
  by_cases h : a.toInt < b.toInt
  · simp [h, h.le]
  · by_cases h' : a.toInt ≤ b.toInt
    · have e : a = b := BitVec.eq_of_toInt_eq (le_antisymm h' (not_lt.mp h))
      simp [e]
    · simp [h, h']

/-- The least of signed words: it is the word that is there and not above any. -/
theorem fold_min (b : BitVec 32) (f : Fin n → BitVec 32) (v : BitVec 32)
    (hb : v.toInt ≤ b.toInt) (hv : ∃ j, f j = v) (hf : ∀ j, v.toInt ≤ (f j).toInt) :
    (Finset.univ : Finset (Fin n)).fold IntOp.minsi b f = v := by
  obtain ⟨p, hp⟩ := hv
  have key : ∀ S : Finset (Fin n), v.toInt ≤ (S.fold IntOp.minsi b f).toInt ∧ (p ∈ S → S.fold IntOp.minsi b f = v) := by
    intro S
    induction S using Finset.induction_on with
    | empty => exact ⟨by simpa using hb, fun h => absurd h (Finset.notMem_empty p)⟩
    | insert a S ha ih =>
      rw [Finset.fold_insert ha, minsi_eq]
      have h1 := hf a
      refine ⟨by split <;> [exact h1; exact ih.1], fun hm => ?_⟩
      rcases Finset.mem_insert.mp hm with e | e
      · rw [← e, hp, if_pos ih.1]
      · rw [ih.2 e]
        split
        · next h => exact BitVec.eq_of_toInt_eq (le_antisymm h h1)
        · rfl
  exact (key Finset.univ).2 (Finset.mem_univ p)

end Cert.Proof.Nearest

end
-- ==== Proof.ListsRows.lean ====
/-
  What a point of the nearest-items call leaves, row by row: the ten greatest similarities and where they are.
-/
module

public import proofs.«01_k».proof.Proof.ListsRounds
public import proofs.«01_k».proof.Proof.Nearest
public import proofs.«01_k».proof.Proof.Softmax
public import Idealize.ShloMosaic.Lib.Pipeline.ValueKit

@[expose] public section

set_option maxRecDepth 4000

noncomputable section

namespace Cert.Proof.Lists

open Cert.ListsIdeal Cert.ListsIdeal.Gen
open Idealize.ShloMosaic Idealize.ShloMosaic.TcCoe Idealize.ShloMosaic.Tactic

variable (s : FVec Ideal S256x4096 .f32) (p : FVec Ideal S256x1 .f32 × IVec S256x1 32) (r : Fin 256)

/-- A row of similarities. -/
abbrev row : Fin 4096 → EReal := fun j => s (ValueIdx.ix2 r j)

theorem left_at (j : Fin 4096) : left s p (ValueIdx.ix2 r j)
    = IntOp.ori (Ideal.cmp .olt (row s r j) (p.1 (ValueIdx.ix2 r 0)))
      (IntOp.andi (Ideal.cmp .oeq (row s r j) (p.1 (ValueIdx.ix2 r 0))) (IntOp.cmpi .sgt (BitVec.ofNat 32 j) (p.2 (ValueIdx.ix2 r 0)))) := by
  unfold left col
  pointwise
  rfl

theorem greatest_at (e : IVec S256x4096 1) : greatest s e (ValueIdx.ix2 r 0)
    = (Finset.univ : Finset (Fin 4096)).fold max (Ideal.ofBits .f32 0xFF800000#32)
      fun j => if e (ValueIdx.ix2 r j) = 1#1 then row s r j else Ideal.ofBits .f32 0xC0000000#32 := by
  unfold greatest
  pointwise
  rfl

theorem holders_at (e : IVec S256x4096 1) (m : FVec Ideal S256x1 .f32) (j : Fin 4096) : holders s e m (ValueIdx.ix2 r j)
    = if IntOp.andi (e (ValueIdx.ix2 r j)) (Ideal.cmp .oeq (row s r j) (m (ValueIdx.ix2 r 0))) = 1#1 then BitVec.ofNat 32 j else 4096#32 := by
  unfold holders col
  pointwise
  rfl

theorem least_at (h : IVec S256x4096 32) : least h (ValueIdx.ix2 r 0)
    = (Finset.univ : Finset (Fin 4096)).fold IntOp.minsi 2147483647#32 fun j => h (ValueIdx.ix2 r j) := by
  unfold least
  pointwise
  rfl

theorem put_at {α : Type} (k : ℕ) (m : S256x1.Idx → α) (v : S256x16.Idx → α) (q : Fin 16) : put k m v (ValueIdx.ix2 r q)
    = if IntOp.cmpi .eq (BitVec.ofNat 32 q) (BitVec.ofNat 32 k) = 1#1 then m (ValueIdx.ix2 r 0) else v (ValueIdx.ix2 r q) := by
  unfold put slot
  pointwise
  rfl

theorem word_toInt (j : Fin 4096) : (BitVec.ofNat 32 j.val).toInt = j.val := by
  have hj := j.isLt
  rw [BitVec.toInt_eq_toNat_cond, BitVec.toNat_ofNat, Nat.mod_eq_of_lt (by omega)]
  rw [if_pos (by omega)]

theorem ofBool_one (b : Bool) : BitVec.ofBool b = 1#1 ↔ b = true := by cases b <;> decide

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

theorem olt_one (a b : EReal) : Ideal.cmp .olt a b = 1#1 ↔ a < b := by
  unfold Ideal.cmp; rw [ofBool_one, decide_eq_true_iff]

theorem oeq_one (a b : EReal) : Ideal.cmp .oeq a b = 1#1 ↔ a = b := by
  unfold Ideal.cmp; rw [ofBool_one, decide_eq_true_iff]

theorem sgt_one (a b : BitVec 32) : IntOp.cmpi .sgt a b = 1#1 ↔ b.toInt < a.toInt := by
  show BitVec.ofBool (b.slt a) = 1#1 ↔ _
  rw [ofBool_one, BitVec.slt_eq_decide, decide_eq_true_iff]

/-- Which entries of a row are left: those less than the value last taken, and of its equals those further on. -/
theorem left_iff (j : Fin 4096) : left s p (ValueIdx.ix2 r j) = 1#1
    ↔ row s r j < p.1 (ValueIdx.ix2 r 0) ∨ (row s r j = p.1 (ValueIdx.ix2 r 0) ∧ (p.2 (ValueIdx.ix2 r 0)).toInt < j.val) := by
  rw [left_at, or_one, and_one, olt_one, oeq_one, sgt_one, word_toInt]

/-- One round at a row: it takes the entry before all others of those left. -/
theorem next_at (hlow : ∀ j, Ideal.ofBits .f32 0xC0000000#32 ≤ row s r j) (q : Fin 4096) (hq : left s p (ValueIdx.ix2 r q) = 1#1)
    (hb : ∀ j, left s p (ValueIdx.ix2 r j) = 1#1 → j ≠ q → Nearest.Before (row s r) q j = true) :
    (next s p).1 (ValueIdx.ix2 r 0) = row s r q ∧ (next s p).2 (ValueIdx.ix2 r 0) = BitVec.ofNat 32 q.val := by
  have h1 : (next s p).1 (ValueIdx.ix2 r 0) = row s r q := by
    rw [next_fst, greatest_at, bot_word]
    exact Nearest.fold_max (row s r) (fun j => left s p (ValueIdx.ix2 r j) = 1#1) q _ hlow hq hb
  refine ⟨h1, ?_⟩
  rw [next_snd, least_at]
  have hv := word_toInt q
  have hl := q.isLt
  refine Nearest.fold_min _ _ _ ?_ ⟨q, ?_⟩ fun j => ?_
  · rw [hv]; show (q.val : ℤ) ≤ 2147483647; omega
  · rw [holders_at, if_pos]
    rw [and_one, oeq_one, h1]
    exact ⟨hq, rfl⟩
  · rw [hv, holders_at]
    by_cases hj : IntOp.andi (left s p (ValueIdx.ix2 r j)) (Ideal.cmp .oeq (row s r j) ((next s p).1 (ValueIdx.ix2 r 0))) = 1#1
    · rw [if_pos hj, word_toInt]
      rw [and_one, oeq_one, h1] at hj
      by_cases e : j = q
      · rw [e]
      · rcases (Nearest.before_iff _ q j).mp (hb j hj.1 e) with h | h
        · exact absurd hj.2 h.ne
        · exact_mod_cast (Fin.lt_def.mp h.2).le
    · rw [if_neg hj]; show (q.val : ℤ) ≤ 4096; omega

/-- The pair taken in round `k + 1` is the row's `k`-th greatest entry and where it is. -/
theorem taken_at (hlow : ∀ j, Ideal.ofBits .f32 0xC0000000#32 ≤ row s r j) : ∀ (k : ℕ) (hk : k < 4096),
    (taken s (k + 1)).1 (ValueIdx.ix2 r 0) = row s r (Nearest.place (row s r) ⟨k, hk⟩)
      ∧ (taken s (k + 1)).2 (ValueIdx.ix2 r 0) = BitVec.ofNat 32 (Nearest.place (row s r) ⟨k, hk⟩).val
  | 0, hk => by
    rw [taken_succ]
    have ht : ∀ j, left s (taken s 0) (ValueIdx.ix2 r j) = 1#1 := fun j => by
      rw [left_iff]
      have e1 : (taken s 0).1 (ValueIdx.ix2 r 0) = ⊤ := top_word
      have e2 : ((taken s 0).2 (ValueIdx.ix2 r 0)).toInt = -1 := by
        show (4294967295#32 : BitVec 32).toInt = -1
        decide
      rw [e1, e2]
      rcases lt_or_eq_of_le (le_top : row s r j ≤ ⊤) with h | h
      · exact Or.inl h
      · exact Or.inr ⟨h, by omega⟩
    exact next_at s _ r hlow _ (ht _) fun j _ hj => Nearest.zero_first _ _ rfl j hj
  | k + 1, hk => by
    rw [taken_succ]
    obtain ⟨e1, e2⟩ := taken_at hlow k (by omega)
    have hB := Nearest.before_total (row s r)
    have ht : ∀ j, left s (taken s (k + 1)) (ValueIdx.ix2 r j) = 1#1
        ↔ Nearest.Before (row s r) (Nearest.place (row s r) ⟨k, by omega⟩) j = true := fun j => by
      rw [left_iff, e1, e2, word_toInt, Nearest.before_iff]
      constructor
      · rintro (h | h)
        · exact Or.inl h
        · exact Or.inr ⟨h.1.symm, Fin.lt_def.mpr (by exact_mod_cast h.2)⟩
      · rintro (h | h)
        · exact Or.inl h
        · exact Or.inr ⟨h.1.symm, by exact_mod_cast Fin.lt_def.mp h.2⟩
    refine next_at s _ r hlow _ ((ht _).mpr (Nearest.place_before _ (Fin.lt_def.mpr ?_))) fun j h hj =>
      Nearest.next_first (row s r) (k := ⟨k, by omega⟩) (k' := ⟨k + 1, hk⟩) rfl j ((ht j).mp h) hj
    show k < k + 1
    omega

theorem put_nat {α : Type} (k : ℕ) (hk : k < 16) (m : S256x1.Idx → α) (v : S256x16.Idx → α) (q : Fin 16) : put k m v (ValueIdx.ix2 r q)
    = if q.val = k then m (ValueIdx.ix2 r 0) else v (ValueIdx.ix2 r q) := by
  rw [put_at]
  have : IntOp.cmpi .eq (BitVec.ofNat 32 q.val) (BitVec.ofNat 32 k) = 1#1 ↔ q.val = k := by
    show BitVec.ofBool (BitVec.ofNat 32 q.val == BitVec.ofNat 32 k) = 1#1 ↔ _
    rw [ofBool_one, beq_iff_eq, ← BitVec.toNat_inj, BitVec.toNat_ofNat, BitVec.toNat_ofNat]
    have := q.isLt
    omega
  simp only [this]

/-- What is put in the ten columns of a row, and the rest of it as it was. -/
theorem values_at : ∀ (k : ℕ) (hk : k ≤ 10) (q : Fin 16), values s k (ValueIdx.ix2 r q)
    = if q.val < k then (taken s (q.val + 1)).1 (ValueIdx.ix2 r 0) else Ideal.ofBits .f32 0x00000000#32
  | 0, _, q => by rw [if_neg (by omega)]; rfl
  | k + 1, hk, q => by
    show put k (taken s (k + 1)).1 (values s k) (ValueIdx.ix2 r q) = _
    rw [put_nat r k (by omega), values_at k (by omega) q]
    by_cases e : q.val = k
    · rw [if_pos e, if_pos (by omega), e]
    · rw [if_neg e]
      by_cases h : q.val < k
      · rw [if_pos h, if_pos (by omega)]
      · rw [if_neg h, if_neg (by omega)]

theorem columns_at : ∀ (k : ℕ) (hk : k ≤ 10) (q : Fin 16), columns s k (ValueIdx.ix2 r q)
    = if q.val < k then (taken s (q.val + 1)).2 (ValueIdx.ix2 r 0) else 0#32
  | 0, _, q => by rw [if_neg (by omega)]; rfl
  | k + 1, hk, q => by
    show put k (taken s (k + 1)).2 (columns s k) (ValueIdx.ix2 r q) = _
    rw [put_nat r k (by omega), columns_at k (by omega) q]
    by_cases e : q.val = k
    · rw [if_pos e, if_pos (by omega), e]
    · rw [if_neg e]
      by_cases h : q.val < k
      · rw [if_pos h, if_pos (by omega)]
      · rw [if_neg h, if_neg (by omega)]

/-- The block of values at a row. -/
theorem values_row (hlow : ∀ j, Ideal.ofBits .f32 0xC0000000#32 ≤ row s r j) (q : Fin 16) : values s 10 (ValueIdx.ix2 r q)
    = if h : q.val < 10 then row s r (Nearest.place (row s r) ⟨q.val, by omega⟩) else Ideal.ofBits .f32 0x00000000#32 := by
  rw [values_at s r 10 le_rfl]
  by_cases h : q.val < 10
  · rw [if_pos h, dif_pos h, (taken_at s r hlow q.val (by omega)).1]
  · rw [if_neg h, dif_neg h]

/-- The block of columns at a row. -/
theorem columns_row (hlow : ∀ j, Ideal.ofBits .f32 0xC0000000#32 ≤ row s r j) (q : Fin 16) : columns s 10 (ValueIdx.ix2 r q)
    = if h : q.val < 10 then BitVec.ofNat 32 (Nearest.place (row s r) ⟨q.val, by omega⟩).val else 0#32 := by
  rw [columns_at s r 10 le_rfl]
  by_cases h : q.val < 10
  · rw [if_pos h, dif_pos h, (taken_at s r hlow q.val (by omega)).2]
  · rw [if_neg h, dif_neg h]

end Cert.Proof.Lists

end
-- ==== Proof.ListsValue.lean ====
/-
  The nearest-items call's two arrays as whole arrays: at each row the ten greatest similarities, greater first and equal
  ones by position, and where they are; zeros in the six columns past them.
-/
module

public import proofs.«01_k».proof.Proof.ListsRows

@[expose] public section

set_option maxRecDepth 4000

noncomputable section

namespace Cert.Proof.Lists

open Cert.ListsIdeal Cert.ListsIdeal.Gen
open Idealize.ShloMosaic Idealize.ShloMosaic.TcCoe Idealize.ShloMosaic.Tactic

/-- The similarity of two rows. -/
def sim (x : FVec Ideal S4096x64 .f32) (r j : Fin 4096) : EReal := ∑ k : Fin 64, x (ValueIdx.ix2 r k) * x (ValueIdx.ix2 j k)

/-- Row `p` of block `t`. -/
abbrev rowOf (t : Fin 16) (p : Fin 256) : Fin 4096 := ⟨t.val * 256 + p.val, by omega⟩

/-- Block `t` of the rows. -/
abbrev rows (x : FVec Ideal S4096x64 .f32) (t : Fin 16) : FVec Ideal S256x64 .f32 := fun y => x (ValueIdx.ix2 (rowOf t (y 0)) (y 1))

theorem ld0 (x : FVec Ideal S256x64 .f32) : View.ld (Val := Elt Ideal) (e' := .f32) x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld1 (x : FVec Ideal S4096x64 .f32) : View.ld (Val := Elt Ideal) (e' := .f32) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem r2_idx (y : S256x16.Idx) : r0_2.idx y = y := funext fun a => Fin.ext (by
  match a with
  | ⟨0, _⟩ => show 0 + 1 * (y 0).val = (y 0).val; omega
  | ⟨1, _⟩ => show 0 + 1 * (y 1).val = (y 1).val; omega)

theorem sims_at (x : FVec Ideal S4096x64 .f32) (t : Fin 16) (p : Fin 256) (j : Fin 4096) :
    sims (F := Ideal) (rows x t) x (ValueIdx.ix2 p j) = sim x (rowOf t p) j := by
  unfold sims k0_pay3
  rw [ld0, ld1]
  pointwise
  rfl

theorem sims_row (x : FVec Ideal S4096x64 .f32) (t : Fin 16) (p : Fin 256) : row (sims (F := Ideal) (rows x t) x) p = sim x (rowOf t p) :=
  funext fun j => sims_at x t p j

theorem canon_out {e : EltTy} (v : S256x16.Idx → Elt Ideal e) (y : S256x16.Idx) :
    View.canon (Val := Elt Ideal) (e := e) [⟨r0_2, v⟩] y = v (ValueIdx.ix2 (y 0) (y 1)) := by
  conv_lhs => rw [← r2_idx y]
  exact (View.canon_cons_emb (Val := Elt Ideal) (e := e) r0_2 v [] y).trans (congrArg v (ValueIdx.eq_ix2 y))

/-- The array of values. -/
def valuesOut (x : FVec Ideal S4096x64 .f32) : FVec Ideal S4096x16 .f32 := fun i =>
  if h : (i 1).val < 10 then sim x (i 0) (Nearest.place (sim x (i 0)) ⟨(i 1).val, by omega⟩) else Ideal.ofBits .f32 0x00000000#32

/-- The array of columns. -/
def columnsOut (x : FVec Ideal S4096x64 .f32) : IVec S4096x16 32 := fun i =>
  if h : (i 1).val < 10 then BitVec.ofNat 32 (Nearest.place (sim x (i 0)) ⟨(i 1).val, by omega⟩).val else 0#32

theorem i_0 : ∀ t : Fin cfg0.N, win0_0.index t = ![t.val, 0] := by decide +kernel
theorem i_1 : ∀ t : Fin cfg0.N, win0_1.index t = ![0, 0] := by decide +kernel
theorem i_2 : ∀ t : Fin cfg0.N, win0_2.index t = ![t.val, 0] := by decide +kernel
theorem i_3 : ∀ t : Fin cfg0.N, win0_3.index t = ![t.val, 0] := by decide +kernel

variable (m : (ℓ : Loc nD τ sig) → Buf (Elt Ideal) ℓ)

theorem blk0 (c : Dev nD) (t : Fin cfg0.N) : iblk m c 0 t = rows (m ((c : Thread nD τ).loc main_arg0)) t := by
  funext x
  blk_simp [iblk]
  refine congrArg (m ((c : Thread nD τ).loc main_arg0)) (funext fun a => Fin.ext ?_)
  match a with
  | ⟨0, _⟩ => (blk_simp [i_0] <;> rfl)
  | ⟨1, _⟩ => (blk_simp [i_0] <;> rfl)

theorem blk1 (c : Dev nD) (t : Fin cfg0.N) : iblk m c 1 t = m ((c : Thread nD τ).loc main_arg0) := by
  funext x
  blk_simp [iblk]
  refine congrArg (m ((c : Thread nD τ).loc main_arg0)) (funext fun a => Fin.ext ?_)
  match a with
  | ⟨0, _⟩ => blk_simp [i_1]
  | ⟨1, _⟩ => blk_simp [i_1]

/-- What is asked of the rows: no similarity is below the number that stands for an entry already taken. -/
def Above (x : FVec Ideal S4096x64 .f32) : Prop := ∀ r j, Ideal.ofBits .f32 0xC0000000#32 ≤ sim x r j

theorem values_block (x : FVec Ideal S4096x64 .f32) (h : Above x) (t : Fin 16) (p : Fin 256) (q : Fin 16) :
    values (sims (F := Ideal) (rows x t) x) 10 (ValueIdx.ix2 p q) = valuesOut x (ValueIdx.ix2 (rowOf t p) q) := by
  rw [values_row _ _ (fun j => by rw [sims_row]; exact h _ j), sims_row]
  rfl

theorem columns_block (x : FVec Ideal S4096x64 .f32) (h : Above x) (t : Fin 16) (p : Fin 256) (q : Fin 16) :
    columns (sims (F := Ideal) (rows x t) x) 10 (ValueIdx.ix2 p q) = columnsOut x (ValueIdx.ix2 (rowOf t p) q) := by
  rw [columns_row _ _ (fun j => by rw [sims_row]; exact h _ j), sims_row]
  rfl

theorem arr2 (c : Dev nD) (h : Above (m ((c : Thread nD τ).loc main_arg0))) :
    (dats m 0 c).arrAt 2 cfg0.N = valuesOut (m ((c : Thread nD τ).loc main_arg0)) := by
  refine (dats m 0 c).arrAt_eq_of_covers 2 _ (by decide +kernel) fun t hf y => ?_
  blk_simp
  rw [after0_2, blk0, blk1, out2_eq]
  have ey : (win0_2.blk t).view.emb y = (ValueIdx.ix2 (rowOf t (y 0)) (y 1) : S4096x16.Idx) := funext fun a => Fin.ext (by
    match a with
    | ⟨0, _⟩ => (blk_simp [i_2] <;> rfl)
    | ⟨1, _⟩ => (blk_simp [i_2] <;> rfl))
  rw [ey]
  refine (canon_out _ y).trans ?_
  exact values_block _ h t (y 0) (y 1)

theorem arr3 (c : Dev nD) (h : Above (m ((c : Thread nD τ).loc main_arg0))) :
    (dats m 0 c).arrAt 3 cfg0.N = columnsOut (m ((c : Thread nD τ).loc main_arg0)) := by
  refine (dats m 0 c).arrAt_eq_of_covers 3 _ (by decide +kernel) fun t hf y => ?_
  blk_simp
  rw [after0_3, blk0, blk1, out3_eq]
  have ey : (win0_3.blk t).view.emb y = (ValueIdx.ix2 (rowOf t (y 0)) (y 1) : S4096x16.Idx) := funext fun a => Fin.ext (by
    match a with
    | ⟨0, _⟩ => (blk_simp [i_3] <;> rfl)
    | ⟨1, _⟩ => (blk_simp [i_3] <;> rfl))
  rw [ey]
  refine (canon_out _ y).trans ?_
  exact columns_block _ h t (y 0) (y 1)

end Cert.Proof.Lists

end
-- ==== Proof.ListsEquation.lean ====
/-
  The nearest-items call and its reference give the same arrays where no similarity is below -2.
-/
module

public import proofs.«01_k».proof.Proof.ListsValue
public import proofs.«01_k».proof.Proof.Gen.ListsReferenceIdeal.Run
public import proofs.«01_k».proof.Proof.Gen.Pre_similarities
public import proofs.«01_k».proof.Defs
public import proofs.«01_k».proof.Proof.Equation

@[expose] public section

set_option maxRecDepth 4000

noncomputable section

namespace Cert.Proof.Lists

open Cert.ListsReferenceIdeal Cert.ListsReferenceIdeal.Gen
open Idealize.ShloMosaic Idealize.ShloMosaic.TcCoe Idealize.ShloMosaic.Tactic

theorem along_eq (r j k : Fin 4096) : Shape.Idx.along (ValueIdx.ix2 r j : S4096x4096.Idx) (1 : Fin 2) k = ValueIdx.ix2 r k := by
  funext a
  match a with
  | ⟨0, _⟩ => rfl
  | ⟨1, _⟩ => rfl

theorem gt_eq (a b : EReal) : (FloatOps.cmpfTotal (F := Ideal) (φ := .f32) .gt a b == 1#1) = decide (b < a) := by
  show (Ideal.cmp .ogt a b == 1#1) = _
  show (BitVec.ofBool (decide (b < a)) == 1#1) = _
  generalize decide (b < a) = d
  revert d
  decide

/-- The stable sort of a row, greater first, carries both of its operands to the row's places. -/
theorem sort_at {β : Type} (X : FVec Ideal S4096x4096 .f32) (Y : S4096x4096.Idx → β) (r j : Fin 4096) :
    (Host.sort2 S4096x4096 1 (fun l r => FloatOps.cmpfTotal (F := Ideal) (φ := .f32) .gt l.1 r.1) X Y).1 (ValueIdx.ix2 r j)
        = X (ValueIdx.ix2 r (Nearest.place (fun k => X (ValueIdx.ix2 r k)) j))
      ∧ (Host.sort2 S4096x4096 1 (fun l r => FloatOps.cmpfTotal (F := Ideal) (φ := .f32) .gt l.1 r.1) X Y).2 (ValueIdx.ix2 r j)
        = Y (ValueIdx.ix2 r (Nearest.place (fun k => X (ValueIdx.ix2 r k)) j)) := by
  have e : (fun k k' : Fin 4096 => FloatOps.cmpfTotal (F := Ideal) (φ := .f32) .gt
      (X (Shape.Idx.along (ValueIdx.ix2 r j : S4096x4096.Idx) (1 : Fin 2) k)) (X (Shape.Idx.along (ValueIdx.ix2 r j : S4096x4096.Idx) (1 : Fin 2) k')) == 1#1)
      = fun k k' => decide (X (ValueIdx.ix2 r k') < X (ValueIdx.ix2 r k)) := by
    funext k k'
    rw [gt_eq, along_eq, along_eq]
  have e2 : sortedFrom (fun k k' : Fin 4096 => FloatOps.cmpfTotal (F := Ideal) (φ := .f32) .gt
      (X (Shape.Idx.along (ValueIdx.ix2 r j : S4096x4096.Idx) (1 : Fin 2) k)) (X (Shape.Idx.along (ValueIdx.ix2 r j : S4096x4096.Idx) (1 : Fin 2) k')) == 1#1) j
      = Nearest.place (fun k => X (ValueIdx.ix2 r k)) j := by
    rw [e]; exact congrFun (Nearest.sortedFrom_gt fun k => X (ValueIdx.ix2 r k)) j
  unfold Host.sort2
  rw [dif_pos (by decide)]
  have e3 := (along_eq r j _).trans (congrArg (fun k => (ValueIdx.ix2 r k : S4096x4096.Idx)) e2)
  exact ⟨congrArg X e3, congrArg Y e3⟩

theorem slice_idx (r : Fin 4096) (q : Fin 10) {α : Type} (x : S4096x4096.Idx → α) (h : S4096x4096.Slices (fun _ => 0) S4096x10) :
    extractStridedSlice S4096x10 (fun _ => 0) x h (ValueIdx.ix2 r q) = x (ValueIdx.ix2 r ⟨q.val, by omega⟩) := by
  unfold extractStridedSlice
  refine congrArg x (funext fun a => Fin.ext ?_)
  match a with
  | ⟨0, _⟩ => show 0 + r.val = r.val; omega
  | ⟨1, _⟩ => show 0 + q.val = q.val; omega

theorem topK_at (X : FVec Ideal S4096x4096 .f32) (h : S4096x4096.Slices (fun _ => 0) S4096x10) (r : Fin 4096) (q : Fin 10) :
    (Host.topK S4096x10 1 (FloatOps.cmpfTotal (F := Ideal) (φ := .f32) .gt) X h).1 (ValueIdx.ix2 r q)
        = X (ValueIdx.ix2 r (Nearest.place (fun k => X (ValueIdx.ix2 r k)) ⟨q.val, by omega⟩))
      ∧ (Host.topK S4096x10 1 (FloatOps.cmpfTotal (F := Ideal) (φ := .f32) .gt) X h).2 (ValueIdx.ix2 r q)
        = BitVec.ofNat 32 (Nearest.place (fun k => X (ValueIdx.ix2 r k)) ⟨q.val, by omega⟩).val := by
  constructor
  · exact (slice_idx r q _ h).trans (sort_at X (fun i => if hd : 1 < S4096x4096.rank then iotaInDim S4096x4096 32 ⟨1, hd⟩ i else 0#32) r _).1
  · exact (slice_idx r q _ h).trans (sort_at X (fun i => if hd : 1 < S4096x4096.rank then iotaInDim S4096x4096 32 ⟨1, hd⟩ i else 0#32) r _).2

theorem pad_at {α : Type} (x : S4096x10.Idx → α) (v : S_.Idx → α) (r : Fin 4096) (q : Fin 16) :
    pad S4096x16 ![0, 0] ![0, 6] ![0, 0] x v pads_S4096x10_S4096x16_000_060 h_S_ (ValueIdx.ix2 r q)
      = if h : q.val < 10 then x (ValueIdx.ix2 r ⟨q.val, h⟩) else v (Shape.Idx.first h_S_) := by
  by_cases h : q.val < 10
  · rw [dif_pos h]
    exact pad_apply_of_inside _ _ _ x v _ _ _ (ValueIdx.ix2 r ⟨q.val, h⟩) (fun a => by
      match a with
      | ⟨0, _⟩ => show r.val = 0 + r.val * (0 + 1); omega
      | ⟨1, _⟩ => show q.val = 0 + q.val * (0 + 1); omega)
  · rw [dif_neg h]
    exact pad_apply_of_not_inside _ _ _ x v _ _ _ (1 : Fin 2) (by
      rintro ⟨_, _, h3⟩
      have h4 : (q.val - 0) / (0 + 1) < 10 := h3
      omega)

/-- The reference's similarities. -/
abbrev refSims (x : FVec Ideal S4096x64 .f32) : FVec Ideal S4096x4096 .f32 :=
  Host.dotGeneral dot_S4096x64_S64x4096_S4096x4096_1_0_0_1_n_n none x (transpose S64x4096 [1, 0] x transposes_S4096x64_S64x4096_1_0)

theorem refSims_at (x : FVec Ideal S4096x64 .f32) (r j : Fin 4096) : refSims x (ValueIdx.ix2 r j) = sim x r j := by
  unfold refSims sim
  pointwise
  rfl

theorem zero_word : FloatOps.sitofp (F := Ideal) .f32 (0#32) = Ideal.ofBits .f32 0x00000000#32 := by
  show ((((0#32 : BitVec 32).toInt : ℤ) : ℝ) : EReal) = _
  simp [Ideal.ofBits, Ideal.ieee]

theorem refValues (x : FVec Ideal S4096x64 .f32) :
    pad S4096x16 ![0, 0] ![0, 6] ![0, 0] ((Host.topK S4096x10 1 (FloatOps.cmpfTotal .gt) (refSims x) sliceFits_S4096x4096_S4096x10).1)
      (sitofp .f32 (constantI S_ 32 0#32)) pads_S4096x10_S4096x16_000_060 h_S_ = valuesOut x := by
  funext i
  obtain ⟨r, q, rfl⟩ : ∃ (r : Fin 4096) (q : Fin 16), i = ValueIdx.ix2 r q := ⟨i 0, i 1, ValueIdx.eq_ix2 i⟩
  have hs : (fun k => refSims x (ValueIdx.ix2 r k)) = sim x r := funext fun k => refSims_at x r k
  rw [pad_at]
  show _ = if h : q.val < 10 then sim x r (Nearest.place (sim x r) ⟨q.val, by omega⟩) else _
  by_cases h : q.val < 10
  · rw [dif_pos h, dif_pos h, (topK_at _ _ r _).1, hs, refSims_at]
  · rw [dif_neg h, dif_neg h]
    exact zero_word

theorem refColumns (x : FVec Ideal S4096x64 .f32) :
    pad S4096x16 ![0, 0] ![0, 6] ![0, 0] ((Host.topK S4096x10 1 (FloatOps.cmpfTotal .gt) (refSims x) sliceFits_S4096x4096_S4096x10).2)
      (id (constantI S_ 32 0#32)) pads_S4096x10_S4096x16_000_060 h_S_ = columnsOut x := by
  funext i
  obtain ⟨r, q, rfl⟩ : ∃ (r : Fin 4096) (q : Fin 16), i = ValueIdx.ix2 r q := ⟨i 0, i 1, ValueIdx.eq_ix2 i⟩
  have hs : (fun k => refSims x (ValueIdx.ix2 r k)) = sim x r := funext fun k => refSims_at x r k
  rw [pad_at]
  show _ = if h : q.val < 10 then BitVec.ofNat 32 (Nearest.place (sim x r) ⟨q.val, by omega⟩).val else _
  by_cases h : q.val < 10
  · rw [dif_pos h, dif_pos h, (topK_at _ _ r _).2, hs]
  · rw [dif_neg h, dif_neg h]
    rfl

theorem le_of_cmp {a b : EReal} (h : Ideal.cmp .oge a b = 1#1) : b ≤ a := by
  unfold Ideal.cmp at h
  rw [ofBool_one, decide_eq_true_iff] at h
  exact h

/-- `similarities` holding: no similarity is below -2. -/
theorem of_similarities (x : FVec Ideal S4096x64 .f32) (h : Cert.Pre_similarities.fn (F := Ideal) x = fun _ => 1#1) : Above x := by
  have e := congrFun h (fun a => a.elim0)
  simp only [Cert.Pre_similarities.fn] at e
  intro r j
  have hr := Host.reduce_andi_all _ _ _ _ _ e (ValueIdx.ix2 r j)
  have hc := le_of_cmp hr
  refine le_trans ?_ (le_of_le_of_eq hc (refSims_at x r j))
  exact le_rfl

/-- The two programs, from the same rows, `similarities` holding, end with the same arrays. -/
theorem algebraic : Cert.algebraic_ListsIdeal_ListsReferenceIdeal_pre_similarities := by
  intro m g m' g' hpre hagree
  have hA := fun c => of_similarities _ (hpre c)
  refine ⟨fun c => valuesOut (m ((c.tc : Thread Cert.ListsIdeal.nD Cert.ListsIdeal.τ).loc Cert.ListsIdeal.main_arg0)),
    fun c => columnsOut (m ((c.tc : Thread Cert.ListsIdeal.nD Cert.ListsIdeal.τ).loc Cert.ListsIdeal.main_arg0)), ?_, ?_⟩
  · exact (θ_run Cert.ListsIdeal.defs _ _).mono (fun _ h c => ⟨(h c).1.trans (arr2 m c (hA c)), (h c).2.1.trans (arr3 m c (hA c)), (h c).2.2⟩)
      (Cert.ListsIdeal.Value.run_blocks (F := Ideal) m g)
  · refine (θ_run Cert.ListsReferenceIdeal.defs _ _).mono (fun r h c => ⟨(h c).1.trans ?_, (h c).2.1.trans ?_, (h c).2.2⟩)
      (Cert.ListsReferenceIdeal.Value.run (F := Ideal) m' g')
    · rw [hagree c]; exact refValues _
    · rw [hagree c]; exact refColumns _

end Cert.Proof.Lists

end
-- ==== Proof.lean ====
/- The claims about the propagated embeddings' means and the item branch, put together from the modules under Proof/: one gather task (Tile, Task), its launch
   (Launch), the four calls around it (Regions, Calls, Blocks), the whole program (Run), what it computes (Value), their twins
   over the extended reals (Ideal…), the results of the two programs read at an entry (IdealRead, RefRead, Softmax), the identity between them
   (Algebra), and the frames and the equation with the reference (Equation). Beside it the feature call at its two widths
   (Features, FeaturesImage, FeaturesText) and the nearest-items call (Nearest, Lists…). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_rows
public import proofs.«01_k».proof.Proof.Gen.Pre_degrees
public import proofs.«01_k».proof.Proof.Equation
public import proofs.«01_k».proof.Proof.Gen.Image.Frame
public import proofs.«01_k».proof.Proof.Gen.Text.Frame
public import proofs.«01_k».proof.Proof.Gen.Lists.Frame
public import proofs.«01_k».proof.Proof.FeaturesImage
public import proofs.«01_k».proof.Proof.FeaturesText
public import proofs.«01_k».proof.Proof.ListsEquation
public import Idealize.ShloMosaic.Adequacy
public import Idealize.ShloMosaic.Init

@[expose] public section

noncomputable section

namespace Cert.Proof

open Idealize.ShloMosaic Idealize.SL.Sem Cert.Kernel

/-- The constant the kernel multiplies by, read as a third: that is what the named constant is. -/
theorem preserved : Cert.preserves_Kernel_KernelIdeal := IdealRules.named_const.statement Cert.KernelIdeal.κ "third" .f32 0x3EAAAAAB#32 ((3⁻¹ : ℝ) : EReal) rfl

theorem frame_ImageReference : Cert.quiescent_ImageReferenceIdeal := fun m ρ _ =>
  (θ_run Cert.ImageReferenceIdeal.defs _ _).mono (fun r h => ⟨fun c => (h c).2, sem_eq_zero_of_no_sems (by decide) r.2⟩)
    (Cert.ImageReferenceIdeal.Value.run (F := Ideal) m ρ)

theorem frame_TextReference : Cert.quiescent_TextReferenceIdeal := fun m ρ _ =>
  (θ_run Cert.TextReferenceIdeal.defs _ _).mono (fun r h => ⟨fun c => (h c).2, sem_eq_zero_of_no_sems (by decide) r.2⟩)
    (Cert.TextReferenceIdeal.Value.run (F := Ideal) m ρ)

theorem frame_ListsReference : Cert.quiescent_ListsReferenceIdeal := fun m ρ _ =>
  (θ_run Cert.ListsReferenceIdeal.defs _ _).mono (fun r h => ⟨fun c => (h c).2.2, sem_eq_zero_of_no_sems (by decide) r.2⟩)
    (Cert.ListsReferenceIdeal.Value.run (F := Ideal) m ρ)

/-- Every claim of the certificate. Of the item branch: the frames of the kernel, of the kernel over the extended reals and of
    the reference, that the ideal program is the kernel but for the constant read as a third, and that kernel and reference
    compute the same user and item embeddings. Of the feature call at its two widths and of the nearest-items call: the
    frames, that the ideal program is the kernel, and that kernel and reference compute the same arrays. -/
theorem claim : Cert.Claim := ⟨Cert.Kernel.Gen.facts, Cert.KernelIdeal.Gen.facts, Cert.ReferenceIdeal.Gen.facts,
  Cert.Image.Gen.facts, Cert.ImageIdeal.Gen.facts, Cert.ImageReferenceIdeal.Gen.facts,
  Cert.Text.Gen.facts, Cert.TextIdeal.Gen.facts, Cert.TextReferenceIdeal.Gen.facts,
  Cert.Lists.Gen.facts, Cert.ListsIdeal.Gen.facts, Cert.ListsReferenceIdeal.Gen.facts,
  Cert.Pre_in_rows.Gen.facts, Cert.Pre_degrees.Gen.facts, Cert.Pre_similarities.Gen.facts,
  frame_Kernel, frame_KernelIdeal, frame_KernelIdeal_degrees, frame_Reference, frame_Reference_degrees,
  fun m ρ _ => Cert.Image.Gen.frame (F := Bits) m ρ, fun m ρ _ => Cert.ImageIdeal.Gen.frame (F := Ideal) m ρ, frame_ImageReference,
  fun m ρ _ => Cert.Text.Gen.frame (F := Bits) m ρ, fun m ρ _ => Cert.TextIdeal.Gen.frame (F := Ideal) m ρ, frame_TextReference,
  fun m ρ _ => Cert.Lists.Gen.frame (F := Bits) m ρ, fun m ρ _ => Cert.ListsIdeal.Gen.frame (F := Ideal) m ρ,
  fun m ρ _ => Cert.ListsIdeal.Gen.frame (F := Ideal) m ρ, frame_ListsReference, fun m ρ _ => frame_ListsReference m ρ trivial,
  preserved, algebraic, trivial, Image.algebraic, trivial, Text.algebraic, trivial, Lists.algebraic⟩

end Cert.Proof

end
